-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_draw_settled [hPre_draw_settled : Cert.Pre_draw_settled.Facts] (m : (ℓ : Loc Cert.KernelIdeal.nD Cert.KernelIdeal.τ Cert.KernelIdeal.sig) → Buf (Elt Ideal) ℓ) : Prop :=
  ∀ c : Dev Cert.KernelIdeal.nD,
    (Cert.Pre_draw_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_draw_settled [hPre_draw_settled : Cert.Pre_draw_settled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_draw_settled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_draw_settled [hKernelIdeal : Cert.KernelIdeal.Facts] [hPre_draw_settled : Cert.Pre_draw_settled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_draw_settled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_draw_settled [hReferenceIdeal : Cert.ReferenceIdeal.Facts] [hPre_draw_settled : Cert.Pre_draw_settled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_draw_settled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "pruned_sum" .f32 0x3F800000#32 ((9223372046078147683 / 9223372036854775808 : ℝ) : EReal)

def algebraic_KernelIdeal_ReferenceIdeal_pre_draw_settled [hKernelIdeal : Cert.KernelIdeal.Facts] [hReferenceIdeal : Cert.ReferenceIdeal.Facts] [hPre_draw_settled : Cert.Pre_draw_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_draw_settled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_draw_settled : Cert.Pre_draw_settled.Facts),
    quiescent_Kernel (hKernel := hKernel)
    ∧ quiescent_KernelIdeal (hKernelIdeal := hKernelIdeal)
    ∧ quiescent_KernelIdeal_pre_draw_settled (hKernelIdeal := hKernelIdeal) (hPre_draw_settled := hPre_draw_settled)
    ∧ quiescent_ReferenceIdeal (hReferenceIdeal := hReferenceIdeal)
    ∧ quiescent_ReferenceIdeal_pre_draw_settled (hReferenceIdeal := hReferenceIdeal) (hPre_draw_settled := hPre_draw_settled)
    ∧ preserves_Kernel_KernelIdeal
    ∧ algebraic_KernelIdeal_ReferenceIdeal_pre_draw_settled (hKernelIdeal := hKernelIdeal) (hReferenceIdeal := hReferenceIdeal) (hPre_draw_settled := hPre_draw_settled)
-- ==== Pre_draw_settled.lean ====
abbrev S32x4x1024 : Shape := ⟨3, ![32, 4, 1024]⟩
abbrev S1024x100000 : Shape := ⟨2, ![1024, 100000]⟩
abbrev S32x4x100000 : Shape := ⟨3, ![32, 4, 100000]⟩
abbrev S_ : Shape := ⟨0, ![]⟩
abbrev S32x4 : Shape := ⟨2, ![32, 4]⟩
abbrev S32x4x1 : Shape := ⟨3, ![32, 4, 1]⟩

class Facts : Prop where
  bcast_S_S32x4x1024 : S_.BroadcastsInDim S32x4x1024 (![] : Fin 0 → Fin S32x4x1024.rank)
  reducesTo_S32x4x1024_S_d0_1_2 : S32x4x1024.ReducesTo [0, 1, 2] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S32x4x100000 : S_.BroadcastsInDim S32x4x100000 (![] : Fin 0 → Fin S32x4x100000.rank)
  reducesTo_S32x4x100000_S_d0_1_2 : S32x4x100000.ReducesTo [0, 1, 2] S_
  reducesTo_S32x4x100000_S32x4_d2 : S32x4x100000.ReducesTo [2] S32x4
  bcast_S_S32x4 : S_.BroadcastsInDim S32x4 (![] : Fin 0 → Fin S32x4.rank)
  bcast_S32x4_S32x4x1_0_1 : S32x4.BroadcastsInDim S32x4x1 (![0, 1] : Fin 2 → Fin S32x4x1.rank)
  bcast_S32x4x1_S32x4x100000_0_1_2 : S32x4x1.BroadcastsInDim S32x4x100000 (![0, 1, 2] : Fin 3 → Fin S32x4x100000.rank)
  reducesTo_S32x4_S_d0_1 : S32x4.ReducesTo [0, 1] S_
  dot_S32x4x1024_S1024x100000_S32x4x100000_2_0_01_1_n_n_wf : DotDims.WF S32x4x1024 S1024x100000 S32x4x100000 [2] [0] [0, 1] [1] [] []

variable [Facts]

variable {F : FTy → Type} [FloatOps F]
def dot_S32x4x1024_S1024x100000_S32x4x100000_2_0_01_1_n_n : DotDims S32x4x1024 S1024x100000 S32x4x100000 where
  lhsContracting := [2]
  rhsContracting := [0]
  lhsNonContracting := [0, 1]
  rhsNonContracting := [1]
  lhsBatch := []
  rhsBatch := []
  wf := dot_S32x4x1024_S1024x100000_S32x4x100000_2_0_01_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_where {F : FTy → Type} [FloatOps F] (arg0 : IVec S32x4x1 1) (arg1 : FVec F S32x4x100000 .f32) (arg2 : FVec F S32x4x100000 .f32) : FVec F S32x4x100000 .f32 :=
  let v0 : IVec S32x4x100000 1 := broadcastInDim S32x4x100000 ![0, 1, 2] bcast_S32x4x1_S32x4x100000_0_1_2 arg0
  let v1 : FVec F S32x4x100000 .f32 := select v0 arg1 arg2
  v1

def fn_argmax {F : FTy → Type} [FloatOps F] (arg0 : FVec F S32x4x100000 .f32) : IVec S32x4 32 :=
  let v0 : IVec S32x4x100000 32 := iotaInDim S32x4x100000 32 2
  let cst : FVec F S_ .f32 := constant S_ .f32 0xFF800000#32
  let c : IVec S_ 32 := constantI S_ 32 0#32
  let v1_0 : FVec F S32x4 .f32 := (fun x y u v j => (Host.argReduce reducer_argmax_f32_i32 x y u v reducesTo_S32x4x100000_S32x4_d2 h_S_ j).1) arg0 v0 cst c
  let v1_1 : IVec S32x4 32 := (fun x y u v j => (Host.argReduce reducer_argmax_f32_i32 x y u v reducesTo_S32x4x100000_S32x4_d2 h_S_ j).2) arg0 v0 cst c
  v1_1

def fn_part3 {F : FTy → Type} [FloatOps F] (main_v53 : IVec S_ 1) (main_v54 : IVec S32x4 1) : IVec S_ 1 :=
  let main_c_15 : IVec S_ 1 := constantI S_ 1 1#1
  let main_v55 : IVec S_ 1 := (fun x v => Host.reduce IntOp.andi x v reducesTo_S32x4_S_d0_1 h_S_) main_v54 main_c_15
  let main_v56 : IVec S_ 1 := andi main_v53 main_v55
  main_v56

def fn_part2 {F : FTy → Type} [FloatOps F] (main_arg3 : FVec F S32x4x100000 .f32) (main_v13 : IVec S_ 1) (main_v19 : IVec S_ 1) (main_v31 : FVec F S32x4x100000 .f32) (main_v32 : FVec F S32x4x100000 .f32) (main_v34 : IVec S32x4x100000 1) : IVec S_ 1 :=
  let main_c_11 : IVec S_ 1 := constantI S_ 1 1#1
  let main_v35 : IVec S32x4 1 := (fun x v => Host.reduce IntOp.andi x v reducesTo_S32x4x100000_S32x4_d2 h_S_) main_v34 main_c_11
  let main_v36 : IVec S32x4x1 1 := broadcastInDim S32x4x1 ![0, 1] bcast_S32x4_S32x4x1_0_1 main_v35
  let main_cst_12 : FVec F S_ .f32 := constant S_ .f32 0x3F800000#32
  let main_v37 : FVec F S32x4x100000 .f32 := broadcastInDim S32x4x100000 ![] bcast_S_S32x4x100000 main_cst_12
  let main_v38 : FVec F S32x4x100000 .f32 := fn_where (F := F) main_v36 main_v37 main_v32
  let main_cst_13 : FVec F S_ .f32 := constant S_ .f32 0x283424DC#32
  let main_v39 : FVec F S32x4x100000 .f32 := broadcastInDim S32x4x100000 ![] bcast_S_S32x4x100000 main_cst_13
  let main_v40 : FVec F S32x4x100000 .f32 := addf main_v31 main_v39
  let main_v41 : FVec F S32x4x100000 .f32 := mulf main_v40 main_v38
  let main_cst_14 : FVec F S_ .f32 := constant S_ .f32 0x00000000#32
  let main_v42 : FVec F S32x4 .f32 := (fun x v => Host.reduceAdd x v reducesTo_S32x4x100000_S32x4_d2 h_S_) main_v41 main_cst_14
  let main_v43 : FVec F S32x4x1 .f32 := broadcastInDim S32x4x1 ![0, 1] bcast_S32x4_S32x4x1_0_1 main_v42
  let main_v44 : FVec F S32x4x100000 .f32 := broadcastInDim S32x4x100000 ![0, 1, 2] bcast_S32x4x1_S32x4x100000_0_1_2 main_v43
  let main_v45 : FVec F S32x4x100000 .f32 := Host.divf main_v41 main_v44
  let main_v46 : FVec F S32x4x100000 .f32 := mulf main_v31 main_v38
  let main_v47 : FVec F S32x4x100000 .f32 := Host.log main_v46
  let main_v48 : FVec F S32x4x100000 .f32 := addf main_v47 main_arg3
  let main_v49 : IVec S32x4 32 := fn_argmax (F := F) main_v48
  let main_v50 : FVec F S32x4x100000 .f32 := Host.log main_v45
  let main_v51 : FVec F S32x4x100000 .f32 := addf main_v50 main_arg3
  let main_v52 : IVec S32x4 32 := fn_argmax (F := F) main_v51
  let main_v53 : IVec S_ 1 := andi main_v13 main_v19
  let main_v54 : IVec S32x4 1 := cmpi .eq main_v49 main_v52
  fn_part3 (F := F) main_v53 main_v54

def fn_part1 {F : FTy → Type} [FloatOps F] (main_arg0 : FVec F S32x4x1024 .f32) (main_arg1 : FVec F S1024x100000 .f32) (main_arg2 : IVec S32x4x100000 32) (main_arg3 : FVec F S32x4x100000 .f32) (main_v13 : IVec S_ 1) (main_v15 : IVec S32x4x100000 1) (main_c_5 : IVec S_ 32) : IVec S_ 1 :=
  let main_v16 : IVec S32x4x100000 32 := broadcastInDim S32x4x100000 ![] bcast_S_S32x4x100000 main_c_5
  let main_v17 : IVec S32x4x100000 1 := cmpi .eq main_arg2 main_v16
  let main_v18 : IVec S32x4x100000 1 := ori main_v15 main_v17
  let main_c_6 : IVec S_ 1 := constantI S_ 1 1#1
  let main_v19 : IVec S_ 1 := (fun x v => Host.reduce IntOp.andi x v reducesTo_S32x4x100000_S_d0_1_2 h_S_) main_v18 main_c_6
  let main_v20 : FVec F S32x4x100000 .f32 := (fun l r => Host.dotGeneral dot_S32x4x1024_S1024x100000_S32x4x100000_2_0_01_1_n_n none l r) main_arg0 main_arg1
  let main_cst_7 : FVec F S_ .f32 := constant S_ .f32 0xFF800000#32
  let main_v21 : FVec F S32x4 .f32 := (fun x v => Host.reduce FloatOps.maximumf x v reducesTo_S32x4x100000_S32x4_d2 h_S_) main_v20 main_cst_7
  let main_cst_8 : FVec F S_ .f32 := constant S_ .f32 0xFF800000#32
  let main_v22 : FVec F S32x4 .f32 := broadcastInDim S32x4 ![] bcast_S_S32x4 main_cst_8
  let main_v23 : FVec F S32x4 .f32 := maximumf main_v22 main_v21
  let main_v24 : FVec F S32x4x1 .f32 := broadcastInDim S32x4x1 ![0, 1] bcast_S32x4_S32x4x1_0_1 main_v23
  let main_v25 : FVec F S32x4x100000 .f32 := broadcastInDim S32x4x100000 ![0, 1, 2] bcast_S32x4x1_S32x4x100000_0_1_2 main_v24
  let main_v26 : FVec F S32x4x100000 .f32 := subf main_v20 main_v25
  let main_v27 : FVec F S32x4x100000 .f32 := Host.exp main_v26
  let main_cst_9 : FVec F S_ .f32 := constant S_ .f32 0x00000000#32
  let main_v28 : FVec F S32x4 .f32 := (fun x v => Host.reduceAdd x v reducesTo_S32x4x100000_S32x4_d2 h_S_) main_v27 main_cst_9
  let main_v29 : FVec F S32x4x1 .f32 := broadcastInDim S32x4x1 ![0, 1] bcast_S32x4_S32x4x1_0_1 main_v28
  let main_v30 : FVec F S32x4x100000 .f32 := broadcastInDim S32x4x100000 ![0, 1, 2] bcast_S32x4x1_S32x4x100000_0_1_2 main_v29
  let main_v31 : FVec F S32x4x100000 .f32 := Host.divf main_v27 main_v30
  let main_v32 : FVec F S32x4x100000 .f32 := sitofp .f32 main_arg2
  let main_cst_10 : FVec F S_ .f32 := constant S_ .f32 0x00000000#32
  let main_v33 : FVec F S32x4x100000 .f32 := broadcastInDim S32x4x100000 ![] bcast_S_S32x4x100000 main_cst_10
  let main_v34 : IVec S32x4x100000 1 := cmpf .oeq main_v32 main_v33
  fn_part2 (F := F) main_arg3 main_v13 main_v19 main_v31 main_v32 main_v34

def fn {F : FTy → Type} [FloatOps F] (main_arg0 : FVec F S32x4x1024 .f32) (main_arg1 : FVec F S1024x100000 .f32) (main_arg2 : IVec S32x4x100000 32) (main_arg3 : FVec F S32x4x100000 .f32) : IVec S_ 1 :=
  let main_v0 : FVec F S32x4x1024 .f32 := Host.absf main_arg0
  let main_cst : FVec F S_ .f32 := constant S_ .f32 0x7F800000#32
  let main_v1 : FVec F S32x4x1024 .f32 := broadcastInDim S32x4x1024 ![] bcast_S_S32x4x1024 main_cst
  let main_v2 : IVec S32x4x1024 1 := cmpf .olt main_v0 main_v1
  let main_c : IVec S_ 1 := constantI S_ 1 1#1
  let main_v3 : IVec S_ 1 := (fun x v => Host.reduce IntOp.andi x v reducesTo_S32x4x1024_S_d0_1_2 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S32x4x100000 .f32 := Host.absf main_arg3
  let main_cst_2 : FVec F S_ .f32 := constant S_ .f32 0x7F800000#32
  let main_v10 : FVec F S32x4x100000 .f32 := broadcastInDim S32x4x100000 ![] bcast_S_S32x4x100000 main_cst_2
  let main_v11 : IVec S32x4x100000 1 := cmpf .olt main_v9 main_v10
  let main_c_3 : IVec S_ 1 := constantI S_ 1 1#1
  let main_v12 : IVec S_ 1 := (fun x v => Host.reduce IntOp.andi x v reducesTo_S32x4x100000_S_d0_1_2 h_S_) main_v11 main_c_3
  let main_v13 : IVec S_ 1 := andi main_v8 main_v12
  let main_c_4 : IVec S_ 32 := constantI S_ 32 0#32
  let main_v14 : IVec S32x4x100000 32 := broadcastInDim S32x4x100000 ![] bcast_S_S32x4x100000 main_c_4
  let main_v15 : IVec S32x4x100000 1 := cmpi .eq main_arg2 main_v14
  let main_c_5 : IVec S_ 32 := constantI S_ 32 1#32
  fn_part1 (F := F) main_arg0 main_arg1 main_arg2 main_arg3 main_v13 main_v15 main_c_5
-- ==== Kernel.lean ====
abbrev S32x4x1024 : Shape := ⟨3, ![32, 4, 1024]⟩
abbrev S1024x100000 : Shape := ⟨2, ![1024, 100000]⟩
abbrev S32x4x100000 : Shape := ⟨3, ![32, 4, 100000]⟩
abbrev S128x1024 : Shape := ⟨2, ![128, 1024]⟩
abbrev S128x100000 : Shape := ⟨2, ![128, 100000]⟩
abbrev S4x256x100000 : Shape := ⟨3, ![4, 256, 100000]⟩
abbrev S128x1 : Shape := ⟨2, ![128, 1]⟩
abbrev S128x8 : Shape := ⟨2, ![128, 8]⟩
abbrev S128x2 : Shape := ⟨2, ![128, 2]⟩
abbrev S1 : Shape := ⟨1, ![1]⟩
abbrev S4x256x1696 : Shape := ⟨3, ![4, 256, 1696]⟩
abbrev S128x1696 : Shape := ⟨2, ![128, 1696]⟩
abbrev S6 : Shape := ⟨1, ![6]⟩
abbrev S_ : Shape := ⟨0, ![]⟩
abbrev S1x256x1696 : Shape := ⟨3, ![1, 256, 1696]⟩
abbrev S256x1696 : Shape := ⟨2, ![256, 1696]⟩
abbrev S4x1x256x2048 : Shape := ⟨4, ![4, 1, 256, 2048]⟩
abbrev S4 : Shape := ⟨1, ![4]⟩
abbrev S4x128x2048 : Shape := ⟨3, ![4, 128, 2048]⟩
abbrev S1x1x256x2048 : Shape := ⟨4, ![1, 1, 256, 2048]⟩
abbrev S1x256x2048 : Shape := ⟨3, ![1, 256, 2048]⟩
abbrev S4x256x98304 : Shape := ⟨3, ![4, 256, 98304]⟩
abbrev S1x128x2048 : Shape := ⟨3, ![1, 128, 2048]⟩
abbrev S128x2048 : Shape := ⟨2, ![128, 2048]⟩
abbrev S128x98304 : Shape := ⟨2, ![128, 98304]⟩
abbrev S128x256 : Shape := ⟨2, ![128, 256]⟩
abbrev S256x2048 : Shape := ⟨2, ![256, 2048]⟩
abbrev S128 : Shape := ⟨1, ![128]⟩
abbrev S32x4 : Shape := ⟨2, ![32, 4]⟩

abbrev nBuf : Space → Nat
  | .hbm => 12
  | .vmem => 14
  | .smem => 1
  | _ => 0

abbrev bufTy : (tb : Table) → Fin (tcTables nBuf tb) → BufTy
  | .hbm, ⟨0, _⟩ => ⟨S32x4x1024, .f32⟩
  | .hbm, ⟨1, _⟩ => ⟨S1024x100000, .f32⟩
  | .hbm, ⟨2, _⟩ => ⟨S32x4x100000, .i32⟩
  | .hbm, ⟨3, _⟩ => ⟨S32x4x100000, .f32⟩
  | .hbm, ⟨4, _⟩ => ⟨S128x1024, .f32⟩
  | .hbm, ⟨5, _⟩ => ⟨S128x100000, .i32⟩
  | .hbm, ⟨6, _⟩ => ⟨S128x100000, .f32⟩
  | .hbm, ⟨7, _⟩ => ⟨S4x256x100000, .f32⟩
  | .hbm, ⟨8, _⟩ => ⟨S128x1, .f32⟩
  | .hbm, ⟨9, _⟩ => ⟨S128x1, .i32⟩
  | .hbm, ⟨10, _⟩ => ⟨S32x4, .f32⟩
  | .hbm, ⟨11, _⟩ => ⟨S32x4, .i32⟩
  | .local _ .vmem, ⟨0, _⟩ => ⟨S128x1024, .f32⟩
  | .local _ .vmem, ⟨1, _⟩ => ⟨S128x1, .f32⟩
  | .local _ .vmem, ⟨2, _⟩ => ⟨S128x1, .i32⟩
  | .local _ .vmem, ⟨3, _⟩ => ⟨S128x8, .f32⟩
  | .local _ .vmem, ⟨4, _⟩ => ⟨S128x2, .i32⟩
  | .local _ .vmem, ⟨5, _⟩ => ⟨S4x256x1696, .f32⟩
  | .local _ .vmem, ⟨6, _⟩ => ⟨S128x1696, .i32⟩
  | .local _ .vmem, ⟨7, _⟩ => ⟨S128x1696, .f32⟩
  | .local _ .vmem, ⟨8, _⟩ => ⟨S4x1x256x2048, .f32⟩
  | .local _ .vmem, ⟨9, _⟩ => ⟨S4x1x256x2048, .f32⟩
  | .local _ .vmem, ⟨10, _⟩ => ⟨S4x1x256x2048, .f32⟩
  | .local _ .vmem, ⟨11, _⟩ => ⟨S4x1x256x2048, .f32⟩
  | .local _ .vmem, ⟨12, _⟩ => ⟨S4x128x2048, .i32⟩
  | .local _ .vmem, ⟨13, _⟩ => ⟨S4x128x2048, .f32⟩
  | .local _ .smem, ⟨0, _⟩ => ⟨S1, .i32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scoped0 : Ref sig .tc := ⟨.vmem, 8, rfl⟩
abbrev cc0_scoped2 : Ref sig .tc := ⟨.vmem, 9, rfl⟩
abbrev cc0_scoped4 : Ref sig .tc := ⟨.vmem, 10, rfl⟩
abbrev cc0_scoped6 : Ref sig .tc := ⟨.vmem, 11, rfl⟩
abbrev cc0_scoped8 : Ref sig .tc := ⟨.vmem, 12, rfl⟩
abbrev cc0_scoped10 : Ref sig .tc := ⟨.vmem, 13, rfl⟩
abbrev cc0_scratch2 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_209_r0 : BitVec 32 := 0#32
  let c4_i32_210_r0 : BitVec 32 := 4#32
  let v271_r0 : BitVec 32 := Scalar.remui c0_i32_209_r0 c4_i32_210_r0
  ![v271_r0.toNat]
def k0_off2 : Fin 4 → Nat :=
  let c0_i32_209_r0 : BitVec 32 := 0#32
  let c4_i32_210_r0 : BitVec 32 := 4#32
  let v271_r0 : BitVec 32 := Scalar.remui c0_i32_209_r0 c4_i32_210_r0
  let c0_i32_211_r0 : BitVec 32 := 0#32
  let c0_i32_212_r0 : BitVec 32 := 0#32
  let c0_i32_213_r0 : BitVec 32 := 0#32
  ![v271_r0.toNat, 0, 0, 0]
def k0_off3 : Fin 3 → Nat :=
  let c0_i32_261_r0 : BitVec 32 := 0#32
  let c4_i32_262_r0 : BitVec 32 := 4#32
  let v303_r0 : BitVec 32 := Scalar.remui c0_i32_261_r0 c4_i32_262_r0
  let c0_i32_263_r0 : BitVec 32 := 0#32
  let c0_i32_264_r0 : BitVec 32 := 0#32
  ![v303_r0.toNat, 0, 0]
def k0_cond1 : BitVec 1 :=
  let true_282_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_281_r0 : BitVec 32 := 0#32
  let v319_r0 : BitVec 1 := Scalar.cmpi .ne v255_r0 c0_i32_281_r0
  let v320_r0 : BitVec 1 := Scalar.andi true_282_r0 v319_r0
  let true_283_r0 : BitVec 1 := 1#1
  let v321_r0 : BitVec 1 := Scalar.andi v320_r0 true_283_r0
  let v322_r0 : BitVec 32 := Scalar.extui v321_r0
  let c0_i32_284_r0 : BitVec 32 := 0#32
  let v323_r0 : BitVec 1 := Scalar.cmpi .ne v322_r0 c0_i32_284_r0
  v323_r0

def k0_off4 : Fin 1 → Nat :=
  let c0_i32_220_r0 : BitVec 32 := 0#32
  let c1_i32_221_r0 : BitVec 32 := 1#32
  let v278_r0 : BitVec 32 := Scalar.addi c0_i32_220_r0 c1_i32_221_r0
  let c4_i32_376_r0 : BitVec 32 := 4#32
  let v435_r0 : BitVec 32 := Scalar.remui v278_r0 c4_i32_376_r0
  ![v435_r0.toNat]
def k0_off5 : Fin 4 → Nat :=
  let c0_i32_220_r0 : BitVec 32 := 0#32
  let c1_i32_221_r0 : BitVec 32 := 1#32
  let v278_r0 : BitVec 32 := Scalar.addi c0_i32_220_r0 c1_i32_221_r0
  let c4_i32_376_r0 : BitVec 32 := 4#32
  let v435_r0 : BitVec 32 := Scalar.remui v278_r0 c4_i32_376_r0
  let c0_i32_377_r0 : BitVec 32 := 0#32
  let c0_i32_378_r0 : BitVec 32 := 0#32
  let c0_i32_379_r0 : BitVec 32 := 0#32
  ![v435_r0.toNat, 0, 0, 0]
def k0_off6 : Fin 3 → Nat :=
  let c0_i32_383_r0 : BitVec 32 := 0#32
  let c0_i32_384_r0 : BitVec 32 := 0#32
  let c2048_i32_r0 : BitVec 32 := 2048#32
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let v436_r0 : BitVec 32 := Scalar.muli c2048_i32_r0 v255_r0
  ![0, 0, v436_r0.toNat]
def k0_cond2 : BitVec 1 :=
  let true_287_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_286_r0 : BitVec 32 := 0#32
  let v326_r0 : BitVec 1 := Scalar.cmpi .ne v255_r0 c0_i32_286_r0
  let v327_r0 : BitVec 1 := Scalar.andi true_287_r0 v326_r0
  let true_288_r0 : BitVec 1 := 1#1
  let v328_r0 : BitVec 1 := Scalar.andi v327_r0 true_288_r0
  let v329_r0 : BitVec 32 := Scalar.extui v328_r0
  let c0_i32_289_r0 : BitVec 32 := 0#32
  let v330_r0 : BitVec 1 := Scalar.cmpi .ne v329_r0 c0_i32_289_r0
  v330_r0

def k0_off7 : Fin 1 → Nat :=
  let c0_i32_233_r0 : BitVec 32 := 0#32
  let c1_i32_234_r0 : BitVec 32 := 1#32
  let v286_r0 : BitVec 32 := Scalar.addi c0_i32_233_r0 c1_i32_234_r0
  let c4_i32_376_r0 : BitVec 32 := 4#32
  let v435_r0 : BitVec 32 := Scalar.remui v286_r0 c4_i32_376_r0
  ![v435_r0.toNat]
def k0_off8 : Fin 4 → Nat :=
  let c0_i32_233_r0 : BitVec 32 := 0#32
  let c1_i32_234_r0 : BitVec 32 := 1#32
  let v286_r0 : BitVec 32 := Scalar.addi c0_i32_233_r0 c1_i32_234_r0
  let c4_i32_376_r0 : BitVec 32 := 4#32
  let v435_r0 : BitVec 32 := Scalar.remui v286_r0 c4_i32_376_r0
  let c0_i32_377_r0 : BitVec 32 := 0#32
  let c0_i32_378_r0 : BitVec 32 := 0#32
  let c0_i32_379_r0 : BitVec 32 := 0#32
  ![v435_r0.toNat, 0, 0, 0]
def k0_off9 : Fin 3 → Nat :=
  let c1_i32_383_r0 : BitVec 32 := 1#32
  let c0_i32_384_r0 : BitVec 32 := 0#32
  let c2048_i32_r0 : BitVec 32 := 2048#32
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let v436_r0 : BitVec 32 := Scalar.muli c2048_i32_r0 v255_r0
  ![1, 0, v436_r0.toNat]
def k0_cond3 : BitVec 1 :=
  let true_292_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_291_r0 : BitVec 32 := 0#32
  let v333_r0 : BitVec 1 := Scalar.cmpi .ne v255_r0 c0_i32_291_r0
  let v334_r0 : BitVec 1 := Scalar.andi true_292_r0 v333_r0
  let true_293_r0 : BitVec 1 := 1#1
  let v335_r0 : BitVec 1 := Scalar.andi v334_r0 true_293_r0
  let v336_r0 : BitVec 32 := Scalar.extui v335_r0
  let c0_i32_294_r0 : BitVec 32 := 0#32
  let v337_r0 : BitVec 1 := Scalar.cmpi .ne v336_r0 c0_i32_294_r0
  v337_r0

def k0_off10 : Fin 1 → Nat :=
  let c0_i32_246_r0 : BitVec 32 := 0#32
  let c1_i32_247_r0 : BitVec 32 := 1#32
  let v294_r0 : BitVec 32 := Scalar.addi c0_i32_246_r0 c1_i32_247_r0
  let c4_i32_376_r0 : BitVec 32 := 4#32
  let v435_r0 : BitVec 32 := Scalar.remui v294_r0 c4_i32_376_r0
  ![v435_r0.toNat]
def k0_off11 : Fin 4 → Nat :=
  let c0_i32_246_r0 : BitVec 32 := 0#32
  let c1_i32_247_r0 : BitVec 32 := 1#32
  let v294_r0 : BitVec 32 := Scalar.addi c0_i32_246_r0 c1_i32_247_r0
  let c4_i32_376_r0 : BitVec 32 := 4#32
  let v435_r0 : BitVec 32 := Scalar.remui v294_r0 c4_i32_376_r0
  let c0_i32_377_r0 : BitVec 32 := 0#32
  let c0_i32_378_r0 : BitVec 32 := 0#32
  let c0_i32_379_r0 : BitVec 32 := 0#32
  ![v435_r0.toNat, 0, 0, 0]
def k0_off12 : Fin 3 → Nat :=
  let c2_i32_383_r0 : BitVec 32 := 2#32
  let c0_i32_384_r0 : BitVec 32 := 0#32
  let c2048_i32_r0 : BitVec 32 := 2048#32
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let v436_r0 : BitVec 32 := Scalar.muli c2048_i32_r0 v255_r0
  ![2, 0, v436_r0.toNat]
def k0_cond4 : BitVec 1 :=
  let true_297_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_296_r0 : BitVec 32 := 0#32
  let v340_r0 : BitVec 1 := Scalar.cmpi .ne v255_r0 c0_i32_296_r0
  let v341_r0 : BitVec 1 := Scalar.andi true_297_r0 v340_r0
  let true_298_r0 : BitVec 1 := 1#1
  let v342_r0 : BitVec 1 := Scalar.andi v341_r0 true_298_r0
  let v343_r0 : BitVec 32 := Scalar.extui v342_r0
  let c0_i32_299_r0 : BitVec 32 := 0#32
  let v344_r0 : BitVec 1 := Scalar.cmpi .ne v343_r0 c0_i32_299_r0
  v344_r0

def k0_off13 : Fin 1 → Nat :=
  let c0_i32_259_r0 : BitVec 32 := 0#32
  let c1_i32_260_r0 : BitVec 32 := 1#32
  let v302_r0 : BitVec 32 := Scalar.addi c0_i32_259_r0 c1_i32_260_r0
  let c4_i32_376_r0 : BitVec 32 := 4#32
  let v435_r0 : BitVec 32 := Scalar.remui v302_r0 c4_i32_376_r0
  ![v435_r0.toNat]
def k0_off14 : Fin 4 → Nat :=
  let c0_i32_259_r0 : BitVec 32 := 0#32
  let c1_i32_260_r0 : BitVec 32 := 1#32
  let v302_r0 : BitVec 32 := Scalar.addi c0_i32_259_r0 c1_i32_260_r0
  let c4_i32_376_r0 : BitVec 32 := 4#32
  let v435_r0 : BitVec 32 := Scalar.remui v302_r0 c4_i32_376_r0
  let c0_i32_377_r0 : BitVec 32 := 0#32
  let c0_i32_378_r0 : BitVec 32 := 0#32
  let c0_i32_379_r0 : BitVec 32 := 0#32
  ![v435_r0.toNat, 0, 0, 0]
def k0_off15 : Fin 3 → Nat :=
  let c3_i32_383_r0 : BitVec 32 := 3#32
  let c0_i32_384_r0 : BitVec 32 := 0#32
  let c2048_i32_r0 : BitVec 32 := 2048#32
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let v436_r0 : BitVec 32 := Scalar.muli c2048_i32_r0 v255_r0
  ![3, 0, v436_r0.toNat]
def k0_cond5 : BitVec 1 :=
  let true_302_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_301_r0 : BitVec 32 := 0#32
  let v347_r0 : BitVec 1 := Scalar.cmpi .ne v255_r0 c0_i32_301_r0
  let v348_r0 : BitVec 1 := Scalar.andi true_302_r0 v347_r0
  let true_303_r0 : BitVec 1 := 1#1
  let v349_r0 : BitVec 1 := Scalar.andi v348_r0 true_303_r0
  let v350_r0 : BitVec 32 := Scalar.extui v349_r0
  let c0_i32_304_r0 : BitVec 32 := 0#32
  let v351_r0 : BitVec 1 := Scalar.cmpi .ne v350_r0 c0_i32_304_r0
  v351_r0

def k0_off16 : Fin 1 → Nat :=
  let c0_i32_269_r0 : BitVec 32 := 0#32
  let c1_i32_270_r0 : BitVec 32 := 1#32
  let v310_r0 : BitVec 32 := Scalar.addi c0_i32_269_r0 c1_i32_270_r0
  let c4_i32_376_r0 : BitVec 32 := 4#32
  let v435_r0 : BitVec 32 := Scalar.remui v310_r0 c4_i32_376_r0
  ![v435_r0.toNat]
def k0_off17 : Fin 3 → Nat :=
  let c0_i32_269_r0 : BitVec 32 := 0#32
  let c1_i32_270_r0 : BitVec 32 := 1#32
  let v310_r0 : BitVec 32 := Scalar.addi c0_i32_269_r0 c1_i32_270_r0
  let c4_i32_376_r0 : BitVec 32 := 4#32
  let v435_r0 : BitVec 32 := Scalar.remui v310_r0 c4_i32_376_r0
  let c0_i32_377_r0 : BitVec 32 := 0#32
  let c0_i32_378_r0 : BitVec 32 := 0#32
  ![v435_r0.toNat, 0, 0]
def k0_off18 : Fin 2 → Nat :=
  let c0_i32_381_r0 : BitVec 32 := 0#32
  let c2048_i32_r0 : BitVec 32 := 2048#32
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let v436_r0 : BitVec 32 := Scalar.muli c2048_i32_r0 v255_r0
  ![0, v436_r0.toNat]
def k0_cond6 : BitVec 1 :=
  let true_307_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_306_r0 : BitVec 32 := 0#32
  let v354_r0 : BitVec 1 := Scalar.cmpi .ne v255_r0 c0_i32_306_r0
  let v355_r0 : BitVec 1 := Scalar.andi true_307_r0 v354_r0
  let true_308_r0 : BitVec 1 := 1#1
  let v356_r0 : BitVec 1 := Scalar.andi v355_r0 true_308_r0
  let v357_r0 : BitVec 32 := Scalar.extui v356_r0
  let c0_i32_309_r0 : BitVec 32 := 0#32
  let v358_r0 : BitVec 1 := Scalar.cmpi .ne v357_r0 c0_i32_309_r0
  v358_r0

def k0_off19 : Fin 1 → Nat :=
  let c0_i32_279_r0 : BitVec 32 := 0#32
  let c1_i32_280_r0 : BitVec 32 := 1#32
  let v318_r0 : BitVec 32 := Scalar.addi c0_i32_279_r0 c1_i32_280_r0
  let c4_i32_376_r0 : BitVec 32 := 4#32
  let v435_r0 : BitVec 32 := Scalar.remui v318_r0 c4_i32_376_r0
  ![v435_r0.toNat]
def k0_off20 : Fin 3 → Nat :=
  let c0_i32_279_r0 : BitVec 32 := 0#32
  let c1_i32_280_r0 : BitVec 32 := 1#32
  let v318_r0 : BitVec 32 := Scalar.addi c0_i32_279_r0 c1_i32_280_r0
  let c4_i32_376_r0 : BitVec 32 := 4#32
  let v435_r0 : BitVec 32 := Scalar.remui v318_r0 c4_i32_376_r0
  let c0_i32_377_r0 : BitVec 32 := 0#32
  let c0_i32_378_r0 : BitVec 32 := 0#32
  ![v435_r0.toNat, 0, 0]
def k0_off21 : Fin 2 → Nat :=
  let c0_i32_381_r0 : BitVec 32 := 0#32
  let c2048_i32_r0 : BitVec 32 := 2048#32
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let v436_r0 : BitVec 32 := Scalar.muli c2048_i32_r0 v255_r0
  ![0, v436_r0.toNat]
def k0_cond7 : BitVec 1 :=
  let true_311_r0 : BitVec 1 := 1#1
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let c0_i32_193_r0 : BitVec 32 := 0#32
  let v255_r0 : BitVec 32 := Scalar.addi v254_r0 c0_i32_193_r0
  let v361_r0 : BitVec 1 := Scalar.cmpi .ne v260_r0 v255_r0
  let v362_r0 : BitVec 1 := Scalar.andi true_311_r0 v361_r0
  let true_312_r0 : BitVec 1 := 1#1
  let v363_r0 : BitVec 1 := Scalar.andi v362_r0 true_312_r0
  let v364_r0 : BitVec 32 := Scalar.extui v363_r0
  let c0_i32_313_r0 : BitVec 32 := 0#32
  let v365_r0 : BitVec 1 := Scalar.cmpi .ne v364_r0 c0_i32_313_r0
  v365_r0

def k0_off22 : Fin 1 → Nat :=
  let true_282_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_281_r0 : BitVec 32 := 0#32
  let v319_r0 : BitVec 1 := Scalar.cmpi .ne v255_r0 c0_i32_281_r0
  let v320_r0 : BitVec 1 := Scalar.andi true_282_r0 v319_r0
  let c0_i32_220_r0 : BitVec 32 := 0#32
  let c1_i32_221_r0 : BitVec 32 := 1#32
  let v278_r0 : BitVec 32 := Scalar.addi c0_i32_220_r0 c1_i32_221_r0
  let c1_i32_285_r0 : BitVec 32 := 1#32
  let v324_r0 : BitVec 32 := Scalar.addi v278_r0 c1_i32_285_r0
  let v325_r0 : BitVec 32 := Scalar.select v320_r0 v324_r0 v278_r0
  let c4_i32_376_r0 : BitVec 32 := 4#32
  let v435_r0 : BitVec 32 := Scalar.remui v325_r0 c4_i32_376_r0
  ![v435_r0.toNat]
def k0_off23 : Fin 4 → Nat :=
  let true_282_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_281_r0 : BitVec 32 := 0#32
  let v319_r0 : BitVec 1 := Scalar.cmpi .ne v255_r0 c0_i32_281_r0
  let v320_r0 : BitVec 1 := Scalar.andi true_282_r0 v319_r0
  let c0_i32_220_r0 : BitVec 32 := 0#32
  let c1_i32_221_r0 : BitVec 32 := 1#32
  let v278_r0 : BitVec 32 := Scalar.addi c0_i32_220_r0 c1_i32_221_r0
  let c1_i32_285_r0 : BitVec 32 := 1#32
  let v324_r0 : BitVec 32 := Scalar.addi v278_r0 c1_i32_285_r0
  let v325_r0 : BitVec 32 := Scalar.select v320_r0 v324_r0 v278_r0
  let c4_i32_376_r0 : BitVec 32 := 4#32
  let v435_r0 : BitVec 32 := Scalar.remui v325_r0 c4_i32_376_r0
  let c0_i32_377_r0 : BitVec 32 := 0#32
  let c0_i32_378_r0 : BitVec 32 := 0#32
  let c0_i32_379_r0 : BitVec 32 := 0#32
  ![v435_r0.toNat, 0, 0, 0]
def k0_off24 : Fin 3 → Nat :=
  let c0_i32_383_r0 : BitVec 32 := 0#32
  let c0_i32_384_r0 : BitVec 32 := 0#32
  let c2048_i32_r0 : BitVec 32 := 2048#32
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let v436_r0 : BitVec 32 := Scalar.muli c2048_i32_r0 v260_r0
  ![0, 0, v436_r0.toNat]
def k0_cond8 : BitVec 1 :=
  let true_315_r0 : BitVec 1 := 1#1
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let c0_i32_193_r0 : BitVec 32 := 0#32
  let v255_r0 : BitVec 32 := Scalar.addi v254_r0 c0_i32_193_r0
  let v368_r0 : BitVec 1 := Scalar.cmpi .ne v260_r0 v255_r0
  let v369_r0 : BitVec 1 := Scalar.andi true_315_r0 v368_r0
  let true_316_r0 : BitVec 1 := 1#1
  let v370_r0 : BitVec 1 := Scalar.andi v369_r0 true_316_r0
  let v371_r0 : BitVec 32 := Scalar.extui v370_r0
  let c0_i32_317_r0 : BitVec 32 := 0#32
  let v372_r0 : BitVec 1 := Scalar.cmpi .ne v371_r0 c0_i32_317_r0
  v372_r0

def k0_off25 : Fin 1 → Nat :=
  let true_287_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_286_r0 : BitVec 32 := 0#32
  let v326_r0 : BitVec 1 := Scalar.cmpi .ne v255_r0 c0_i32_286_r0
  let v327_r0 : BitVec 1 := Scalar.andi true_287_r0 v326_r0
  let c0_i32_233_r0 : BitVec 32 := 0#32
  let c1_i32_234_r0 : BitVec 32 := 1#32
  let v286_r0 : BitVec 32 := Scalar.addi c0_i32_233_r0 c1_i32_234_r0
  let c1_i32_290_r0 : BitVec 32 := 1#32
  let v331_r0 : BitVec 32 := Scalar.addi v286_r0 c1_i32_290_r0
  let v332_r0 : BitVec 32 := Scalar.select v327_r0 v331_r0 v286_r0
  let c4_i32_376_r0 : BitVec 32 := 4#32
  let v435_r0 : BitVec 32 := Scalar.remui v332_r0 c4_i32_376_r0
  ![v435_r0.toNat]
def k0_off26 : Fin 4 → Nat :=
  let true_287_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_286_r0 : BitVec 32 := 0#32
  let v326_r0 : BitVec 1 := Scalar.cmpi .ne v255_r0 c0_i32_286_r0
  let v327_r0 : BitVec 1 := Scalar.andi true_287_r0 v326_r0
  let c0_i32_233_r0 : BitVec 32 := 0#32
  let c1_i32_234_r0 : BitVec 32 := 1#32
  let v286_r0 : BitVec 32 := Scalar.addi c0_i32_233_r0 c1_i32_234_r0
  let c1_i32_290_r0 : BitVec 32 := 1#32
  let v331_r0 : BitVec 32 := Scalar.addi v286_r0 c1_i32_290_r0
  let v332_r0 : BitVec 32 := Scalar.select v327_r0 v331_r0 v286_r0
  let c4_i32_376_r0 : BitVec 32 := 4#32
  let v435_r0 : BitVec 32 := Scalar.remui v332_r0 c4_i32_376_r0
  let c0_i32_377_r0 : BitVec 32 := 0#32
  let c0_i32_378_r0 : BitVec 32 := 0#32
  let c0_i32_379_r0 : BitVec 32 := 0#32
  ![v435_r0.toNat, 0, 0, 0]
def k0_off27 : Fin 3 → Nat :=
  let c1_i32_383_r0 : BitVec 32 := 1#32
  let c0_i32_384_r0 : BitVec 32 := 0#32
  let c2048_i32_r0 : BitVec 32 := 2048#32
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let v436_r0 : BitVec 32 := Scalar.muli c2048_i32_r0 v260_r0
  ![1, 0, v436_r0.toNat]
def k0_cond9 : BitVec 1 :=
  let true_319_r0 : BitVec 1 := 1#1
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let c0_i32_193_r0 : BitVec 32 := 0#32
  let v255_r0 : BitVec 32 := Scalar.addi v254_r0 c0_i32_193_r0
  let v375_r0 : BitVec 1 := Scalar.cmpi .ne v260_r0 v255_r0
  let v376_r0 : BitVec 1 := Scalar.andi true_319_r0 v375_r0
  let true_320_r0 : BitVec 1 := 1#1
  let v377_r0 : BitVec 1 := Scalar.andi v376_r0 true_320_r0
  let v378_r0 : BitVec 32 := Scalar.extui v377_r0
  let c0_i32_321_r0 : BitVec 32 := 0#32
  let v379_r0 : BitVec 1 := Scalar.cmpi .ne v378_r0 c0_i32_321_r0
  v379_r0

def k0_off28 : Fin 1 → Nat :=
  let true_292_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_291_r0 : BitVec 32 := 0#32
  let v333_r0 : BitVec 1 := Scalar.cmpi .ne v255_r0 c0_i32_291_r0
  let v334_r0 : BitVec 1 := Scalar.andi true_292_r0 v333_r0
  let c0_i32_246_r0 : BitVec 32 := 0#32
  let c1_i32_247_r0 : BitVec 32 := 1#32
  let v294_r0 : BitVec 32 := Scalar.addi c0_i32_246_r0 c1_i32_247_r0
  let c1_i32_295_r0 : BitVec 32 := 1#32
  let v338_r0 : BitVec 32 := Scalar.addi v294_r0 c1_i32_295_r0
  let v339_r0 : BitVec 32 := Scalar.select v334_r0 v338_r0 v294_r0
  let c4_i32_376_r0 : BitVec 32 := 4#32
  let v435_r0 : BitVec 32 := Scalar.remui v339_r0 c4_i32_376_r0
  ![v435_r0.toNat]
def k0_off29 : Fin 4 → Nat :=
  let true_292_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_291_r0 : BitVec 32 := 0#32
  let v333_r0 : BitVec 1 := Scalar.cmpi .ne v255_r0 c0_i32_291_r0
  let v334_r0 : BitVec 1 := Scalar.andi true_292_r0 v333_r0
  let c0_i32_246_r0 : BitVec 32 := 0#32
  let c1_i32_247_r0 : BitVec 32 := 1#32
  let v294_r0 : BitVec 32 := Scalar.addi c0_i32_246_r0 c1_i32_247_r0
  let c1_i32_295_r0 : BitVec 32 := 1#32
  let v338_r0 : BitVec 32 := Scalar.addi v294_r0 c1_i32_295_r0
  let v339_r0 : BitVec 32 := Scalar.select v334_r0 v338_r0 v294_r0
  let c4_i32_376_r0 : BitVec 32 := 4#32
  let v435_r0 : BitVec 32 := Scalar.remui v339_r0 c4_i32_376_r0
  let c0_i32_377_r0 : BitVec 32 := 0#32
  let c0_i32_378_r0 : BitVec 32 := 0#32
  let c0_i32_379_r0 : BitVec 32 := 0#32
  ![v435_r0.toNat, 0, 0, 0]
def k0_off30 : Fin 3 → Nat :=
  let c2_i32_383_r0 : BitVec 32 := 2#32
  let c0_i32_384_r0 : BitVec 32 := 0#32
  let c2048_i32_r0 : BitVec 32 := 2048#32
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let v436_r0 : BitVec 32 := Scalar.muli c2048_i32_r0 v260_r0
  ![2, 0, v436_r0.toNat]
def k0_cond10 : BitVec 1 :=
  let true_323_r0 : BitVec 1 := 1#1
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let c0_i32_193_r0 : BitVec 32 := 0#32
  let v255_r0 : BitVec 32 := Scalar.addi v254_r0 c0_i32_193_r0
  let v382_r0 : BitVec 1 := Scalar.cmpi .ne v260_r0 v255_r0
  let v383_r0 : BitVec 1 := Scalar.andi true_323_r0 v382_r0
  let true_324_r0 : BitVec 1 := 1#1
  let v384_r0 : BitVec 1 := Scalar.andi v383_r0 true_324_r0
  let v385_r0 : BitVec 32 := Scalar.extui v384_r0
  let c0_i32_325_r0 : BitVec 32 := 0#32
  let v386_r0 : BitVec 1 := Scalar.cmpi .ne v385_r0 c0_i32_325_r0
  v386_r0

def k0_off31 : Fin 1 → Nat :=
  let true_297_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_296_r0 : BitVec 32 := 0#32
  let v340_r0 : BitVec 1 := Scalar.cmpi .ne v255_r0 c0_i32_296_r0
  let v341_r0 : BitVec 1 := Scalar.andi true_297_r0 v340_r0
  let c0_i32_259_r0 : BitVec 32 := 0#32
  let c1_i32_260_r0 : BitVec 32 := 1#32
  let v302_r0 : BitVec 32 := Scalar.addi c0_i32_259_r0 c1_i32_260_r0
  let c1_i32_300_r0 : BitVec 32 := 1#32
  let v345_r0 : BitVec 32 := Scalar.addi v302_r0 c1_i32_300_r0
  let v346_r0 : BitVec 32 := Scalar.select v341_r0 v345_r0 v302_r0
  let c4_i32_376_r0 : BitVec 32 := 4#32
  let v435_r0 : BitVec 32 := Scalar.remui v346_r0 c4_i32_376_r0
  ![v435_r0.toNat]
def k0_off32 : Fin 4 → Nat :=
  let true_297_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_296_r0 : BitVec 32 := 0#32
  let v340_r0 : BitVec 1 := Scalar.cmpi .ne v255_r0 c0_i32_296_r0
  let v341_r0 : BitVec 1 := Scalar.andi true_297_r0 v340_r0
  let c0_i32_259_r0 : BitVec 32 := 0#32
  let c1_i32_260_r0 : BitVec 32 := 1#32
  let v302_r0 : BitVec 32 := Scalar.addi c0_i32_259_r0 c1_i32_260_r0
  let c1_i32_300_r0 : BitVec 32 := 1#32
  let v345_r0 : BitVec 32 := Scalar.addi v302_r0 c1_i32_300_r0
  let v346_r0 : BitVec 32 := Scalar.select v341_r0 v345_r0 v302_r0
  let c4_i32_376_r0 : BitVec 32 := 4#32
  let v435_r0 : BitVec 32 := Scalar.remui v346_r0 c4_i32_376_r0
  let c0_i32_377_r0 : BitVec 32 := 0#32
  let c0_i32_378_r0 : BitVec 32 := 0#32
  let c0_i32_379_r0 : BitVec 32 := 0#32
  ![v435_r0.toNat, 0, 0, 0]
def k0_off33 : Fin 3 → Nat :=
  let c3_i32_383_r0 : BitVec 32 := 3#32
  let c0_i32_384_r0 : BitVec 32 := 0#32
  let c2048_i32_r0 : BitVec 32 := 2048#32
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let v436_r0 : BitVec 32 := Scalar.muli c2048_i32_r0 v260_r0
  ![3, 0, v436_r0.toNat]
def k0_cond11 : BitVec 1 :=
  let true_327_r0 : BitVec 1 := 1#1
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let c0_i32_193_r0 : BitVec 32 := 0#32
  let v255_r0 : BitVec 32 := Scalar.addi v254_r0 c0_i32_193_r0
  let v389_r0 : BitVec 1 := Scalar.cmpi .ne v260_r0 v255_r0
  let v390_r0 : BitVec 1 := Scalar.andi true_327_r0 v389_r0
  let true_328_r0 : BitVec 1 := 1#1
  let v391_r0 : BitVec 1 := Scalar.andi v390_r0 true_328_r0
  let v392_r0 : BitVec 32 := Scalar.extui v391_r0
  let c0_i32_329_r0 : BitVec 32 := 0#32
  let v393_r0 : BitVec 1 := Scalar.cmpi .ne v392_r0 c0_i32_329_r0
  v393_r0

def k0_off34 : Fin 1 → Nat :=
  let true_302_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_301_r0 : BitVec 32 := 0#32
  let v347_r0 : BitVec 1 := Scalar.cmpi .ne v255_r0 c0_i32_301_r0
  let v348_r0 : BitVec 1 := Scalar.andi true_302_r0 v347_r0
  let c0_i32_269_r0 : BitVec 32 := 0#32
  let c1_i32_270_r0 : BitVec 32 := 1#32
  let v310_r0 : BitVec 32 := Scalar.addi c0_i32_269_r0 c1_i32_270_r0
  let c1_i32_305_r0 : BitVec 32 := 1#32
  let v352_r0 : BitVec 32 := Scalar.addi v310_r0 c1_i32_305_r0
  let v353_r0 : BitVec 32 := Scalar.select v348_r0 v352_r0 v310_r0
  let c4_i32_376_r0 : BitVec 32 := 4#32
  let v435_r0 : BitVec 32 := Scalar.remui v353_r0 c4_i32_376_r0
  ![v435_r0.toNat]
def k0_off35 : Fin 3 → Nat :=
  let true_302_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_301_r0 : BitVec 32 := 0#32
  let v347_r0 : BitVec 1 := Scalar.cmpi .ne v255_r0 c0_i32_301_r0
  let v348_r0 : BitVec 1 := Scalar.andi true_302_r0 v347_r0
  let c0_i32_269_r0 : BitVec 32 := 0#32
  let c1_i32_270_r0 : BitVec 32 := 1#32
  let v310_r0 : BitVec 32 := Scalar.addi c0_i32_269_r0 c1_i32_270_r0
  let c1_i32_305_r0 : BitVec 32 := 1#32
  let v352_r0 : BitVec 32 := Scalar.addi v310_r0 c1_i32_305_r0
  let v353_r0 : BitVec 32 := Scalar.select v348_r0 v352_r0 v310_r0
  let c4_i32_376_r0 : BitVec 32 := 4#32
  let v435_r0 : BitVec 32 := Scalar.remui v353_r0 c4_i32_376_r0
  let c0_i32_377_r0 : BitVec 32 := 0#32
  let c0_i32_378_r0 : BitVec 32 := 0#32
  ![v435_r0.toNat, 0, 0]
def k0_off36 : Fin 2 → Nat :=
  let c0_i32_381_r0 : BitVec 32 := 0#32
  let c2048_i32_r0 : BitVec 32 := 2048#32
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let v436_r0 : BitVec 32 := Scalar.muli c2048_i32_r0 v260_r0
  ![0, v436_r0.toNat]
def k0_cond12 : BitVec 1 :=
  let true_331_r0 : BitVec 1 := 1#1
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let c0_i32_193_r0 : BitVec 32 := 0#32
  let v255_r0 : BitVec 32 := Scalar.addi v254_r0 c0_i32_193_r0
  let v396_r0 : BitVec 1 := Scalar.cmpi .ne v260_r0 v255_r0
  let v397_r0 : BitVec 1 := Scalar.andi true_331_r0 v396_r0
  let true_332_r0 : BitVec 1 := 1#1
  let v398_r0 : BitVec 1 := Scalar.andi v397_r0 true_332_r0
  let v399_r0 : BitVec 32 := Scalar.extui v398_r0
  let c0_i32_333_r0 : BitVec 32 := 0#32
  let v400_r0 : BitVec 1 := Scalar.cmpi .ne v399_r0 c0_i32_333_r0
  v400_r0

def k0_off37 : Fin 1 → Nat :=
  let true_307_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_306_r0 : BitVec 32 := 0#32
  let v354_r0 : BitVec 1 := Scalar.cmpi .ne v255_r0 c0_i32_306_r0
  let v355_r0 : BitVec 1 := Scalar.andi true_307_r0 v354_r0
  let c0_i32_279_r0 : BitVec 32 := 0#32
  let c1_i32_280_r0 : BitVec 32 := 1#32
  let v318_r0 : BitVec 32 := Scalar.addi c0_i32_279_r0 c1_i32_280_r0
  let c1_i32_310_r0 : BitVec 32 := 1#32
  let v359_r0 : BitVec 32 := Scalar.addi v318_r0 c1_i32_310_r0
  let v360_r0 : BitVec 32 := Scalar.select v355_r0 v359_r0 v318_r0
  let c4_i32_376_r0 : BitVec 32 := 4#32
  let v435_r0 : BitVec 32 := Scalar.remui v360_r0 c4_i32_376_r0
  ![v435_r0.toNat]
def k0_off38 : Fin 3 → Nat :=
  let true_307_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c0_i32_193_r0 : BitVec 32 := 0#32
  let v255_r0 : BitVec 32 := Scalar.addi v254_r0 c0_i32_193_r0
  let c0_i32_306_r0 : BitVec 32 := 0#32
  let v354_r0 : BitVec 1 := Scalar.cmpi .ne v255_r0 c0_i32_306_r0
  let v355_r0 : BitVec 1 := Scalar.andi true_307_r0 v354_r0
  let c0_i32_279_r0 : BitVec 32 := 0#32
  let c1_i32_280_r0 : BitVec 32 := 1#32
  let v318_r0 : BitVec 32 := Scalar.addi c0_i32_279_r0 c1_i32_280_r0
  let c1_i32_310_r0 : BitVec 32 := 1#32
  let v359_r0 : BitVec 32 := Scalar.addi v318_r0 c1_i32_310_r0
  let v360_r0 : BitVec 32 := Scalar.select v355_r0 v359_r0 v318_r0
  let c4_i32_376_r0 : BitVec 32 := 4#32
  let v435_r0 : BitVec 32 := Scalar.remui v360_r0 c4_i32_376_r0
  let c0_i32_377_r0 : BitVec 32 := 0#32
  let c0_i32_378_r0 : BitVec 32 := 0#32
  ![v435_r0.toNat, 0, 0]
def k0_off39 : Fin 2 → Nat :=
  let c0_i32_381_r0 : BitVec 32 := 0#32
  let c2048_i32_r0 : BitVec 32 := 2048#32
  let true_195_r0 : BitVec 1 := 1#1
  let true_189_r0 : BitVec 1 := 1#1
  let c1_i32_191_r0 : BitVec 32 := 1#32
  let c0_i32_190_r0 : BitVec 32 := 0#32
  let v252_r0 : BitVec 32 := Scalar.select true_189_r0 c1_i32_191_r0 c0_i32_190_r0
  let c48_i32_r0 : BitVec 32 := 48#32
  let v253_r0 : BitVec 1 := Scalar.cmpi .eq v252_r0 c48_i32_r0
  let c0_i32_192_r0 : BitVec 32 := 0#32
  let v254_r0 : BitVec 32 := Scalar.select v253_r0 c0_i32_192_r0 v252_r0
  let c1_i32_194_r0 : BitVec 32 := 1#32
  let v256_r0 : BitVec 32 := Scalar.addi v254_r0 c1_i32_194_r0
  let v257_r0 : BitVec 32 := Scalar.select true_195_r0 v256_r0 v254_r0
  let c48_i32_196_r0 : BitVec 32 := 48#32
  let v258_r0 : BitVec 1 := Scalar.cmpi .eq v257_r0 c48_i32_196_r0
  let c0_i32_197_r0 : BitVec 32 := 0#32
  let v259_r0 : BitVec 32 := Scalar.select v258_r0 c0_i32_197_r0 v257_r0
  let c0_i32_198_r0 : BitVec 32 := 0#32
  let v260_r0 : BitVec 32 := Scalar.addi v259_r0 c0_i32_198_r0
  let v436_r0 : BitVec 32 := Scalar.muli c2048_i32_r0 v260_r0
  ![0, v436_r0.toNat]
@[reducible] def k0_t1_loop : Scf.Loop 32 :=
  let c0_i32_342_r0 : BitVec 32 := 0#32
  let c48_i32_343_r0 : BitVec 32 := 48#32
  let v403_r0 : BitVec 32 := Scalar.addi c0_i32_342_r0 c48_i32_343_r0
  let c1_i32_344_r0 : BitVec 32 := 1#32
  ⟨c0_i32_342_r0, v403_r0, c1_i32_344_r0⟩
def k0_off40 (arg17_r0 : BitVec 32) : Fin 1 → Nat :=
  let c4_i32_596_r0 : BitVec 32 := 4#32
  let v807_r0 : BitVec 32 := Scalar.remui arg17_r0 c4_i32_596_r0
  ![v807_r0.toNat]
def k0_cond13 (k0_t1 : Fin k0_t1_loop.trips) (arg29_r0 : BitVec 32) : BitVec 1 :=
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c0_i32_393_r0 : BitVec 32 := 0#32
  let v452_r0 : BitVec 32 := Scalar.addi v451_r0 c0_i32_393_r0
  let true_395_r0 : BitVec 1 := 1#1
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v463_r0 : BitVec 1 := Scalar.cmpi .ne v452_r0 v457_r0
  let c0_i32_342_r0 : BitVec 32 := 0#32
  let c1_i32_344_r0 : BitVec 32 := 1#32
  let arg16_r0 : BitVec 32 := Scf.iv c0_i32_342_r0 c1_i32_344_r0 k0_t1
  let c45_i32_r0 : BitVec 32 := 45#32
  let v464_r0 : BitVec 1 := Scalar.cmpi .sge arg16_r0 c45_i32_r0
  let true_404_r0 : BitVec 1 := 1#1
  let v465_r0 : BitVec 1 := Scalar.xori v464_r0 true_404_r0
  let v466_r0 : BitVec 1 := Scalar.andi v463_r0 v465_r0
  let true_405_r0 : BitVec 1 := 1#1
  let v467_r0 : BitVec 1 := Scalar.andi v466_r0 true_405_r0
  let v468_r0 : BitVec 32 := Scalar.extui v467_r0
  let c0_i32_406_r0 : BitVec 32 := 0#32
  let v469_r0 : BitVec 1 := Scalar.cmpi .ne v468_r0 c0_i32_406_r0
  v469_r0

def k0_off41 (arg17_r0 : BitVec 32) : Fin 4 → Nat :=
  let c4_i32_596_r0 : BitVec 32 := 4#32
  let v807_r0 : BitVec 32 := Scalar.remui arg17_r0 c4_i32_596_r0
  let c0_i32_598_r0 : BitVec 32 := 0#32
  let c0_i32_599_r0 : BitVec 32 := 0#32
  let c0_i32_600_r0 : BitVec 32 := 0#32
  ![v807_r0.toNat, 0, 0, 0]
def k0_off42 (arg29_r0 : BitVec 32) : Fin 3 → Nat :=
  let c0_i32_604_r0 : BitVec 32 := 0#32
  let c0_i32_605_r0 : BitVec 32 := 0#32
  let c2048_i32_597_r0 : BitVec 32 := 2048#32
  let true_395_r0 : BitVec 1 := 1#1
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v808_r0 : BitVec 32 := Scalar.muli c2048_i32_597_r0 v457_r0
  ![0, 0, v808_r0.toNat]
def k0_off43 (arg19_r0 : BitVec 32) : Fin 1 → Nat :=
  let c4_i32_596_r0 : BitVec 32 := 4#32
  let v807_r0 : BitVec 32 := Scalar.remui arg19_r0 c4_i32_596_r0
  ![v807_r0.toNat]
def k0_cond14 (k0_t1 : Fin k0_t1_loop.trips) (arg29_r0 : BitVec 32) : BitVec 1 :=
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c0_i32_393_r0 : BitVec 32 := 0#32
  let v452_r0 : BitVec 32 := Scalar.addi v451_r0 c0_i32_393_r0
  let true_395_r0 : BitVec 1 := 1#1
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v473_r0 : BitVec 1 := Scalar.cmpi .ne v452_r0 v457_r0
  let c0_i32_342_r0 : BitVec 32 := 0#32
  let c1_i32_344_r0 : BitVec 32 := 1#32
  let arg16_r0 : BitVec 32 := Scf.iv c0_i32_342_r0 c1_i32_344_r0 k0_t1
  let c45_i32_409_r0 : BitVec 32 := 45#32
  let v474_r0 : BitVec 1 := Scalar.cmpi .sge arg16_r0 c45_i32_409_r0
  let true_410_r0 : BitVec 1 := 1#1
  let v475_r0 : BitVec 1 := Scalar.xori v474_r0 true_410_r0
  let v476_r0 : BitVec 1 := Scalar.andi v473_r0 v475_r0
  let true_411_r0 : BitVec 1 := 1#1
  let v477_r0 : BitVec 1 := Scalar.andi v476_r0 true_411_r0
  let v478_r0 : BitVec 32 := Scalar.extui v477_r0
  let c0_i32_412_r0 : BitVec 32 := 0#32
  let v479_r0 : BitVec 1 := Scalar.cmpi .ne v478_r0 c0_i32_412_r0
  v479_r0

def k0_off44 (arg19_r0 : BitVec 32) : Fin 4 → Nat :=
  let c4_i32_596_r0 : BitVec 32 := 4#32
  let v807_r0 : BitVec 32 := Scalar.remui arg19_r0 c4_i32_596_r0
  let c0_i32_598_r0 : BitVec 32 := 0#32
  let c0_i32_599_r0 : BitVec 32 := 0#32
  let c0_i32_600_r0 : BitVec 32 := 0#32
  ![v807_r0.toNat, 0, 0, 0]
def k0_off45 (arg29_r0 : BitVec 32) : Fin 3 → Nat :=
  let c1_i32_604_r0 : BitVec 32 := 1#32
  let c0_i32_605_r0 : BitVec 32 := 0#32
  let c2048_i32_597_r0 : BitVec 32 := 2048#32
  let true_395_r0 : BitVec 1 := 1#1
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v808_r0 : BitVec 32 := Scalar.muli c2048_i32_597_r0 v457_r0
  ![1, 0, v808_r0.toNat]
def k0_off46 (arg21_r0 : BitVec 32) : Fin 1 → Nat :=
  let c4_i32_596_r0 : BitVec 32 := 4#32
  let v807_r0 : BitVec 32 := Scalar.remui arg21_r0 c4_i32_596_r0
  ![v807_r0.toNat]
def k0_cond15 (k0_t1 : Fin k0_t1_loop.trips) (arg29_r0 : BitVec 32) : BitVec 1 :=
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c0_i32_393_r0 : BitVec 32 := 0#32
  let v452_r0 : BitVec 32 := Scalar.addi v451_r0 c0_i32_393_r0
  let true_395_r0 : BitVec 1 := 1#1
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v483_r0 : BitVec 1 := Scalar.cmpi .ne v452_r0 v457_r0
  let c0_i32_342_r0 : BitVec 32 := 0#32
  let c1_i32_344_r0 : BitVec 32 := 1#32
  let arg16_r0 : BitVec 32 := Scf.iv c0_i32_342_r0 c1_i32_344_r0 k0_t1
  let c45_i32_415_r0 : BitVec 32 := 45#32
  let v484_r0 : BitVec 1 := Scalar.cmpi .sge arg16_r0 c45_i32_415_r0
  let true_416_r0 : BitVec 1 := 1#1
  let v485_r0 : BitVec 1 := Scalar.xori v484_r0 true_416_r0
  let v486_r0 : BitVec 1 := Scalar.andi v483_r0 v485_r0
  let true_417_r0 : BitVec 1 := 1#1
  let v487_r0 : BitVec 1 := Scalar.andi v486_r0 true_417_r0
  let v488_r0 : BitVec 32 := Scalar.extui v487_r0
  let c0_i32_418_r0 : BitVec 32 := 0#32
  let v489_r0 : BitVec 1 := Scalar.cmpi .ne v488_r0 c0_i32_418_r0
  v489_r0

def k0_off47 (arg21_r0 : BitVec 32) : Fin 4 → Nat :=
  let c4_i32_596_r0 : BitVec 32 := 4#32
  let v807_r0 : BitVec 32 := Scalar.remui arg21_r0 c4_i32_596_r0
  let c0_i32_598_r0 : BitVec 32 := 0#32
  let c0_i32_599_r0 : BitVec 32 := 0#32
  let c0_i32_600_r0 : BitVec 32 := 0#32
  ![v807_r0.toNat, 0, 0, 0]
def k0_off48 (arg29_r0 : BitVec 32) : Fin 3 → Nat :=
  let c2_i32_604_r0 : BitVec 32 := 2#32
  let c0_i32_605_r0 : BitVec 32 := 0#32
  let c2048_i32_597_r0 : BitVec 32 := 2048#32
  let true_395_r0 : BitVec 1 := 1#1
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v808_r0 : BitVec 32 := Scalar.muli c2048_i32_597_r0 v457_r0
  ![2, 0, v808_r0.toNat]
def k0_off49 (arg23_r0 : BitVec 32) : Fin 1 → Nat :=
  let c4_i32_596_r0 : BitVec 32 := 4#32
  let v807_r0 : BitVec 32 := Scalar.remui arg23_r0 c4_i32_596_r0
  ![v807_r0.toNat]
def k0_cond16 (k0_t1 : Fin k0_t1_loop.trips) (arg29_r0 : BitVec 32) : BitVec 1 :=
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c0_i32_393_r0 : BitVec 32 := 0#32
  let v452_r0 : BitVec 32 := Scalar.addi v451_r0 c0_i32_393_r0
  let true_395_r0 : BitVec 1 := 1#1
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v493_r0 : BitVec 1 := Scalar.cmpi .ne v452_r0 v457_r0
  let c0_i32_342_r0 : BitVec 32 := 0#32
  let c1_i32_344_r0 : BitVec 32 := 1#32
  let arg16_r0 : BitVec 32 := Scf.iv c0_i32_342_r0 c1_i32_344_r0 k0_t1
  let c45_i32_421_r0 : BitVec 32 := 45#32
  let v494_r0 : BitVec 1 := Scalar.cmpi .sge arg16_r0 c45_i32_421_r0
  let true_422_r0 : BitVec 1 := 1#1
  let v495_r0 : BitVec 1 := Scalar.xori v494_r0 true_422_r0
  let v496_r0 : BitVec 1 := Scalar.andi v493_r0 v495_r0
  let true_423_r0 : BitVec 1 := 1#1
  let v497_r0 : BitVec 1 := Scalar.andi v496_r0 true_423_r0
  let v498_r0 : BitVec 32 := Scalar.extui v497_r0
  let c0_i32_424_r0 : BitVec 32 := 0#32
  let v499_r0 : BitVec 1 := Scalar.cmpi .ne v498_r0 c0_i32_424_r0
  v499_r0

def k0_off50 (arg23_r0 : BitVec 32) : Fin 4 → Nat :=
  let c4_i32_596_r0 : BitVec 32 := 4#32
  let v807_r0 : BitVec 32 := Scalar.remui arg23_r0 c4_i32_596_r0
  let c0_i32_598_r0 : BitVec 32 := 0#32
  let c0_i32_599_r0 : BitVec 32 := 0#32
  let c0_i32_600_r0 : BitVec 32 := 0#32
  ![v807_r0.toNat, 0, 0, 0]
def k0_off51 (arg29_r0 : BitVec 32) : Fin 3 → Nat :=
  let c3_i32_604_r0 : BitVec 32 := 3#32
  let c0_i32_605_r0 : BitVec 32 := 0#32
  let c2048_i32_597_r0 : BitVec 32 := 2048#32
  let true_395_r0 : BitVec 1 := 1#1
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v808_r0 : BitVec 32 := Scalar.muli c2048_i32_597_r0 v457_r0
  ![3, 0, v808_r0.toNat]
def k0_off52 (arg25_r0 : BitVec 32) : Fin 1 → Nat :=
  let c4_i32_596_r0 : BitVec 32 := 4#32
  let v807_r0 : BitVec 32 := Scalar.remui arg25_r0 c4_i32_596_r0
  ![v807_r0.toNat]
def k0_cond17 (k0_t1 : Fin k0_t1_loop.trips) (arg29_r0 : BitVec 32) : BitVec 1 :=
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c0_i32_393_r0 : BitVec 32 := 0#32
  let v452_r0 : BitVec 32 := Scalar.addi v451_r0 c0_i32_393_r0
  let true_395_r0 : BitVec 1 := 1#1
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v503_r0 : BitVec 1 := Scalar.cmpi .ne v452_r0 v457_r0
  let c0_i32_342_r0 : BitVec 32 := 0#32
  let c1_i32_344_r0 : BitVec 32 := 1#32
  let arg16_r0 : BitVec 32 := Scf.iv c0_i32_342_r0 c1_i32_344_r0 k0_t1
  let c45_i32_427_r0 : BitVec 32 := 45#32
  let v504_r0 : BitVec 1 := Scalar.cmpi .sge arg16_r0 c45_i32_427_r0
  let true_428_r0 : BitVec 1 := 1#1
  let v505_r0 : BitVec 1 := Scalar.xori v504_r0 true_428_r0
  let v506_r0 : BitVec 1 := Scalar.andi v503_r0 v505_r0
  let true_429_r0 : BitVec 1 := 1#1
  let v507_r0 : BitVec 1 := Scalar.andi v506_r0 true_429_r0
  let v508_r0 : BitVec 32 := Scalar.extui v507_r0
  let c0_i32_430_r0 : BitVec 32 := 0#32
  let v509_r0 : BitVec 1 := Scalar.cmpi .ne v508_r0 c0_i32_430_r0
  v509_r0

def k0_off53 (arg25_r0 : BitVec 32) : Fin 3 → Nat :=
  let c4_i32_596_r0 : BitVec 32 := 4#32
  let v807_r0 : BitVec 32 := Scalar.remui arg25_r0 c4_i32_596_r0
  let c0_i32_598_r0 : BitVec 32 := 0#32
  let c0_i32_599_r0 : BitVec 32 := 0#32
  ![v807_r0.toNat, 0, 0]
def k0_off54 (arg29_r0 : BitVec 32) : Fin 2 → Nat :=
  let c0_i32_602_r0 : BitVec 32 := 0#32
  let c2048_i32_597_r0 : BitVec 32 := 2048#32
  let true_395_r0 : BitVec 1 := 1#1
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v808_r0 : BitVec 32 := Scalar.muli c2048_i32_597_r0 v457_r0
  ![0, v808_r0.toNat]
def k0_off55 (arg27_r0 : BitVec 32) : Fin 1 → Nat :=
  let c4_i32_596_r0 : BitVec 32 := 4#32
  let v807_r0 : BitVec 32 := Scalar.remui arg27_r0 c4_i32_596_r0
  ![v807_r0.toNat]
def k0_cond18 (k0_t1 : Fin k0_t1_loop.trips) (arg29_r0 : BitVec 32) : BitVec 1 :=
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c0_i32_393_r0 : BitVec 32 := 0#32
  let v452_r0 : BitVec 32 := Scalar.addi v451_r0 c0_i32_393_r0
  let true_395_r0 : BitVec 1 := 1#1
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v513_r0 : BitVec 1 := Scalar.cmpi .ne v452_r0 v457_r0
  let c0_i32_342_r0 : BitVec 32 := 0#32
  let c1_i32_344_r0 : BitVec 32 := 1#32
  let arg16_r0 : BitVec 32 := Scf.iv c0_i32_342_r0 c1_i32_344_r0 k0_t1
  let c45_i32_433_r0 : BitVec 32 := 45#32
  let v514_r0 : BitVec 1 := Scalar.cmpi .sge arg16_r0 c45_i32_433_r0
  let true_434_r0 : BitVec 1 := 1#1
  let v515_r0 : BitVec 1 := Scalar.xori v514_r0 true_434_r0
  let v516_r0 : BitVec 1 := Scalar.andi v513_r0 v515_r0
  let true_435_r0 : BitVec 1 := 1#1
  let v517_r0 : BitVec 1 := Scalar.andi v516_r0 true_435_r0
  let v518_r0 : BitVec 32 := Scalar.extui v517_r0
  let c0_i32_436_r0 : BitVec 32 := 0#32
  let v519_r0 : BitVec 1 := Scalar.cmpi .ne v518_r0 c0_i32_436_r0
  v519_r0

def k0_off56 (arg27_r0 : BitVec 32) : Fin 3 → Nat :=
  let c4_i32_596_r0 : BitVec 32 := 4#32
  let v807_r0 : BitVec 32 := Scalar.remui arg27_r0 c4_i32_596_r0
  let c0_i32_598_r0 : BitVec 32 := 0#32
  let c0_i32_599_r0 : BitVec 32 := 0#32
  ![v807_r0.toNat, 0, 0]
def k0_off57 (arg29_r0 : BitVec 32) : Fin 2 → Nat :=
  let c0_i32_602_r0 : BitVec 32 := 0#32
  let c2048_i32_597_r0 : BitVec 32 := 2048#32
  let true_395_r0 : BitVec 1 := 1#1
  let true_390_r0 : BitVec 1 := 1#1
  let true_385_r0 : BitVec 1 := 1#1
  let c1_i32_384_r0 : BitVec 32 := 1#32
  let v443_r0 : BitVec 32 := Scalar.addi arg29_r0 c1_i32_384_r0
  let v444_r0 : BitVec 32 := Scalar.select true_385_r0 v443_r0 arg29_r0
  let c48_i32_386_r0 : BitVec 32 := 48#32
  let v445_r0 : BitVec 1 := Scalar.cmpi .eq v444_r0 c48_i32_386_r0
  let c0_i32_387_r0 : BitVec 32 := 0#32
  let v446_r0 : BitVec 32 := Scalar.select v445_r0 c0_i32_387_r0 v444_r0
  let c1_i32_389_r0 : BitVec 32 := 1#32
  let v448_r0 : BitVec 32 := Scalar.addi v446_r0 c1_i32_389_r0
  let v449_r0 : BitVec 32 := Scalar.select true_390_r0 v448_r0 v446_r0
  let c48_i32_391_r0 : BitVec 32 := 48#32
  let v450_r0 : BitVec 1 := Scalar.cmpi .eq v449_r0 c48_i32_391_r0
  let c0_i32_392_r0 : BitVec 32 := 0#32
  let v451_r0 : BitVec 32 := Scalar.select v450_r0 c0_i32_392_r0 v449_r0
  let c1_i32_394_r0 : BitVec 32 := 1#32
  let v453_r0 : BitVec 32 := Scalar.addi v451_r0 c1_i32_394_r0
  let v454_r0 : BitVec 32 := Scalar.select true_395_r0 v453_r0 v451_r0
  let c48_i32_396_r0 : BitVec 32 := 48#32
  let v455_r0 : BitVec 1 := Scalar.cmpi .eq v454_r0 c48_i32_396_r0
  let c0_i32_397_r0 : BitVec 32 := 0#32
  let v456_r0 : BitVec 32 := Scalar.select v455_r0 c0_i32_397_r0 v454_r0
  let c0_i32_398_r0 : BitVec 32 := 0#32
  let v457_r0 : BitVec 32 := Scalar.addi v456_r0 c0_i32_398_r0
  let v808_r0 : BitVec 32 := Scalar.muli c2048_i32_597_r0 v457_r0
  ![0, v808_r0.toNat]
def k0_off58 (arg18_r0 : BitVec 32) : Fin 1 → Nat :=
  let c4_i32_597_r0 : BitVec 32 := 4#32
  let v808_r0 : BitVec 32 := Scalar.remui arg18_r0 c4_i32_597_r0
  ![v808_r0.toNat]
def k0_cond19 (k0_t1 : Fin k0_t1_loop.trips) (arg29_r0 : BitVec 32) : BitVec 1 :=
  let c0_i32_378_r0 : BitVec 32 := 0#32
  let v437_r0 : BitVec 32 := Scalar.addi arg29_r0 c0_i32_378_r0
  let true_380_r0 : BitVec 1 := 1#1
  let c1_i32_379_r0 : BitVec 32 := 1#32
  let v438_r0 : BitVec 32 := Scalar.subi arg29_r0 c1_i32_379_r0
  let v439_r0 : BitVec 32 := Scalar.select true_380_r0 v438_r0 arg29_r0
  let c_m1_i32_381_r0 : BitVec 32 := 4294967295#32
  let v440_r0 : BitVec 1 := Scalar.cmpi .eq v439_r0 c_m1_i32_381_r0
  let c47_i32_382_r0 : BitVec 32 := 47#32
  let v441_r0 : BitVec 32 := Scalar.select v440_r0 c47_i32_382_r0 v439_r0
  let c0_i32_383_r0 : BitVec 32 := 0#32
  let v442_r0 : BitVec 32 := Scalar.addi v441_r0 c0_i32_383_r0
  let v523_r0 : BitVec 1 := Scalar.cmpi .ne v437_r0 v442_r0
  let c0_i32_342_r0 : BitVec 32 := 0#32
  let c1_i32_344_r0 : BitVec 32 := 1#32
  let arg16_r0 : BitVec 32 := Scf.iv c0_i32_342_r0 c1_i32_344_r0 k0_t1
  let c0_i32_376_r0 : BitVec 32 := 0#32
  let v435_r0 : BitVec 1 := Scalar.cmpi .eq arg16_r0 c0_i32_376_r0
  let v524_r0 : BitVec 1 := Scalar.ori v523_r0 v435_r0
  let c0_i32_439_r0 : BitVec 32 := 0#32
  let v525_r0 : BitVec 1 := Scalar.cmpi .sge arg16_r0 c0_i32_439_r0
  let v526_r0 : BitVec 1 := Scalar.andi v524_r0 v525_r0
  let v527_r0 : BitVec 32 := Scalar.extui v526_r0
  let c0_i32_440_r0 : BitVec 32 := 0#32
  let v528_r0 : BitVec 1 := Scalar.cmpi .ne v527_r0 c0_i32_440_r0
  v528_r0

def k0_off59 (arg18_r0 : BitVec 32) : Fin 4 → Nat :=
  let c4_i32_597_r0 : BitVec 32 := 4#32
  let v808_r0 : BitVec 32 := Scalar.remui arg18_r0 c4_i32_597_r0
  let c0_i32_598_r0 : BitVec 32 := 0#32
  let c0_i32_599_r0 : BitVec 32 := 0#32
  let c0_i32_600_r0 : BitVec 32 := 0#32
  ![v808_r0.toNat, 0, 0, 0]
def k0_off60 (arg29_r0 : BitVec 32) : Fin 3 → Nat :=
  let c0_i32_604_r0 : BitVec 32 := 0#32
  let c0_i32_605_r0 : BitVec 32 := 0#32
  let c2048_i32_596_r0 : BitVec 32 := 2048#32
  let c0_i32_378_r0 : BitVec 32 := 0#32
  let v437_r0 : BitVec 32 := Scalar.addi arg29_r0 c0_i32_378_r0
  let v807_r0 : BitVec 32 := Scalar.muli c2048_i32_596_r0 v437_r0
  ![0, 0, v807_r0.toNat]
def k0_off61 (arg20_r0 : BitVec 32) : Fin 1 → Nat :=
  let c4_i32_597_r0 : BitVec 32 := 4#32
  let v808_r0 : BitVec 32 := Scalar.remui arg20_r0 c4_i32_597_r0
  ![v808_r0.toNat]
def k0_cond20 (k0_t1 : Fin k0_t1_loop.trips) (arg29_r0 : BitVec 32) : BitVec 1 :=
  let c0_i32_378_r0 : BitVec 32 := 0#32
  let v437_r0 : BitVec 32 := Scalar.addi arg29_r0 c0_i32_378_r0
  let true_380_r0 : BitVec 1 := 1#1
  let c1_i32_379_r0 : BitVec 32 := 1#32
  let v438_r0 : BitVec 32 := Scalar.subi arg29_r0 c1_i32_379_r0
  let v439_r0 : BitVec 32 := Scalar.select true_380_r0 v438_r0 arg29_r0
  let c_m1_i32_381_r0 : BitVec 32 := 4294967295#32
  let v440_r0 : BitVec 1 := Scalar.cmpi .eq v439_r0 c_m1_i32_381_r0
  let c47_i32_382_r0 : BitVec 32 := 47#32
  let v441_r0 : BitVec 32 := Scalar.select v440_r0 c47_i32_382_r0 v439_r0
  let c0_i32_383_r0 : BitVec 32 := 0#32
  let v442_r0 : BitVec 32 := Scalar.addi v441_r0 c0_i32_383_r0
  let v529_r0 : BitVec 1 := Scalar.cmpi .ne v437_r0 v442_r0
  let c0_i32_342_r0 : BitVec 32 := 0#32
  let c1_i32_344_r0 : BitVec 32 := 1#32
  let arg16_r0 : BitVec 32 := Scf.iv c0_i32_342_r0 c1_i32_344_r0 k0_t1
  let c0_i32_376_r0 : BitVec 32 := 0#32
  let v435_r0 : BitVec 1 := Scalar.cmpi .eq arg16_r0 c0_i32_376_r0
  let v530_r0 : BitVec 1 := Scalar.ori v529_r0 v435_r0
  let c0_i32_441_r0 : BitVec 32 := 0#32
  let v531_r0 : BitVec 1 := Scalar.cmpi .sge arg16_r0 c0_i32_441_r0
  let v532_r0 : BitVec 1 := Scalar.andi v530_r0 v531_r0
  let v533_r0 : BitVec 32 := Scalar.extui v532_r0
  let c0_i32_442_r0 : BitVec 32 := 0#32
  let v534_r0 : BitVec 1 := Scalar.cmpi .ne v533_r0 c0_i32_442_r0
  v534_r0

def k0_off62 (arg20_r0 : BitVec 32) : Fin 4 → Nat :=
  let c4_i32_597_r0 : BitVec 32 := 4#32
  let v808_r0 : BitVec 32 := Scalar.remui arg20_r0 c4_i32_597_r0
  let c0_i32_598_r0 : BitVec 32 := 0#32
  let c0_i32_599_r0 : BitVec 32 := 0#32
  let c0_i32_600_r0 : BitVec 32 := 0#32
  ![v808_r0.toNat, 0, 0, 0]
def k0_off63 (arg29_r0 : BitVec 32) : Fin 3 → Nat :=
  let c1_i32_604_r0 : BitVec 32 := 1#32
  let c0_i32_605_r0 : BitVec 32 := 0#32
  let c2048_i32_596_r0 : BitVec 32 := 2048#32
  let c0_i32_378_r0 : BitVec 32 := 0#32
  let v437_r0 : BitVec 32 := Scalar.addi arg29_r0 c0_i32_378_r0
  let v807_r0 : BitVec 32 := Scalar.muli c2048_i32_596_r0 v437_r0
  ![1, 0, v807_r0.toNat]
def k0_off64 (arg22_r0 : BitVec 32) : Fin 1 → Nat :=
  let c4_i32_597_r0 : BitVec 32 := 4#32
  let v808_r0 : BitVec 32 := Scalar.remui arg22_r0 c4_i32_597_r0
  ![v808_r0.toNat]
def k0_cond21 (k0_t1 : Fin k0_t1_loop.trips) (arg29_r0 : BitVec 32) : BitVec 1 :=
  let c0_i32_378_r0 : BitVec 32 := 0#32
  let v437_r0 : BitVec 32 := Scalar.addi arg29_r0 c0_i32_378_r0
  let true_380_r0 : BitVec 1 := 1#1
  let c1_i32_379_r0 : BitVec 32 := 1#32
  let v438_r0 : BitVec 32 := Scalar.subi arg29_r0 c1_i32_379_r0
  let v439_r0 : BitVec 32 := Scalar.select true_380_r0 v438_r0 arg29_r0
  let c_m1_i32_381_r0 : BitVec 32 := 4294967295#32
  let v440_r0 : BitVec 1 := Scalar.cmpi .eq v439_r0 c_m1_i32_381_r0
  let c47_i32_382_r0 : BitVec 32 := 47#32
  let v441_r0 : BitVec 32 := Scalar.select v440_r0 c47_i32_382_r0 v439_r0
  let c0_i32_383_r0 : BitVec 32 := 0#32
  let v442_r0 : BitVec 32 := Scalar.addi v441_r0 c0_i32_383_r0
  let v535_r0 : BitVec 1 := Scalar.cmpi .ne v437_r0 v442_r0
  let c0_i32_342_r0 : BitVec 32 := 0#32
  let c1_i32_344_r0 : BitVec 32 := 1#32
  let arg16_r0 : BitVec 32 := Scf.iv c0_i32_342_r0 c1_i32_344_r0 k0_t1
  let c0_i32_376_r0 : BitVec 32 := 0#32
  let v435_r0 : BitVec 1 := Scalar.cmpi .eq arg16_r0 c0_i32_376_r0
  let v536_r0 : BitVec 1 := Scalar.ori v535_r0 v435_r0
  let c0_i32_443_r0 : BitVec 32 := 0#32
  let v537_r0 : BitVec 1 := Scalar.cmpi .sge arg16_r0 c0_i32_443_r0
  let v538_r0 : BitVec 1 := Scalar.andi v536_r0 v537_r0
  let v539_r0 : BitVec 32 := Scalar.extui v538_r0
  let c0_i32_444_r0 : BitVec 32 := 0#32
  let v540_r0 : BitVec 1 := Scalar.cmpi .ne v539_r0 c0_i32_444_r0
  v540_r0

def k0_off65 (arg22_r0 : BitVec 32) : Fin 4 → Nat :=
  let c4_i32_597_r0 : BitVec 32 := 4#32
  let v808_r0 : BitVec 32 := Scalar.remui arg22_r0 c4_i32_597_r0
  let c0_i32_598_r0 : BitVec 32 := 0#32
  let c0_i32_599_r0 : BitVec 32 := 0#32
  let c0_i32_600_r0 : BitVec 32 := 0#32
  ![v808_r0.toNat, 0, 0, 0]
def k0_off66 (arg29_r0 : BitVec 32) : Fin 3 → Nat :=
  let c2_i32_604_r0 : BitVec 32 := 2#32
  let c0_i32_605_r0 : BitVec 32 := 0#32
  let c2048_i32_596_r0 : BitVec 32 := 2048#32
  let c0_i32_378_r0 : BitVec 32 := 0#32
  let v437_r0 : BitVec 32 := Scalar.addi arg29_r0 c0_i32_378_r0
  let v807_r0 : BitVec 32 := Scalar.muli c2048_i32_596_r0 v437_r0
  ![2, 0, v807_r0.toNat]
def k0_off67 (arg24_r0 : BitVec 32) : Fin 1 → Nat :=
  let c4_i32_597_r0 : BitVec 32 := 4#32
  let v808_r0 : BitVec 32 := Scalar.remui arg24_r0 c4_i32_597_r0
  ![v808_r0.toNat]
def k0_cond22 (k0_t1 : Fin k0_t1_loop.trips) (arg29_r0 : BitVec 32) : BitVec 1 :=
  let c0_i32_378_r0 : BitVec 32 := 0#32
  let v437_r0 : BitVec 32 := Scalar.addi arg29_r0 c0_i32_378_r0
  let true_380_r0 : BitVec 1 := 1#1
  let c1_i32_379_r0 : BitVec 32 := 1#32
  let v438_r0 : BitVec 32 := Scalar.subi arg29_r0 c1_i32_379_r0
  let v439_r0 : BitVec 32 := Scalar.select true_380_r0 v438_r0 arg29_r0
  let c_m1_i32_381_r0 : BitVec 32 := 4294967295#32
  let v440_r0 : BitVec 1 := Scalar.cmpi .eq v439_r0 c_m1_i32_381_r0
  let c47_i32_382_r0 : BitVec 32 := 47#32
  let v441_r0 : BitVec 32 := Scalar.select v440_r0 c47_i32_382_r0 v439_r0
  let c0_i32_383_r0 : BitVec 32 := 0#32
  let v442_r0 : BitVec 32 := Scalar.addi v441_r0 c0_i32_383_r0
  let v541_r0 : BitVec 1 := Scalar.cmpi .ne v437_r0 v442_r0
  let c0_i32_342_r0 : BitVec 32 := 0#32
  let c1_i32_344_r0 : BitVec 32 := 1#32
  let arg16_r0 : BitVec 32 := Scf.iv c0_i32_342_r0 c1_i32_344_r0 k0_t1
  let c0_i32_376_r0 : BitVec 32 := 0#32
  let v435_r0 : BitVec 1 := Scalar.cmpi .eq arg16_r0 c0_i32_376_r0
  let v542_r0 : BitVec 1 := Scalar.ori v541_r0 v435_r0
  let c0_i32_445_r0 : BitVec 32 := 0#32
  let v543_r0 : BitVec 1 := Scalar.cmpi .sge arg16_r0 c0_i32_445_r0
  let v544_r0 : BitVec 1 := Scalar.andi v542_r0 v543_r0
  let v545_r0 : BitVec 32 := Scalar.extui v544_r0
  let c0_i32_446_r0 : BitVec 32 := 0#32
  let v546_r0 : BitVec 1 := Scalar.cmpi .ne v545_r0 c0_i32_446_r0
  v546_r0

def k0_off68 (arg24_r0 : BitVec 32) : Fin 4 → Nat :=
  let c4_i32_597_r0 : BitVec 32 := 4#32
  let v808_r0 : BitVec 32 := Scalar.remui arg24_r0 c4_i32_597_r0
  let c0_i32_598_r0 : BitVec 32 := 0#32
  let c0_i32_599_r0 : BitVec 32 := 0#32
  let c0_i32_600_r0 : BitVec 32 := 0#32
  ![v808_r0.toNat, 0, 0, 0]
def k0_off69 (arg29_r0 : BitVec 32) : Fin 3 → Nat :=
  let c3_i32_604_r0 : BitVec 32 := 3#32
  let c0_i32_605_r0 : BitVec 32 := 0#32
  let c2048_i32_596_r0 : BitVec 32 := 2048#32
  let c0_i32_378_r0 : BitVec 32 := 0#32
  let v437_r0 : BitVec 32 := Scalar.addi arg29_r0 c0_i32_378_r0
  let v807_r0 : BitVec 32 := Scalar.muli c2048_i32_596_r0 v437_r0
  ![3, 0, v807_r0.toNat]
def k0_off70 (arg26_r0 : BitVec 32) : Fin 1 → Nat :=
  let c4_i32_597_r0 : BitVec 32 := 4#32
  let v808_r0 : BitVec 32 := Scalar.remui arg26_r0 c4_i32_597_r0
  ![v808_r0.toNat]
def k0_cond23 (k0_t1 : Fin k0_t1_loop.trips) (arg29_r0 : BitVec 32) : BitVec 1 :=
  let c0_i32_378_r0 : BitVec 32 := 0#32
  let v437_r0 : BitVec 32 := Scalar.addi arg29_r0 c0_i32_378_r0
  let true_380_r0 : BitVec 1 := 1#1
  let c1_i32_379_r0 : BitVec 32 := 1#32
  let v438_r0 : BitVec 32 := Scalar.subi arg29_r0 c1_i32_379_r0
  let v439_r0 : BitVec 32 := Scalar.select true_380_r0 v438_r0 arg29_r0
  let c_m1_i32_381_r0 : BitVec 32 := 4294967295#32
  let v440_r0 : BitVec 1 := Scalar.cmpi .eq v439_r0 c_m1_i32_381_r0
  let c47_i32_382_r0 : BitVec 32 := 47#32
  let v441_r0 : BitVec 32 := Scalar.select v440_r0 c47_i32_382_r0 v439_r0
  let c0_i32_383_r0 : BitVec 32 := 0#32
  let v442_r0 : BitVec 32 := Scalar.addi v441_r0 c0_i32_383_r0
  let v547_r0 : BitVec 1 := Scalar.cmpi .ne v437_r0 v442_r0
  let c0_i32_342_r0 : BitVec 32 := 0#32
  let c1_i32_344_r0 : BitVec 32 := 1#32
  let arg16_r0 : BitVec 32 := Scf.iv c0_i32_342_r0 c1_i32_344_r0 k0_t1
  let c0_i32_376_r0 : BitVec 32 := 0#32
  let v435_r0 : BitVec 1 := Scalar.cmpi .eq arg16_r0 c0_i32_376_r0
  let v548_r0 : BitVec 1 := Scalar.ori v547_r0 v435_r0
  let c0_i32_447_r0 : BitVec 32 := 0#32
  let v549_r0 : BitVec 1 := Scalar.cmpi .sge arg16_r0 c0_i32_447_r0
  let v550_r0 : BitVec 1 := Scalar.andi v548_r0 v549_r0
  let v551_r0 : BitVec 32 := Scalar.extui v550_r0
  let c0_i32_448_r0 : BitVec 32 := 0#32
  let v552_r0 : BitVec 1 := Scalar.cmpi .ne v551_r0 c0_i32_448_r0
  v552_r0

def k0_off71 (arg26_r0 : BitVec 32) : Fin 3 → Nat :=
  let c4_i32_597_r0 : BitVec 32 := 4#32
  let v808_r0 : BitVec 32 := Scalar.remui arg26_r0 c4_i32_597_r0
  let c0_i32_598_r0 : BitVec 32 := 0#32
  let c0_i32_599_r0 : BitVec 32 := 0#32
  ![v808_r0.toNat, 0, 0]
def k0_off72 (arg29_r0 : BitVec 32) : Fin 2 → Nat :=
  let c0_i32_602_r0 : BitVec 32 := 0#32
  let c2048_i32_596_r0 : BitVec 32 := 2048#32
  let c0_i32_378_r0 : BitVec 32 := 0#32
  let v437_r0 : BitVec 32 := Scalar.addi arg29_r0 c0_i32_378_r0
  let v807_r0 : BitVec 32 := Scalar.muli c2048_i32_596_r0 v437_r0
  ![0, v807_r0.toNat]
def k0_off73 (arg28_r0 : BitVec 32) : Fin 1 → Nat :=
  let c4_i32_597_r0 : BitVec 32 := 4#32
  let v808_r0 : BitVec 32 := Scalar.remui arg28_r0 c4_i32_597_r0
  ![v808_r0.toNat]
def k0_cond24 (k0_t1 : Fin k0_t1_loop.trips) (arg29_r0 : BitVec 32) : BitVec 1 :=
  let c0_i32_378_r0 : BitVec 32 := 0#32
  let v437_r0 : BitVec 32 := Scalar.addi arg29_r0 c0_i32_378_r0
  let true_380_r0 : BitVec 1 := 1#1
  let c1_i32_379_r0 : BitVec 32 := 1#32
  let v438_r0 : BitVec 32 := Scalar.subi arg29_r0 c1_i32_379_r0
  let v439_r0 : BitVec 32 := Scalar.select true_380_r0 v438_r0 arg29_r0
  let c_m1_i32_381_r0 : BitVec 32 := 4294967295#32
  let v440_r0 : BitVec 1 := Scalar.cmpi .eq v439_r0 c_m1_i32_381_r0
  let c47_i32_382_r0 : BitVec 32 := 47#32
  let v441_r0 : BitVec 32 := Scalar.select v440_r0 c47_i32_382_r0 v439_r0
  let c0_i32_383_r0 : BitVec 32 := 0#32
  let v442_r0 : BitVec 32 := Scalar.addi v441_r0 c0_i32_383_r0
  let v553_r0 : BitVec 1 := Scalar.cmpi .ne v437_r0 v442_r0
  let c0_i32_342_r0 : BitVec 32 := 0#32
  let c1_i32_344_r0 : BitVec 32 := 1#32
  let arg16_r0 : BitVec 32 := Scf.iv c0_i32_342_r0 c1_i32_344_r0 k0_t1
  let c0_i32_376_r0 : BitVec 32 := 0#32
  let v435_r0 : BitVec 1 := Scalar.cmpi .eq arg16_r0 c0_i32_376_r0
  let v554_r0 : BitVec 1 := Scalar.ori v553_r0 v435_r0
  let c0_i32_449_r0 : BitVec 32 := 0#32
  let v555_r0 : BitVec 1 := Scalar.cmpi .sge arg16_r0 c0_i32_449_r0
  let v556_r0 : BitVec 1 := Scalar.andi v554_r0 v555_r0
  let v557_r0 : BitVec 32 := Scalar.extui v556_r0
  let c0_i32_450_r0 : BitVec 32 := 0#32
  let v558_r0 : BitVec 1 := Scalar.cmpi .ne v557_r0 c0_i32_450_r0
  v558_r0

def k0_off74 (arg28_r0 : BitVec 32) : Fin 3 → Nat :=
  let c4_i32_597_r0 : BitVec 32 := 4#32
  let v808_r0 : BitVec 32 := Scalar.remui arg28_r0 c4_i32_597_r0
  let c0_i32_598_r0 : BitVec 32 := 0#32
  let c0_i32_599_r0 : BitVec 32 := 0#32
  ![v808_r0.toNat, 0, 0]
def k0_off75 (arg29_r0 : BitVec 32) : Fin 2 → Nat :=
  let c0_i32_602_r0 : BitVec 32 := 0#32
  let c2048_i32_596_r0 : BitVec 32 := 2048#32
  let c0_i32_378_r0 : BitVec 32 := 0#32
  let v437_r0 : BitVec 32 := Scalar.addi arg29_r0 c0_i32_378_r0
  let v807_r0 : BitVec 32 := Scalar.muli c2048_i32_596_r0 v437_r0
  ![0, v807_r0.toNat]

def k0_chk1_0 (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) : Prop :=
  (∀ (k0_h13 : k0_cond13 k0_t1 arg29_r0 = 1#1), ∀ a, (k0_off40 arg17_r0) a + S1.size a ≤ S4.size a) ∧
  (∀ (k0_h13 : k0_cond13 k0_t1 arg29_r0 = 1#1), ∀ a, (k0_off41 arg17_r0) a + S1x1x256x2048.size a ≤ S4x1x256x2048.size a) ∧
  (∀ (k0_h13 : k0_cond13 k0_t1 arg29_r0 = 1#1), ∀ a, (k0_off42 arg29_r0) a + S1x256x2048.size a ≤ S4x256x98304.size a) ∧
  (∀ (k0_h14 : k0_cond14 k0_t1 arg29_r0 = 1#1), ∀ a, (k0_off43 arg19_r0) a + S1.size a ≤ S4.size a) ∧
  (∀ (k0_h14 : k0_cond14 k0_t1 arg29_r0 = 1#1), ∀ a, (k0_off44 arg19_r0) a + S1x1x256x2048.size a ≤ S4x1x256x2048.size a) ∧
  (∀ (k0_h14 : k0_cond14 k0_t1 arg29_r0 = 1#1), ∀ a, (k0_off45 arg29_r0) a + S1x256x2048.size a ≤ S4x256x98304.size a) ∧
  (∀ (k0_h15 : k0_cond15 k0_t1 arg29_r0 = 1#1), ∀ a, (k0_off46 arg21_r0) a + S1.size a ≤ S4.size a) ∧
  (∀ (k0_h15 : k0_cond15 k0_t1 arg29_r0 = 1#1), ∀ a, (k0_off47 arg21_r0) a + S1x1x256x2048.size a ≤ S4x1x256x2048.size a) ∧
  (∀ (k0_h15 : k0_cond15 k0_t1 arg29_r0 = 1#1), ∀ a, (k0_off48 arg29_r0) a + S1x256x2048.size a ≤ S4x256x98304.size a) ∧
  (∀ (k0_h16 : k0_cond16 k0_t1 arg29_r0 = 1#1), ∀ a, (k0_off49 arg23_r0) a + S1.size a ≤ S4.size a) ∧
  (∀ (k0_h16 : k0_cond16 k0_t1 arg29_r0 = 1#1), ∀ a, (k0_off50 arg23_r0) a + S1x1x256x2048.size a ≤ S4x1x256x2048.size a) ∧
  (∀ (k0_h16 : k0_cond16 k0_t1 arg29_r0 = 1#1), ∀ a, (k0_off51 arg29_r0) a + S1x256x2048.size a ≤ S4x256x98304.size a) ∧
  (∀ (k0_h17 : k0_cond17 k0_t1 arg29_r0 = 1#1), ∀ a, (k0_off52 arg25_r0) a + S1.size a ≤ S4.size a) ∧
  (∀ (k0_h17 : k0_cond17 k0_t1 arg29_r0 = 1#1), ∀ a, (k0_off53 arg25_r0) a + S1x128x2048.size a ≤ S4x128x2048.size a) ∧
  (∀ (k0_h17 : k0_cond17 k0_t1 arg29_r0 = 1#1), ∀ a, (k0_off54 arg29_r0) a + S128x2048.size a ≤ S128x98304.size a) ∧
  (∀ (k0_h18 : k0_cond18 k0_t1 arg29_r0 = 1#1), ∀ a, (k0_off55 arg27_r0) a + S1.size a ≤ S4.size a) ∧
  (∀ (k0_h18 : k0_cond18 k0_t1 arg29_r0 = 1#1), ∀ a, (k0_off56 arg27_r0) a + S1x128x2048.size a ≤ S4x128x2048.size a) ∧
  (∀ (k0_h18 : k0_cond18 k0_t1 arg29_r0 = 1#1), ∀ a, (k0_off57 arg29_r0) a + S128x2048.size a ≤ S128x98304.size a) ∧
  (∀ (k0_h19 : k0_cond19 k0_t1 arg29_r0 = 1#1), ∀ a, (k0_off58 arg18_r0) a + S1.size a ≤ S4.size a) ∧
  (∀ (k0_h19 : k0_cond19 k0_t1 arg29_r0 = 1#1), ∀ a, (k0_off59 arg18_r0) a + S1x1x256x2048.size a ≤ S4x1x256x2048.size a) ∧
  (∀ (k0_h19 : k0_cond19 k0_t1 arg29_r0 = 1#1), ∀ a, (k0_off60 arg29_r0) a + S1x256x2048.size a ≤ S4x256x98304.size a) ∧
  (∀ (k0_h20 : k0_cond20 k0_t1 arg29_r0 = 1#1), ∀ a, (k0_off61 arg20_r0) a + S1.size a ≤ S4.size a) ∧
  (∀ (k0_h20 : k0_cond20 k0_t1 arg29_r0 = 1#1), ∀ a, (k0_off62 arg20_r0) a + S1x1x256x2048.size a ≤ S4x1x256x2048.size a) ∧
  (∀ (k0_h20 : k0_cond20 k0_t1 arg29_r0 = 1#1), ∀ a, (k0_off63 arg29_r0) a + S1x256x2048.size a ≤ S4x256x98304.size a) ∧
  (∀ (k0_h21 : k0_cond21 k0_t1 arg29_r0 = 1#1), ∀ a, (k0_off64 arg22_r0) a + S1.size a ≤ S4.size a) ∧
  (∀ (k0_h21 : k0_cond21 k0_t1 arg29_r0 = 1#1), ∀ a, (k0_off65 arg22_r0) a + S1x1x256x2048.size a ≤ S4x1x256x2048.size a) ∧
  (∀ (k0_h21 : k0_cond21 k0_t1 arg29_r0 = 1#1), ∀ a, (k0_off66 arg29_r0) a + S1x256x2048.size a ≤ S4x256x98304.size a) ∧
  (∀ (k0_h22 : k0_cond22 k0_t1 arg29_r0 = 1#1), ∀ a, (k0_off67 arg24_r0) a + S1.size a ≤ S4.size a) ∧
  (∀ (k0_h22 : k0_cond22 k0_t1 arg29_r0 = 1#1), ∀ a, (k0_off68 arg24_r0) a + S1x1x256x2048.size a ≤ S4x1x256x2048.size a) ∧
  (∀ (k0_h22 : k0_cond22 k0_t1 arg29_r0 = 1#1), ∀ a, (k0_off69 arg29_r0) a + S1x256x2048.size a ≤ S4x256x98304.size a) ∧
  (∀ (k0_h23 : k0_cond23 k0_t1 arg29_r0 = 1#1), ∀ a, (k0_off70 arg26_r0) a + S1.size a ≤ S4.size a) ∧
  (∀ (k0_h23 : k0_cond23 k0_t1 arg29_r0 = 1#1), ∀ a, (k0_off71 arg26_r0) a + S1x128x2048.size a ≤ S4x128x2048.size a)
def k0_chk1_1 (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) : Prop :=
  (∀ (k0_h23 : k0_cond23 k0_t1 arg29_r0 = 1#1), ∀ a, (k0_off72 arg29_r0) a + S128x2048.size a ≤ S128x98304.size a) ∧
  (∀ (k0_h24 : k0_cond24 k0_t1 arg29_r0 = 1#1), ∀ a, (k0_off73 arg28_r0) a + S1.size a ≤ S4.size a) ∧
  (∀ (k0_h24 : k0_cond24 k0_t1 arg29_r0 = 1#1), ∀ a, (k0_off74 arg28_r0) a + S1x128x2048.size a ≤ S4x128x2048.size a) ∧
  (∀ (k0_h24 : k0_cond24 k0_t1 arg29_r0 = 1#1), ∀ a, (k0_off75 arg29_r0) a + S128x2048.size a ≤ S128x98304.size a)
def k0_chk1 (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) : Prop :=
  k0_chk1_0 k0_t1 arg17_r0 arg18_r0 arg19_r0 arg20_r0 arg21_r0 arg22_r0 arg23_r0 arg24_r0 arg25_r0 arg26_r0 arg27_r0 arg28_r0 arg29_r0 ∧
  k0_chk1_1 k0_t1 arg17_r0 arg18_r0 arg19_r0 arg20_r0 arg21_r0 arg22_r0 arg23_r0 arg24_r0 arg25_r0 arg26_r0 arg27_r0 arg28_r0 arg29_r0
theorem k0_off40_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), ∀ a, (k0_off40 arg17_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h13 => k0_hw1.1.1 k0_h13
theorem k0_off41_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), ∀ a, (k0_off41 arg17_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h13 => k0_hw1.1.2.1 k0_h13
theorem k0_off42_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h13 : k0_cond13 k0_t1 arg29_r0 = 1#1), ∀ a, (k0_off42 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h13 => k0_hw1.1.2.2.1 k0_h13
theorem k0_off43_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h14 : k0_cond14 k0_t1 arg29_r0 = 1#1), ∀ a, (k0_off43 arg19_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h14 => k0_hw1.1.2.2.2.1 k0_h14
theorem k0_off44_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h14 : k0_cond14 k0_t1 arg29_r0 = 1#1), ∀ a, (k0_off44 arg19_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h14 => k0_hw1.1.2.2.2.2.1 k0_h14
theorem k0_off45_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h14 : k0_cond14 k0_t1 arg29_r0 = 1#1), ∀ a, (k0_off45 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h14 => k0_hw1.1.2.2.2.2.2.1 k0_h14
theorem k0_off46_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h15 : k0_cond15 k0_t1 arg29_r0 = 1#1), ∀ a, (k0_off46 arg21_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h15 => k0_hw1.1.2.2.2.2.2.2.1 k0_h15
theorem k0_off47_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h15 : k0_cond15 k0_t1 arg29_r0 = 1#1), ∀ a, (k0_off47 arg21_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h15 => k0_hw1.1.2.2.2.2.2.2.2.1 k0_h15
theorem k0_off48_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h15 : k0_cond15 k0_t1 arg29_r0 = 1#1), ∀ a, (k0_off48 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h15 => k0_hw1.1.2.2.2.2.2.2.2.2.1 k0_h15
theorem k0_off49_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h16 : k0_cond16 k0_t1 arg29_r0 = 1#1), ∀ a, (k0_off49 arg23_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h16 => k0_hw1.1.2.2.2.2.2.2.2.2.2.1 k0_h16
theorem k0_off50_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h16 : k0_cond16 k0_t1 arg29_r0 = 1#1), ∀ a, (k0_off50 arg23_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h16 => k0_hw1.1.2.2.2.2.2.2.2.2.2.2.1 k0_h16
theorem k0_off51_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h16 : k0_cond16 k0_t1 arg29_r0 = 1#1), ∀ a, (k0_off51 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h16 => k0_hw1.1.2.2.2.2.2.2.2.2.2.2.2.1 k0_h16
theorem k0_off52_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h17 : k0_cond17 k0_t1 arg29_r0 = 1#1), ∀ a, (k0_off52 arg25_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h17 => k0_hw1.1.2.2.2.2.2.2.2.2.2.2.2.2.1 k0_h17
theorem k0_off53_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h17 : k0_cond17 k0_t1 arg29_r0 = 1#1), ∀ a, (k0_off53 arg25_r0) a + S1x128x2048.size a ≤ S4x128x2048.size a := fun k0_t1 arg17_r0 arg18_r0 arg19_r0 arg20_r0 arg21_r0 arg22_r0 arg23_r0 arg24_r0 arg25_r0 arg26_r0 arg27_r0 arg28_r0 arg29_r0 k0_hw1 k0_h17 => k0_hw1.1.2.2.2.2.2.2.2.2.2.2.2.2.2.1 k0_h17
theorem k0_off54_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h17 : k0_cond17 k0_t1 arg29_r0 = 1#1), ∀ a, (k0_off54 arg29_r0) a + S128x2048.size a ≤ S128x98304.size a := fun k0_t1 arg17_r0 arg18_r0 arg19_r0 arg20_r0 arg21_r0 arg22_r0 arg23_r0 arg24_r0 arg25_r0 arg26_r0 arg27_r0 arg28_r0 arg29_r0 k0_hw1 k0_h17 => k0_hw1.1.2.2.2.2.2.2.2.2.2.2.2.2.2.2.1 k0_h17
theorem k0_off55_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h18 : k0_cond18 k0_t1 arg29_r0 = 1#1), ∀ a, (k0_off55 arg27_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h18 => k0_hw1.1.2.2.2.2.2.2.2.2.2.2.2.2.2.2.2.1 k0_h18
theorem k0_off56_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h18 : k0_cond18 k0_t1 arg29_r0 = 1#1), ∀ a, (k0_off56 arg27_r0) a + S1x128x2048.size a ≤ S4x128x2048.size a := fun k0_t1 arg17_r0 arg18_r0 arg19_r0 arg20_r0 arg21_r0 arg22_r0 arg23_r0 arg24_r0 arg25_r0 arg26_r0 arg27_r0 arg28_r0 arg29_r0 k0_hw1 k0_h18 => k0_hw1.1.2.2.2.2.2.2.2.2.2.2.2.2.2.2.2.2.1 k0_h18
theorem k0_off57_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h18 : k0_cond18 k0_t1 arg29_r0 = 1#1), ∀ a, (k0_off57 arg29_r0) a + S128x2048.size a ≤ S128x98304.size a := fun k0_t1 arg17_r0 arg18_r0 arg19_r0 arg20_r0 arg21_r0 arg22_r0 arg23_r0 arg24_r0 arg25_r0 arg26_r0 arg27_r0 arg28_r0 arg29_r0 k0_hw1 k0_h18 => k0_hw1.1.2.2.2.2.2.2.2.2.2.2.2.2.2.2.2.2.2.1 k0_h18
theorem k0_off58_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h19 : k0_cond19 k0_t1 arg29_r0 = 1#1), ∀ a, (k0_off58 arg18_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h19 => k0_hw1.1.2.2.2.2.2.2.2.2.2.2.2.2.2.2.2.2.2.2.1 k0_h19
theorem k0_off59_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h19 : k0_cond19 k0_t1 arg29_r0 = 1#1), ∀ a, (k0_off59 arg18_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h19 => k0_hw1.1.2.2.2.2.2.2.2.2.2.2.2.2.2.2.2.2.2.2.2.1 k0_h19
theorem k0_off60_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h19 : k0_cond19 k0_t1 arg29_r0 = 1#1), ∀ a, (k0_off60 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h19 => k0_hw1.1.2.2.2.2.2.2.2.2.2.2.2.2.2.2.2.2.2.2.2.2.1 k0_h19
theorem k0_off61_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h20 : k0_cond20 k0_t1 arg29_r0 = 1#1), ∀ a, (k0_off61 arg20_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h20 => k0_hw1.1.2.2.2.2.2.2.2.2.2.2.2.2.2.2.2.2.2.2.2.2.2.1 k0_h20
theorem k0_off62_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h20 : k0_cond20 k0_t1 arg29_r0 = 1#1), ∀ a, (k0_off62 arg20_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h20 => k0_hw1.1.2.2.2.2.2.2.2.2.2.2.2.2.2.2.2.2.2.2.2.2.2.2.1 k0_h20
theorem k0_off63_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h20 : k0_cond20 k0_t1 arg29_r0 = 1#1), ∀ a, (k0_off63 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h20 => k0_hw1.1.2.2.2.2.2.2.2.2.2.2.2.2.2.2.2.2.2.2.2.2.2.2.2.1 k0_h20
theorem k0_off64_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h21 : k0_cond21 k0_t1 arg29_r0 = 1#1), ∀ a, (k0_off64 arg22_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h21 => k0_hw1.1.2.2.2.2.2.2.2.2.2.2.2.2.2.2.2.2.2.2.2.2.2.2.2.2.1 k0_h21
theorem k0_off65_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h21 : k0_cond21 k0_t1 arg29_r0 = 1#1), ∀ a, (k0_off65 arg22_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h21 => k0_hw1.1.2.2.2.2.2.2.2.2.2.2.2.2.2.2.2.2.2.2.2.2.2.2.2.2.2.1 k0_h21
theorem k0_off66_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h21 : k0_cond21 k0_t1 arg29_r0 = 1#1), ∀ a, (k0_off66 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h21 => k0_hw1.1.2.2.2.2.2.2.2.2.2.2.2.2.2.2.2.2.2.2.2.2.2.2.2.2.2.2.1 k0_h21
theorem k0_off67_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h22 : k0_cond22 k0_t1 arg29_r0 = 1#1), ∀ a, (k0_off67 arg24_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h22 => k0_hw1.1.2.2.2.2.2.2.2.2.2.2.2.2.2.2.2.2.2.2.2.2.2.2.2.2.2.2.2.1 k0_h22
theorem k0_off68_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h22 : k0_cond22 k0_t1 arg29_r0 = 1#1), ∀ a, (k0_off68 arg24_r0) a + S1x1x256x2048.size a ≤ S4x1x256x2048.size a := fun k0_t1 arg17_r0 arg18_r0 arg19_r0 arg20_r0 arg21_r0 arg22_r0 arg23_r0 arg24_r0 arg25_r0 arg26_r0 arg27_r0 arg28_r0 arg29_r0 k0_hw1 k0_h22 => k0_hw1.1.2.2.2.2.2.2.2.2.2.2.2.2.2.2.2.2.2.2.2.2.2.2.2.2.2.2.2.2.1 k0_h22
theorem k0_off69_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h22 : k0_cond22 k0_t1 arg29_r0 = 1#1), ∀ a, (k0_off69 arg29_r0) a + S1x256x2048.size a ≤ S4x256x98304.size a := fun k0_t1 arg17_r0 arg18_r0 arg19_r0 arg20_r0 arg21_r0 arg22_r0 arg23_r0 arg24_r0 arg25_r0 arg26_r0 arg27_r0 arg28_r0 arg29_r0 k0_hw1 k0_h22 => k0_hw1.1.2.2.2.2.2.2.2.2.2.2.2.2.2.2.2.2.2.2.2.2.2.2.2.2.2.2.2.2.2.1 k0_h22
theorem k0_off70_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h23 : k0_cond23 k0_t1 arg29_r0 = 1#1), ∀ a, (k0_off70 arg26_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h23 => k0_hw1.1.2.2.2.2.2.2.2.2.2.2.2.2.2.2.2.2.2.2.2.2.2.2.2.2.2.2.2.2.2.2.1 k0_h23
theorem k0_off71_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h23 : k0_cond23 k0_t1 arg29_r0 = 1#1), ∀ a, (k0_off71 arg26_r0) a + S1x128x2048.size a ≤ S4x128x2048.size a := fun k0_t1 arg17_r0 arg18_r0 arg19_r0 arg20_r0 arg21_r0 arg22_r0 arg23_r0 arg24_r0 arg25_r0 arg26_r0 arg27_r0 arg28_r0 arg29_r0 k0_hw1 k0_h23 => k0_hw1.1.2.2.2.2.2.2.2.2.2.2.2.2.2.2.2.2.2.2.2.2.2.2.2.2.2.2.2.2.2.2.2 k0_h23
theorem k0_off72_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h23 : k0_cond23 k0_t1 arg29_r0 = 1#1), ∀ a, (k0_off72 arg29_r0) a + S128x2048.size a ≤ S128x98304.size a := fun k0_t1 arg17_r0 arg18_r0 arg19_r0 arg20_r0 arg21_r0 arg22_r0 arg23_r0 arg24_r0 arg25_r0 arg26_r0 arg27_r0 arg28_r0 arg29_r0 k0_hw1 k0_h23 => k0_hw1.2.1 k0_h23
theorem k0_off73_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h24 : k0_cond24 k0_t1 arg29_r0 = 1#1), ∀ a, (k0_off73 arg28_r0) a + S1.size a ≤ S4.size a := fun k0_t1 arg17_r0 arg18_r0 arg19_r0 arg20_r0 arg21_r0 arg22_r0 arg23_r0 arg24_r0 arg25_r0 arg26_r0 arg27_r0 arg28_r0 arg29_r0 k0_hw1 k0_h24 => k0_hw1.2.2.1 k0_h24
theorem k0_off74_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h24 : k0_cond24 k0_t1 arg29_r0 = 1#1), ∀ a, (k0_off74 arg28_r0) a + S1x128x2048.size a ≤ S4x128x2048.size a := fun k0_t1 arg17_r0 arg18_r0 arg19_r0 arg20_r0 arg21_r0 arg22_r0 arg23_r0 arg24_r0 arg25_r0 arg26_r0 arg27_r0 arg28_r0 arg29_r0 k0_hw1 k0_h24 => k0_hw1.2.2.2.1 k0_h24
theorem k0_off75_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg17_r0 arg18_r0 arg19_r0 arg20_r0 arg21_r0 arg22_r0 arg23_r0 arg24_r0 arg25_r0 arg26_r0 arg27_r0 arg28_r0 arg29_r0), ∀ (k0_h24 : k0_cond24 k0_t1 arg29_r0 = 1#1), ∀ a, (k0_off75 arg29_r0) a + S128x2048.size a ≤ S128x98304.size a := fun k0_t1 arg17_r0 arg18_r0 arg19_r0 arg20_r0 arg21_r0 arg22_r0 arg23_r0 arg24_r0 arg25_r0 arg26_r0 arg27_r0 arg28_r0 arg29_r0 k0_hw1 k0_h24 => k0_hw1.2.2.2.2 k0_h24

def k0_off76 (arg18_r0 : BitVec 32) : Fin 4 → Nat :=
  let c4_i32_451_r0 : BitVec 32 := 4#32
  let v559_r0 : BitVec 32 := Scalar.remui arg18_r0 c4_i32_451_r0
  let c0_i32_460_r0 : BitVec 32 := 0#32
  let c0_i32_461_r0 : BitVec 32 := 0#32
  let c0_i32_462_r0 : BitVec 32 := 0#32
  ![v559_r0.toNat, 0, 0, 0]

def k0_chk2 (arg18_r0 : BitVec 32) : Prop :=
  (∀ a, (k0_off76 arg18_r0) a + S1x1x256x2048.size a ≤ S4x1x256x2048.size a)
theorem k0_off76_inb : ∀ (arg18_r0 : BitVec 32) (k0_hw2 : k0_chk2 arg18_r0), ∀ a, (k0_off76 arg18_r0) a + S1x1x256x2048.size a ≤ S4x1x256x2048.size a := fun arg18_r0 k0_hw2 => k0_hw2

def k0_off77 (arg20_r0 : BitVec 32) : Fin 4 → Nat :=
  let c4_i32_452_r0 : BitVec 32 := 4#32
  let v560_r0 : BitVec 32 := Scalar.remui arg20_r0 c4_i32_452_r0
  let c0_i32_469_r0 : BitVec 32 := 0#32
  let c0_i32_470_r0 : BitVec 32 := 0#32
  let c0_i32_471_r0 : BitVec 32 := 0#32
  ![v560_r0.toNat, 0, 0, 0]

def k0_chk3 (arg20_r0 : BitVec 32) : Prop :=
  (∀ a, (k0_off77 arg20_r0) a + S1x1x256x2048.size a ≤ S4x1x256x2048.size a)
theorem k0_off77_inb : ∀ (arg20_r0 : BitVec 32) (k0_hw3 : k0_chk3 arg20_r0), ∀ a, (k0_off77 arg20_r0) a + S1x1x256x2048.size a ≤ S4x1x256x2048.size a := fun arg20_r0 k0_hw3 => k0_hw3

def k0_off78 (arg22_r0 : BitVec 32) : Fin 4 → Nat :=
  let c4_i32_453_r0 : BitVec 32 := 4#32
  let v561_r0 : BitVec 32 := Scalar.remui arg22_r0 c4_i32_453_r0
  let c0_i32_478_r0 : BitVec 32 := 0#32
  let c0_i32_479_r0 : BitVec 32 := 0#32
  let c0_i32_480_r0 : BitVec 32 := 0#32
  ![v561_r0.toNat, 0, 0, 0]

def k0_chk4 (arg22_r0 : BitVec 32) : Prop :=
  (∀ a, (k0_off78 arg22_r0) a + S1x1x256x2048.size a ≤ S4x1x256x2048.size a)
theorem k0_off78_inb : ∀ (arg22_r0 : BitVec 32) (k0_hw4 : k0_chk4 arg22_r0), ∀ a, (k0_off78 arg22_r0) a + S1x1x256x2048.size a ≤ S4x1x256x2048.size a := fun arg22_r0 k0_hw4 => k0_hw4

def k0_off79 (arg24_r0 : BitVec 32) : Fin 4 → Nat :=
  let c4_i32_454_r0 : BitVec 32 := 4#32
  let v562_r0 : BitVec 32 := Scalar.remui arg24_r0 c4_i32_454_r0
  let c0_i32_487_r0 : BitVec 32 := 0#32
  let c0_i32_488_r0 : BitVec 32 := 0#32
  let c0_i32_489_r0 : BitVec 32 := 0#32
  ![v562_r0.toNat, 0, 0, 0]

def k0_chk5 (arg24_r0 : BitVec 32) : Prop :=
  (∀ a, (k0_off79 arg24_r0) a + S1x1x256x2048.size a ≤ S4x1x256x2048.size a)
theorem k0_off79_inb : ∀ (arg24_r0 : BitVec 32) (k0_hw5 : k0_chk5 arg24_r0), ∀ a, (k0_off79 arg24_r0) a + S1x1x256x2048.size a ≤ S4x1x256x2048.size a := fun arg24_r0 k0_hw5 => k0_hw5

def k0_off80 (arg26_r0 : BitVec 32) : Fin 3 → Nat :=
  let c4_i32_455_r0 : BitVec 32 := 4#32
  let v563_r0 : BitVec 32 := Scalar.remui arg26_r0 c4_i32_455_r0
  let v597_r0 : Index := Scalar.indexCast v563_r0
  let c0_494_r0 : Index := 0#32
  let c0_495_r0 : Index := 0#32
  ![v597_r0.toNat, 0, 0]

def k0_chk6 (arg26_r0 : BitVec 32) : Prop :=
  (∀ a, (k0_off80 arg26_r0) a + S1x128x2048.size a ≤ S4x128x2048.size a)
theorem k0_off80_inb : ∀ (arg26_r0 : BitVec 32) (k0_hw6 : k0_chk6 arg26_r0), ∀ a, (k0_off80 arg26_r0) a + S1x128x2048.size a ≤ S4x128x2048.size a := fun arg26_r0 k0_hw6 => k0_hw6

def k0_off81 (arg28_r0 : BitVec 32) : Fin 3 → Nat :=
  let c4_i32_456_r0 : BitVec 32 := 4#32
  let v564_r0 : BitVec 32 := Scalar.remui arg28_r0 c4_i32_456_r0
  let v600_r0 : Index := Scalar.indexCast v564_r0
  let c0_496_r0 : Index := 0#32
  let c0_497_r0 : Index := 0#32
  ![v600_r0.toNat, 0, 0]

def k0_chk7 (arg28_r0 : BitVec 32) : Prop :=
  (∀ a, (k0_off81 arg28_r0) a + S1x128x2048.size a ≤ S4x128x2048.size a)
theorem k0_off81_inb : ∀ (arg28_r0 : BitVec 32) (k0_hw7 : k0_chk7 arg28_r0), ∀ a, (k0_off81 arg28_r0) a + S1x128x2048.size a ≤ S4x128x2048.size a := fun arg28_r0 k0_hw7 => k0_hw7

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "pruned_sum" => some ((9223372046078147683 / 9223372036854775808 : ℝ) : EReal)
  | _ => none
-- ==== ReferenceIdeal.lean ====
abbrev S32x4x1024 : Shape := ⟨3, ![32, 4, 1024]⟩
abbrev S1024x100000 : Shape := ⟨2, ![1024, 100000]⟩
abbrev S32x4x100000 : Shape := ⟨3, ![32, 4, 100000]⟩
abbrev S_ : Shape := ⟨0, ![]⟩
abbrev S32x4 : Shape := ⟨2, ![32, 4]⟩
abbrev S32x4x1 : Shape := ⟨3, ![32, 4, 1]⟩
abbrev S32x4x1x1 : Shape := ⟨4, ![32, 4, 1, 1]⟩
abbrev S1 : Shape := ⟨1, ![1]⟩
abbrev S1x1x1x1 : Shape := ⟨4, ![1, 1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024x100000, .f32⟩
  | .hbm, ⟨2, _⟩ => ⟨S32x4x100000, .i32⟩
  | .hbm, ⟨3, _⟩ => ⟨S32x4x100000, .f32⟩
  | .hbm, ⟨4, _⟩ => ⟨S32x4x100000, .f32⟩
  | .hbm, ⟨5, _⟩ => ⟨S_, .f32⟩
  | .hbm, ⟨6, _⟩ => ⟨S32x4, .f32⟩
  | .hbm, ⟨7, _⟩ => ⟨S_, .f32⟩
  | .hbm, ⟨8, _⟩ => ⟨S32x4, .f32⟩
  | .hbm, ⟨9, _⟩ => ⟨S32x4, .f32⟩
  | .hbm, ⟨10, _⟩ => ⟨S32x4x1, .f32⟩
  | .hbm, ⟨11, _⟩ => ⟨S32x4x100000, .f32⟩
  | .hbm, ⟨12, _⟩ => ⟨S32x4x100000, .f32⟩
  | .hbm, ⟨13, _⟩ => ⟨S32x4x100000, .f32⟩
  | .hbm, ⟨14, _⟩ => ⟨S_, .f32⟩
  | .hbm, ⟨15, _⟩ => ⟨S32x4, .f32⟩
  | .hbm, ⟨16, _⟩ => ⟨S32x4x1, .f32⟩
  | .hbm, ⟨17, _⟩ => ⟨S32x4x100000, .f32⟩
  | .hbm, ⟨18, _⟩ => ⟨S32x4x100000, .f32⟩
  | .hbm, ⟨19, _⟩ => ⟨S32x4x100000, .f32⟩
  | .hbm, ⟨20, _⟩ => ⟨S_, .f32⟩
  | .hbm, ⟨21, _⟩ => ⟨S32x4x100000, .f32⟩
  | .hbm, ⟨22, _⟩ => ⟨S32x4x100000, .i1⟩
  | .hbm, ⟨23, _⟩ => ⟨S_, .i1⟩
  | .hbm, ⟨24, _⟩ => ⟨S32x4, .i1⟩
  | .hbm, ⟨25, _⟩ => ⟨S32x4x1, .i1⟩
  | .hbm, ⟨26, _⟩ => ⟨S_, .f32⟩
  | .hbm, ⟨27, _⟩ => ⟨S32x4x100000, .f32⟩
  | .hbm, ⟨28, _⟩ => ⟨S32x4x100000, .i1⟩
  | .hbm, ⟨29, _⟩ => ⟨S32x4x100000, .f32⟩
  | .hbm, ⟨30, _⟩ => ⟨S_, .f32⟩
  | .hbm, ⟨31, _⟩ => ⟨S32x4x100000, .f32⟩
  | .hbm, ⟨32, _⟩ => ⟨S32x4x100000, .f32⟩
  | .hbm, ⟨33, _⟩ => ⟨S32x4x100000, .f32⟩
  | .hbm, ⟨34, _⟩ => ⟨S_, .f32⟩
  | .hbm, ⟨35, _⟩ => ⟨S32x4, .f32⟩
  | .hbm, ⟨36, _⟩ => ⟨S32x4x1, .f32⟩
  | .hbm, ⟨37, _⟩ => ⟨S32x4x100000, .f32⟩
  | .hbm, ⟨38, _⟩ => ⟨S32x4x100000, .f32⟩
  | .hbm, ⟨39, _⟩ => ⟨S32x4x100000, .f32⟩
  | .hbm, ⟨40, _⟩ => ⟨S32x4x100000, .f32⟩
  | .hbm, ⟨41, _⟩ => ⟨S32x4x100000, .i32⟩
  | .hbm, ⟨42, _⟩ => ⟨S_, .f32⟩
  | .hbm, ⟨43, _⟩ => ⟨S_, .i32⟩
  | .hbm, ⟨44, _⟩ => ⟨S32x4, .f32⟩
  | .hbm, ⟨45, _⟩ => ⟨S32x4, .i32⟩
  | .hbm, ⟨46, _⟩ => ⟨S32x4x1, .i32⟩
  | .hbm, ⟨47, _⟩ => ⟨S_, .i32⟩
  | .hbm, ⟨48, _⟩ => ⟨S32x4x1, .i32⟩
  | .hbm, ⟨49, _⟩ => ⟨S32x4x1, .i1⟩
  | .hbm, ⟨50, _⟩ => ⟨S_, .i32⟩
  | .hbm, ⟨51, _⟩ => ⟨S32x4x1, .i32⟩
  | .hbm, ⟨52, _⟩ => ⟨S32x4x1, .i32⟩
  | .hbm, ⟨53, _⟩ => ⟨S32x4x1, .i32⟩
  | .hbm, ⟨54, _⟩ => ⟨S32x4x1x1, .i32⟩
  | .hbm, ⟨55, _⟩ => ⟨S1, .i32⟩
  | .hbm, ⟨56, _⟩ => ⟨S_, .i32⟩
  | .hbm, ⟨57, _⟩ => ⟨S32x4x1x1, .i32⟩
  | .hbm, ⟨58, _⟩ => ⟨S32x4x1x1, .i1⟩
  | .hbm, ⟨59, _⟩ => ⟨S1x1x1x1, .i32⟩
  | .hbm, ⟨60, _⟩ => ⟨S32x4x1x1, .i32⟩
  | .hbm, ⟨61, _⟩ => ⟨S32x4x1x1, .i1⟩
  | .hbm, ⟨62, _⟩ => ⟨S32x4x1x1, .i1⟩
  | .hbm, ⟨63, _⟩ => ⟨S_, .i1⟩
  | .hbm, ⟨64, _⟩ => ⟨S32x4x1, .i1⟩
  | .hbm, ⟨65, _⟩ => ⟨S32x4x1, .f32⟩
  | .hbm, ⟨66, _⟩ => ⟨S_, .f32⟩
  | .hbm, ⟨67, _⟩ => ⟨S32x4x1, .f32⟩
  | .hbm, ⟨68, _⟩ => ⟨S32x4x1, .f32⟩
  | .hbm, ⟨69, _⟩ => ⟨S32x4, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_call0_v0 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_v0 : Ref sig .tc := ⟨.hbm, 41, rfl⟩
abbrev main_call1_cst : Ref sig .tc := ⟨.hbm, 42, rfl⟩
abbrev main_call1_c : Ref sig .tc := ⟨.hbm, 43, rfl⟩
abbrev main_call1_v1_0 : Ref sig .tc := ⟨.hbm, 44, rfl⟩
abbrev main_v28 : Ref sig .tc := ⟨.hbm, 45, rfl⟩
abbrev main_v29 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_cst : Ref sig .tc := ⟨.hbm, 66, rfl⟩
abbrev main_call2_v14 : Ref sig .tc := ⟨.hbm, 67, rfl⟩
abbrev main_v30 : Ref sig .tc := ⟨.hbm, 68, rfl⟩
abbrev main_v31 : Ref sig .tc := ⟨.hbm, 69, rfl⟩

abbrev nD : Nat := 1
abbrev τ : Topo := Topo.v7x

variable {F : FTy → Type} [FloatOps F]
-- ==== Proof.Ring.lean ====
/-
  Names, closed forms and pieces for the pipelined kernel: six four-slot rings over forty-eight column blocks of the
  three tables, each block's transfer started three trips before the trip that waits it, and the six transfers of the
  last 1696 columns in flight beside the whole loop.

  Every source is held in DISJOINT regions (a row split and column block of the weights, a column block of the mask
  and of the noise, and the last columns of each), so that a transfer's flight takes its region whole and gives it back.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Ring
public import Idealize.ShloMosaic.Lib.Ring.AtN
public import Idealize.ShloMosaic.Lib.Ring.Trips
public import Idealize.ShloMosaic.Lib.Affine
public import Idealize.ShloMosaic.Lib.Tactic

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The carried words before trip `k` -/

/-- The next block to start, on every ring. -/
def wA (k : ℕ) : BitVec 32 := BitVec.ofNat 32 (min (k + 3) 48)
/-- The block to wait, on every ring. -/
def wB (k : ℕ) : BitVec 32 := BitVec.ofNat 32 k
/-- The grid point, wrapped past the last. -/
def wC (k : ℕ) : BitVec 32 := BitVec.ofNat 32 (k % 48)

theorem trips_eq : k0_t1_loop.trips = 48 := by decide +kernel

/-! ## Canonical names -/

abbrev semOff (s : Fin 4) : Fin 1 → Nat := ![s.val]
theorem semOff_inb (s : Fin 4) : ∀ a, semOff s a + S1.size a ≤ S4.size a := by
  have := s.isLt; intro a; fin_cases a; show s.val + 1 ≤ 4; omega
abbrev tsemOff (s : Fin 6) : Fin 1 → Nat := ![s.val]
theorem tsemOff_inb (s : Fin 6) : ∀ a, tsemOff s a + S1.size a ≤ S6.size a := by
  have := s.isLt; intro a; fin_cases a; show s.val + 1 ≤ 6; omega
abbrev slotOffW (s : Fin 4) : Fin 4 → Nat := ![s.val, 0, 0, 0]
theorem slotOffW_inb (s : Fin 4) : ∀ a, slotOffW s a + S1x1x256x2048.size a ≤ S4x1x256x2048.size a := by
  have := s.isLt; intro a; fin_cases a
  · show s.val + 1 ≤ 4; omega
  · show 0 + 1 ≤ 1; omega
  · show 0 + 256 ≤ 256; omega
  · show 0 + 2048 ≤ 2048; omega
abbrev slotOffM (s : Fin 4) : Fin 3 → Nat := ![s.val, 0, 0]
theorem slotOffM_inb (s : Fin 4) : ∀ a, slotOffM s a + S1x128x2048.size a ≤ S4x128x2048.size a := by
  have := s.isLt; intro a; fin_cases a
  · show s.val + 1 ≤ 4; omega
  · show 0 + 128 ≤ 128; omega
  · show 0 + 2048 ≤ 2048; omega
abbrev blkOffW (i : Fin 4) (b : Fin 48) : Fin 3 → Nat := ![i.val, 0, 2048 * b.val]
theorem blkOffW_inb (i : Fin 4) (b : Fin 48) : ∀ a, blkOffW i b a + S1x256x2048.size a ≤ S4x256x98304.size a := by
  have := i.isLt; have := b.isLt; intro a; fin_cases a
  · show i.val + 1 ≤ 4; omega
  · show 0 + 256 ≤ 256; omega
  · show 2048 * b.val + 2048 ≤ 98304; omega
abbrev blkOffM (b : Fin 48) : Fin 2 → Nat := ![0, 2048 * b.val]
theorem blkOffM_inb (b : Fin 48) : ∀ a, blkOffM b a + S128x2048.size a ≤ S128x98304.size a := by
  have := b.isLt; intro a; fin_cases a
  · show 0 + 128 ≤ 128; omega
  · show 2048 * b.val + 2048 ≤ 98304; omega
abbrev tailOffW (i : Fin 4) : Fin 3 → Nat := ![i.val, 0, 98304]
theorem tailOffW_inb (i : Fin 4) : ∀ a, tailOffW i a + S1x256x1696.size a ≤ S4x256x100000.size a := by
  have := i.isLt; intro a; fin_cases a
  · show i.val + 1 ≤ 4; omega
  · show 0 + 256 ≤ 256; omega
  · show 98304 + 1696 ≤ 100000; omega
abbrev tslotOffW (i : Fin 4) : Fin 3 → Nat := ![i.val, 0, 0]
theorem tslotOffW_inb (i : Fin 4) : ∀ a, tslotOffW i a + S1x256x1696.size a ≤ S4x256x1696.size a := by
  have := i.isLt; intro a; fin_cases a
  · show i.val + 1 ≤ 4; omega
  · show 0 + 256 ≤ 256; omega
  · show 0 + 1696 ≤ 1696; omega

/-- The whole weights, mask and noise. -/
abbrev wM : Memref sig .tc .hbm S4x256x100000 .f32 := Memref.whole main_v3
abbrev mM : Memref sig .tc .hbm S128x100000 .i32 := Memref.whole main_v1
abbrev gM : Memref sig .tc .hbm S128x100000 .f32 := Memref.whole main_v2

/-- Slot `s`'s cell of a ring's four. -/
def cellR (S : DmaSems sig S4) (s : Fin 4) : DmaSems sig S_ :=
  (S.slice (Rect.unit (s := S4) (semOff s) S1.size (semOff_inb s))).squeeze S_ squeezes_S1_S_
/-- Slot `s` of a weights ring. -/
def slotW (A : Memref sig .tc .vmem S4x1x256x2048 .f32) (s : Fin 4) : Memref sig .tc .vmem S1x256x2048 .f32 :=
  (A.slice (Rect.unit (s := S4x1x256x2048) (slotOffW s) S1x1x256x2048.size (slotOffW_inb s)) (fun _ => rfl)).squeeze S1x256x2048 squeezes_S1x1x256x2048_S1x256x2048
/-- Slot `s` of the mask's or the noise's ring. -/
def slotM {e : EltTy} (A : Memref sig .tc .vmem S4x128x2048 e) (s : Fin 4) : Memref sig .tc .vmem S128x2048 e :=
  (A.slice (Rect.unit (s := S4x128x2048) (slotOffM s) S1x128x2048.size (slotOffM_inb s)) (fun _ => rfl)).squeeze S128x2048 squeezes_S1x128x2048_S128x2048
/-- Row split `i`, column block `b` of the weights. -/
def blkW (i : Fin 4) (b : Fin 48) : Memref sig .tc .hbm S1x256x2048 .f32 :=
  (wM.slice (Rect.unit (s := S4x256x100000) ![0, 0, 0] S4x256x98304.size inb_S4x256x100000_S4x256x98304_0_0_0) (fun _ => rfl)).slice
    (Rect.unit (s := S4x256x98304) (blkOffW i b) S1x256x2048.size (blkOffW_inb i b)) (fun _ => rfl)
/-- Column block `b` of the mask or the noise. -/
def blkM {e : EltTy} (A : Memref sig .tc .hbm S128x100000 e) (b : Fin 48) : Memref sig .tc .hbm S128x2048 e :=
  (A.slice (Rect.unit (s := S128x100000) ![0, 0] S128x98304.size inb_S128x100000_S128x98304_0_0) (fun _ => rfl)).slice
    (Rect.unit (s := S128x98304) (blkOffM b) S128x2048.size (blkOffM_inb b)) (fun _ => rfl)
/-- The last columns of row split `i` of the weights, -/
def tailW (i : Fin 4) : Memref sig .tc .hbm S256x1696 .f32 :=
  (wM.slice (Rect.unit (s := S4x256x100000) (tailOffW i) S1x256x1696.size (tailOffW_inb i)) (fun _ => rfl)).squeeze S256x1696 squeezes_S1x256x1696_S256x1696
/-- of the mask or the noise, -/
def tailM {e : EltTy} (A : Memref sig .tc .hbm S128x100000 e) : Memref sig .tc .hbm S128x1696 e :=
  A.slice (Rect.unit (s := S128x100000) ![0, 98304] S128x1696.size inb_S128x100000_S128x1696_0_98304) (fun _ => rfl)
/-- the buffer part the weights' land in, and their cell. -/
def tslotW (i : Fin 4) : Memref sig .tc .vmem S256x1696 .f32 :=
  ((Memref.whole cc0_scratch3 : Memref sig .tc .vmem S4x256x1696 .f32).slice (Rect.unit (s := S4x256x1696) (tslotOffW i) S1x256x1696.size (tslotOffW_inb i)) (fun _ => rfl)).squeeze S256x1696 squeezes_S1x256x1696_S256x1696
def tcell (s : Fin 6) : DmaSems sig S_ :=
  (cc0_scratch6.slice (Rect.unit (s := S6) (tsemOff s) S1.size (tsemOff_inb s))).squeeze S_ squeezes_S1_S_

instance (s : Fin 4) : ClosedOff (slotOffW s) := ⟨slotOffW s, rfl⟩
instance (s : Fin 4) : ClosedOff (slotOffM s) := ⟨slotOffM s, rfl⟩
instance (i : Fin 4) : ClosedOff (tslotOffW i) := ⟨tslotOffW i, rfl⟩
instance (i : Fin 4) : ClosedOff (tailOffW i) := ⟨tailOffW i, rfl⟩
instance (i : Fin 4) (b : Fin 48) : ClosedOff (blkOffW i b) := ⟨blkOffW i b, rfl⟩
instance (b : Fin 48) : ClosedOff (blkOffM b) := ⟨blkOffM b, rfl⟩

/-! ### A slice at an offset equal to a canonical one -/

theorem cellR_congr (S : DmaSems sig S4) {off : Fin 1 → Nat} {s : Fin 4} (e : off = semOff s) (hh) :
    (S.slice (Rect.unit (s := S4) off S1.size hh)).squeeze S_ squeezes_S1_S_ = cellR S s :=
  congrArg (fun A : DmaSems sig S1 => A.squeeze S_ squeezes_S1_S_) (SemArray.slice_unit_congr _ e _ _)
theorem tcell_congr {off : Fin 1 → Nat} {s : Fin 6} (e : off = tsemOff s) (hh) :
    (cc0_scratch6.slice (Rect.unit (s := S6) off S1.size hh)).squeeze S_ squeezes_S1_S_ = tcell s :=
  congrArg (fun A : DmaSems sig S1 => A.squeeze S_ squeezes_S1_S_) (SemArray.slice_unit_congr _ e _ _)
theorem slotW_congr (A : Memref sig .tc .vmem S4x1x256x2048 .f32) {off : Fin 4 → Nat} {s : Fin 4} (e : off = slotOffW s) (hh hs) :
    (A.slice (Rect.unit (s := S4x1x256x2048) off S1x1x256x2048.size hh) hs).squeeze S1x256x2048 squeezes_S1x1x256x2048_S1x256x2048 = slotW A s :=
  congrArg (fun M : Memref sig .tc .vmem S1x1x256x2048 .f32 => M.squeeze S1x256x2048 squeezes_S1x1x256x2048_S1x256x2048) (Memref.slice_unit_congr _ e _ _ _ _)
theorem slotM_congr {e : EltTy} (A : Memref sig .tc .vmem S4x128x2048 e) {off : Fin 3 → Nat} {s : Fin 4} (h : off = slotOffM s) (hh hs) :
    (A.slice (Rect.unit (s := S4x128x2048) off S1x128x2048.size hh) hs).squeeze S128x2048 squeezes_S1x128x2048_S128x2048 = slotM A s :=
  congrArg (fun M : Memref sig .tc .vmem S1x128x2048 e => M.squeeze S128x2048 squeezes_S1x128x2048_S128x2048) (Memref.slice_unit_congr _ h _ _ _ _)
theorem blkW_congr {off : Fin 3 → Nat} {i : Fin 4} {b : Fin 48} (e : off = blkOffW i b) (h0 hs0 hh hs) :
    ((wM.slice (Rect.unit (s := S4x256x100000) ![0, 0, 0] S4x256x98304.size h0) hs0).slice (Rect.unit (s := S4x256x98304) off S1x256x2048.size hh) hs) = blkW i b :=
  Memref.slice_unit_congr _ e _ _ hs (fun _ => rfl)
theorem blkM_congr {e : EltTy} (A : Memref sig .tc .hbm S128x100000 e) {off : Fin 2 → Nat} {b : Fin 48} (h : off = blkOffM b) (h0 hs0 hh hs) :
    ((A.slice (Rect.unit (s := S128x100000) ![0, 0] S128x98304.size h0) hs0).slice (Rect.unit (s := S128x98304) off S128x2048.size hh) hs) = blkM A b :=
  Memref.slice_unit_congr _ h _ _ hs (fun _ => rfl)
theorem tailW_congr {off : Fin 3 → Nat} {i : Fin 4} (e : off = tailOffW i) (hh hs) :
    (wM.slice (Rect.unit (s := S4x256x100000) off S1x256x1696.size hh) hs).squeeze S256x1696 squeezes_S1x256x1696_S256x1696 = tailW i :=
  congrArg (fun M : Memref sig .tc .hbm S1x256x1696 .f32 => M.squeeze S256x1696 squeezes_S1x256x1696_S256x1696) (Memref.slice_unit_congr _ e _ _ _ _)
theorem tslotW_congr {off : Fin 3 → Nat} {i : Fin 4} (e : off = tslotOffW i) (hh hs) :
    ((Memref.whole cc0_scratch3 : Memref sig .tc .vmem S4x256x1696 .f32).slice (Rect.unit (s := S4x256x1696) off S1x256x1696.size hh) hs).squeeze S256x1696 squeezes_S1x256x1696_S256x1696 = tslotW i :=
  congrArg (fun M : Memref sig .tc .vmem S1x256x1696 .f32 => M.squeeze S256x1696 squeezes_S1x256x1696_S256x1696) (Memref.slice_unit_congr _ e _ _ _ _)

/-! ### The prologue's slices -/

@[sl_canon] theorem canon1 (S : DmaSems sig S4) (hh) : (S.slice (Rect.unit (s := S4) (k0_off1) S1.size hh)).squeeze S_ squeezes_S1_S_ = cellR S 0 := cellR_congr S (by decide +kernel) _
@[sl_canon] theorem canon2 (A : Memref sig .tc .vmem S4x1x256x2048 .f32) (hh hs) : (A.slice (Rect.unit (s := S4x1x256x2048) (k0_off2) S1x1x256x2048.size hh) hs).squeeze S1x256x2048 squeezes_S1x1x256x2048_S1x256x2048 = slotW A 0 := slotW_congr A (by decide +kernel) _ _
@[sl_canon] theorem canon3 {e : EltTy} (A : Memref sig .tc .vmem S4x128x2048 e) (hh hs) : (A.slice (Rect.unit (s := S4x128x2048) (k0_off3) S1x128x2048.size hh) hs).squeeze S128x2048 squeezes_S1x128x2048_S128x2048 = slotM A 0 := slotM_congr A (by decide +kernel) _ _
@[sl_canon] theorem canonB0 (h0 hs0 hh hs) : ((wM.slice (Rect.unit (s := S4x256x100000) ![0, 0, 0] S4x256x98304.size h0) hs0).slice (Rect.unit (s := S4x256x98304) (![0, 0, 0]) S1x256x2048.size hh) hs) = blkW 0 0 := blkW_congr (by decide +kernel) _ _ _ _
@[sl_canon] theorem canonB1 (h0 hs0 hh hs) : ((wM.slice (Rect.unit (s := S4x256x100000) ![0, 0, 0] S4x256x98304.size h0) hs0).slice (Rect.unit (s := S4x256x98304) (![1, 0, 0]) S1x256x2048.size hh) hs) = blkW 1 0 := blkW_congr (by decide +kernel) _ _ _ _
@[sl_canon] theorem canonB2 (h0 hs0 hh hs) : ((wM.slice (Rect.unit (s := S4x256x100000) ![0, 0, 0] S4x256x98304.size h0) hs0).slice (Rect.unit (s := S4x256x98304) (![2, 0, 0]) S1x256x2048.size hh) hs) = blkW 2 0 := blkW_congr (by decide +kernel) _ _ _ _
@[sl_canon] theorem canonB3 (h0 hs0 hh hs) : ((wM.slice (Rect.unit (s := S4x256x100000) ![0, 0, 0] S4x256x98304.size h0) hs0).slice (Rect.unit (s := S4x256x98304) (![3, 0, 0]) S1x256x2048.size hh) hs) = blkW 3 0 := blkW_congr (by decide +kernel) _ _ _ _
@[sl_canon] theorem canonBM {e : EltTy} (A : Memref sig .tc .hbm S128x100000 e) (h0 hs0 hh hs) : ((A.slice (Rect.unit (s := S128x100000) ![0, 0] S128x98304.size h0) hs0).slice (Rect.unit (s := S128x98304) (![0, 0]) S128x2048.size hh) hs) = blkM A 0 := blkM_congr A (by decide +kernel) _ _ _ _
@[sl_canon] theorem canon4 (S : DmaSems sig S4) (hh) : (S.slice (Rect.unit (s := S4) (k0_off4) S1.size hh)).squeeze S_ squeezes_S1_S_ = cellR S 1 := cellR_congr S (by decide +kernel) _
@[sl_canon] theorem canon5 (A : Memref sig .tc .vmem S4x1x256x2048 .f32) (hh hs) : (A.slice (Rect.unit (s := S4x1x256x2048) (k0_off5) S1x1x256x2048.size hh) hs).squeeze S1x256x2048 squeezes_S1x1x256x2048_S1x256x2048 = slotW A 1 := slotW_congr A (by decide +kernel) _ _
@[sl_canon] theorem canon6 (h0 hs0 hh hs) : ((wM.slice (Rect.unit (s := S4x256x100000) ![0, 0, 0] S4x256x98304.size h0) hs0).slice (Rect.unit (s := S4x256x98304) (k0_off6) S1x256x2048.size hh) hs) = blkW 0 1 := blkW_congr (by decide +kernel) _ _ _ _
@[sl_canon] theorem canon7 (S : DmaSems sig S4) (hh) : (S.slice (Rect.unit (s := S4) (k0_off7) S1.size hh)).squeeze S_ squeezes_S1_S_ = cellR S 1 := cellR_congr S (by decide +kernel) _
@[sl_canon] theorem canon8 (A : Memref sig .tc .vmem S4x1x256x2048 .f32) (hh hs) : (A.slice (Rect.unit (s := S4x1x256x2048) (k0_off8) S1x1x256x2048.size hh) hs).squeeze S1x256x2048 squeezes_S1x1x256x2048_S1x256x2048 = slotW A 1 := slotW_congr A (by decide +kernel) _ _
@[sl_canon] theorem canon9 (h0 hs0 hh hs) : ((wM.slice (Rect.unit (s := S4x256x100000) ![0, 0, 0] S4x256x98304.size h0) hs0).slice (Rect.unit (s := S4x256x98304) (k0_off9) S1x256x2048.size hh) hs) = blkW 1 1 := blkW_congr (by decide +kernel) _ _ _ _
@[sl_canon] theorem canon10 (S : DmaSems sig S4) (hh) : (S.slice (Rect.unit (s := S4) (k0_off10) S1.size hh)).squeeze S_ squeezes_S1_S_ = cellR S 1 := cellR_congr S (by decide +kernel) _
@[sl_canon] theorem canon11 (A : Memref sig .tc .vmem S4x1x256x2048 .f32) (hh hs) : (A.slice (Rect.unit (s := S4x1x256x2048) (k0_off11) S1x1x256x2048.size hh) hs).squeeze S1x256x2048 squeezes_S1x1x256x2048_S1x256x2048 = slotW A 1 := slotW_congr A (by decide +kernel) _ _
@[sl_canon] theorem canon12 (h0 hs0 hh hs) : ((wM.slice (Rect.unit (s := S4x256x100000) ![0, 0, 0] S4x256x98304.size h0) hs0).slice (Rect.unit (s := S4x256x98304) (k0_off12) S1x256x2048.size hh) hs) = blkW 2 1 := blkW_congr (by decide +kernel) _ _ _ _
@[sl_canon] theorem canon13 (S : DmaSems sig S4) (hh) : (S.slice (Rect.unit (s := S4) (k0_off13) S1.size hh)).squeeze S_ squeezes_S1_S_ = cellR S 1 := cellR_congr S (by decide +kernel) _
@[sl_canon] theorem canon14 (A : Memref sig .tc .vmem S4x1x256x2048 .f32) (hh hs) : (A.slice (Rect.unit (s := S4x1x256x2048) (k0_off14) S1x1x256x2048.size hh) hs).squeeze S1x256x2048 squeezes_S1x1x256x2048_S1x256x2048 = slotW A 1 := slotW_congr A (by decide +kernel) _ _
@[sl_canon] theorem canon15 (h0 hs0 hh hs) : ((wM.slice (Rect.unit (s := S4x256x100000) ![0, 0, 0] S4x256x98304.size h0) hs0).slice (Rect.unit (s := S4x256x98304) (k0_off15) S1x256x2048.size hh) hs) = blkW 3 1 := blkW_congr (by decide +kernel) _ _ _ _
@[sl_canon] theorem canon16 (S : DmaSems sig S4) (hh) : (S.slice (Rect.unit (s := S4) (k0_off16) S1.size hh)).squeeze S_ squeezes_S1_S_ = cellR S 1 := cellR_congr S (by decide +kernel) _
@[sl_canon] theorem canon17 {e : EltTy} (A : Memref sig .tc .vmem S4x128x2048 e) (hh hs) : (A.slice (Rect.unit (s := S4x128x2048) (k0_off17) S1x128x2048.size hh) hs).squeeze S128x2048 squeezes_S1x128x2048_S128x2048 = slotM A 1 := slotM_congr A (by decide +kernel) _ _
@[sl_canon] theorem canon18 {e : EltTy} (A : Memref sig .tc .hbm S128x100000 e) (h0 hs0 hh hs) : ((A.slice (Rect.unit (s := S128x100000) ![0, 0] S128x98304.size h0) hs0).slice (Rect.unit (s := S128x98304) (k0_off18) S128x2048.size hh) hs) = blkM A 1 := blkM_congr A (by decide +kernel) _ _ _ _
@[sl_canon] theorem canon19 (S : DmaSems sig S4) (hh) : (S.slice (Rect.unit (s := S4) (k0_off19) S1.size hh)).squeeze S_ squeezes_S1_S_ = cellR S 1 := cellR_congr S (by decide +kernel) _
@[sl_canon] theorem canon20 {e : EltTy} (A : Memref sig .tc .vmem S4x128x2048 e) (hh hs) : (A.slice (Rect.unit (s := S4x128x2048) (k0_off20) S1x128x2048.size hh) hs).squeeze S128x2048 squeezes_S1x128x2048_S128x2048 = slotM A 1 := slotM_congr A (by decide +kernel) _ _
@[sl_canon] theorem canon21 {e : EltTy} (A : Memref sig .tc .hbm S128x100000 e) (h0 hs0 hh hs) : ((A.slice (Rect.unit (s := S128x100000) ![0, 0] S128x98304.size h0) hs0).slice (Rect.unit (s := S128x98304) (k0_off21) S128x2048.size hh) hs) = blkM A 1 := blkM_congr A (by decide +kernel) _ _ _ _
@[sl_canon] theorem canon22 (S : DmaSems sig S4) (hh) : (S.slice (Rect.unit (s := S4) (k0_off22) S1.size hh)).squeeze S_ squeezes_S1_S_ = cellR S 2 := cellR_congr S (by decide +kernel) _
@[sl_canon] theorem canon23 (A : Memref sig .tc .vmem S4x1x256x2048 .f32) (hh hs) : (A.slice (Rect.unit (s := S4x1x256x2048) (k0_off23) S1x1x256x2048.size hh) hs).squeeze S1x256x2048 squeezes_S1x1x256x2048_S1x256x2048 = slotW A 2 := slotW_congr A (by decide +kernel) _ _
@[sl_canon] theorem canon24 (h0 hs0 hh hs) : ((wM.slice (Rect.unit (s := S4x256x100000) ![0, 0, 0] S4x256x98304.size h0) hs0).slice (Rect.unit (s := S4x256x98304) (k0_off24) S1x256x2048.size hh) hs) = blkW 0 2 := blkW_congr (by decide +kernel) _ _ _ _
@[sl_canon] theorem canon25 (S : DmaSems sig S4) (hh) : (S.slice (Rect.unit (s := S4) (k0_off25) S1.size hh)).squeeze S_ squeezes_S1_S_ = cellR S 2 := cellR_congr S (by decide +kernel) _
@[sl_canon] theorem canon26 (A : Memref sig .tc .vmem S4x1x256x2048 .f32) (hh hs) : (A.slice (Rect.unit (s := S4x1x256x2048) (k0_off26) S1x1x256x2048.size hh) hs).squeeze S1x256x2048 squeezes_S1x1x256x2048_S1x256x2048 = slotW A 2 := slotW_congr A (by decide +kernel) _ _
@[sl_canon] theorem canon27 (h0 hs0 hh hs) : ((wM.slice (Rect.unit (s := S4x256x100000) ![0, 0, 0] S4x256x98304.size h0) hs0).slice (Rect.unit (s := S4x256x98304) (k0_off27) S1x256x2048.size hh) hs) = blkW 1 2 := blkW_congr (by decide +kernel) _ _ _ _
@[sl_canon] theorem canon28 (S : DmaSems sig S4) (hh) : (S.slice (Rect.unit (s := S4) (k0_off28) S1.size hh)).squeeze S_ squeezes_S1_S_ = cellR S 2 := cellR_congr S (by decide +kernel) _
@[sl_canon] theorem canon29 (A : Memref sig .tc .vmem S4x1x256x2048 .f32) (hh hs) : (A.slice (Rect.unit (s := S4x1x256x2048) (k0_off29) S1x1x256x2048.size hh) hs).squeeze S1x256x2048 squeezes_S1x1x256x2048_S1x256x2048 = slotW A 2 := slotW_congr A (by decide +kernel) _ _
@[sl_canon] theorem canon30 (h0 hs0 hh hs) : ((wM.slice (Rect.unit (s := S4x256x100000) ![0, 0, 0] S4x256x98304.size h0) hs0).slice (Rect.unit (s := S4x256x98304) (k0_off30) S1x256x2048.size hh) hs) = blkW 2 2 := blkW_congr (by decide +kernel) _ _ _ _
@[sl_canon] theorem canon31 (S : DmaSems sig S4) (hh) : (S.slice (Rect.unit (s := S4) (k0_off31) S1.size hh)).squeeze S_ squeezes_S1_S_ = cellR S 2 := cellR_congr S (by decide +kernel) _
@[sl_canon] theorem canon32 (A : Memref sig .tc .vmem S4x1x256x2048 .f32) (hh hs) : (A.slice (Rect.unit (s := S4x1x256x2048) (k0_off32) S1x1x256x2048.size hh) hs).squeeze S1x256x2048 squeezes_S1x1x256x2048_S1x256x2048 = slotW A 2 := slotW_congr A (by decide +kernel) _ _
@[sl_canon] theorem canon33 (h0 hs0 hh hs) : ((wM.slice (Rect.unit (s := S4x256x100000) ![0, 0, 0] S4x256x98304.size h0) hs0).slice (Rect.unit (s := S4x256x98304) (k0_off33) S1x256x2048.size hh) hs) = blkW 3 2 := blkW_congr (by decide +kernel) _ _ _ _
@[sl_canon] theorem canon34 (S : DmaSems sig S4) (hh) : (S.slice (Rect.unit (s := S4) (k0_off34) S1.size hh)).squeeze S_ squeezes_S1_S_ = cellR S 2 := cellR_congr S (by decide +kernel) _
@[sl_canon] theorem canon35 {e : EltTy} (A : Memref sig .tc .vmem S4x128x2048 e) (hh hs) : (A.slice (Rect.unit (s := S4x128x2048) (k0_off35) S1x128x2048.size hh) hs).squeeze S128x2048 squeezes_S1x128x2048_S128x2048 = slotM A 2 := slotM_congr A (by decide +kernel) _ _
@[sl_canon] theorem canon36 {e : EltTy} (A : Memref sig .tc .hbm S128x100000 e) (h0 hs0 hh hs) : ((A.slice (Rect.unit (s := S128x100000) ![0, 0] S128x98304.size h0) hs0).slice (Rect.unit (s := S128x98304) (k0_off36) S128x2048.size hh) hs) = blkM A 2 := blkM_congr A (by decide +kernel) _ _ _ _
@[sl_canon] theorem canon37 (S : DmaSems sig S4) (hh) : (S.slice (Rect.unit (s := S4) (k0_off37) S1.size hh)).squeeze S_ squeezes_S1_S_ = cellR S 2 := cellR_congr S (by decide +kernel) _
@[sl_canon] theorem canon38 {e : EltTy} (A : Memref sig .tc .vmem S4x128x2048 e) (hh hs) : (A.slice (Rect.unit (s := S4x128x2048) (k0_off38) S1x128x2048.size hh) hs).squeeze S128x2048 squeezes_S1x128x2048_S128x2048 = slotM A 2 := slotM_congr A (by decide +kernel) _ _
@[sl_canon] theorem canon39 {e : EltTy} (A : Memref sig .tc .hbm S128x100000 e) (h0 hs0 hh hs) : ((A.slice (Rect.unit (s := S128x100000) ![0, 0] S128x98304.size h0) hs0).slice (Rect.unit (s := S128x98304) (k0_off39) S128x2048.size hh) hs) = blkM A 2 := blkM_congr A (by decide +kernel) _ _ _ _

/-! ### The last columns' slices -/

@[sl_canon] theorem canonTW0 (hh hs) : (wM.slice (Rect.unit (s := S4x256x100000) ![0, 0, 98304] S1x256x1696.size hh) hs).squeeze S256x1696 squeezes_S1x256x1696_S256x1696 = tailW 0 := tailW_congr (by decide +kernel) _ _
@[sl_canon] theorem canonTS0 (hh hs) : ((Memref.whole cc0_scratch3 : Memref sig .tc .vmem S4x256x1696 .f32).slice (Rect.unit (s := S4x256x1696) ![0, 0, 0] S1x256x1696.size hh) hs).squeeze S256x1696 squeezes_S1x256x1696_S256x1696 = tslotW 0 := tslotW_congr (by decide +kernel) _ _
@[sl_canon] theorem canonTW1 (hh hs) : (wM.slice (Rect.unit (s := S4x256x100000) ![1, 0, 98304] S1x256x1696.size hh) hs).squeeze S256x1696 squeezes_S1x256x1696_S256x1696 = tailW 1 := tailW_congr (by decide +kernel) _ _
@[sl_canon] theorem canonTS1 (hh hs) : ((Memref.whole cc0_scratch3 : Memref sig .tc .vmem S4x256x1696 .f32).slice (Rect.unit (s := S4x256x1696) ![1, 0, 0] S1x256x1696.size hh) hs).squeeze S256x1696 squeezes_S1x256x1696_S256x1696 = tslotW 1 := tslotW_congr (by decide +kernel) _ _
@[sl_canon] theorem canonTW2 (hh hs) : (wM.slice (Rect.unit (s := S4x256x100000) ![2, 0, 98304] S1x256x1696.size hh) hs).squeeze S256x1696 squeezes_S1x256x1696_S256x1696 = tailW 2 := tailW_congr (by decide +kernel) _ _
@[sl_canon] theorem canonTS2 (hh hs) : ((Memref.whole cc0_scratch3 : Memref sig .tc .vmem S4x256x1696 .f32).slice (Rect.unit (s := S4x256x1696) ![2, 0, 0] S1x256x1696.size hh) hs).squeeze S256x1696 squeezes_S1x256x1696_S256x1696 = tslotW 2 := tslotW_congr (by decide +kernel) _ _
@[sl_canon] theorem canonTW3 (hh hs) : (wM.slice (Rect.unit (s := S4x256x100000) ![3, 0, 98304] S1x256x1696.size hh) hs).squeeze S256x1696 squeezes_S1x256x1696_S256x1696 = tailW 3 := tailW_congr (by decide +kernel) _ _
@[sl_canon] theorem canonTS3 (hh hs) : ((Memref.whole cc0_scratch3 : Memref sig .tc .vmem S4x256x1696 .f32).slice (Rect.unit (s := S4x256x1696) ![3, 0, 0] S1x256x1696.size hh) hs).squeeze S256x1696 squeezes_S1x256x1696_S256x1696 = tslotW 3 := tslotW_congr (by decide +kernel) _ _
@[sl_canon] theorem canonTC0 (hh) : (cc0_scratch6.slice (Rect.unit (s := S6) ![0] S1.size hh)).squeeze S_ squeezes_S1_S_ = tcell 0 := tcell_congr (by decide +kernel) _
@[sl_canon] theorem canonTC1 (hh) : (cc0_scratch6.slice (Rect.unit (s := S6) ![1] S1.size hh)).squeeze S_ squeezes_S1_S_ = tcell 1 := tcell_congr (by decide +kernel) _
@[sl_canon] theorem canonTC2 (hh) : (cc0_scratch6.slice (Rect.unit (s := S6) ![2] S1.size hh)).squeeze S_ squeezes_S1_S_ = tcell 2 := tcell_congr (by decide +kernel) _
@[sl_canon] theorem canonTC3 (hh) : (cc0_scratch6.slice (Rect.unit (s := S6) ![3] S1.size hh)).squeeze S_ squeezes_S1_S_ = tcell 3 := tcell_congr (by decide +kernel) _
@[sl_canon] theorem canonTC4 (hh) : (cc0_scratch6.slice (Rect.unit (s := S6) ![4] S1.size hh)).squeeze S_ squeezes_S1_S_ = tcell 4 := tcell_congr (by decide +kernel) _
@[sl_canon] theorem canonTC5 (hh) : (cc0_scratch6.slice (Rect.unit (s := S6) ![5] S1.size hh)).squeeze S_ squeezes_S1_S_ = tcell 5 := tcell_congr (by decide +kernel) _
@[sl_canon] theorem canonTM {e : EltTy} (A : Memref sig .tc .hbm S128x100000 e) (hh hs) : A.slice (Rect.unit (s := S128x100000) ![0, 98304] S128x1696.size hh) hs = tailM A := rfl

/-! ### Trip `k`'s slices: started at `k + 3`, waited and read at `k` -/

theorem off40_eq : ∀ k : Fin k0_t1_loop.trips, k.val < 45 → k0_off40 (wA k.val) = semOff (Ring.sl 4 (k.val + 3)) := by decide +kernel
@[sl_canon] theorem canon40 (S : DmaSems sig S4) (k : Fin k0_t1_loop.trips) (hk : k.val < 45) (hh) : (S.slice (Rect.unit (s := S4) (k0_off40 (wA k.val)) S1.size hh)).squeeze S_ squeezes_S1_S_ = cellR S (Ring.sl 4 (k.val + 3)) := cellR_congr S (off40_eq k hk) _
theorem off41_eq : ∀ k : Fin k0_t1_loop.trips, k.val < 45 → k0_off41 (wA k.val) = slotOffW (Ring.sl 4 (k.val + 3)) := by decide +kernel
@[sl_canon] theorem canon41 (A : Memref sig .tc .vmem S4x1x256x2048 .f32) (k : Fin k0_t1_loop.trips) (hk : k.val < 45) (hh hs) : (A.slice (Rect.unit (s := S4x1x256x2048) (k0_off41 (wA k.val)) S1x1x256x2048.size hh) hs).squeeze S1x256x2048 squeezes_S1x1x256x2048_S1x256x2048 = slotW A (Ring.sl 4 (k.val + 3)) := slotW_congr A (off41_eq k hk) _ _
theorem off42_eq : ∀ k : Fin k0_t1_loop.trips, k.val < 45 → k0_off42 (wC k.val) = blkOffW 0 (Ring.bk 48 (k.val + 3)) := by decide +kernel
@[sl_canon] theorem canon42 (k : Fin k0_t1_loop.trips) (hk : k.val < 45) (h0 hs0 hh hs) : ((wM.slice (Rect.unit (s := S4x256x100000) ![0, 0, 0] S4x256x98304.size h0) hs0).slice (Rect.unit (s := S4x256x98304) (k0_off42 (wC k.val)) S1x256x2048.size hh) hs) = blkW 0 (Ring.bk 48 (k.val + 3)) := blkW_congr (off42_eq k hk) _ _ _ _
theorem off43_eq : ∀ k : Fin k0_t1_loop.trips, k.val < 45 → k0_off43 (wA k.val) = semOff (Ring.sl 4 (k.val + 3)) := by decide +kernel
@[sl_canon] theorem canon43 (S : DmaSems sig S4) (k : Fin k0_t1_loop.trips) (hk : k.val < 45) (hh) : (S.slice (Rect.unit (s := S4) (k0_off43 (wA k.val)) S1.size hh)).squeeze S_ squeezes_S1_S_ = cellR S (Ring.sl 4 (k.val + 3)) := cellR_congr S (off43_eq k hk) _
theorem off44_eq : ∀ k : Fin k0_t1_loop.trips, k.val < 45 → k0_off44 (wA k.val) = slotOffW (Ring.sl 4 (k.val + 3)) := by decide +kernel
@[sl_canon] theorem canon44 (A : Memref sig .tc .vmem S4x1x256x2048 .f32) (k : Fin k0_t1_loop.trips) (hk : k.val < 45) (hh hs) : (A.slice (Rect.unit (s := S4x1x256x2048) (k0_off44 (wA k.val)) S1x1x256x2048.size hh) hs).squeeze S1x256x2048 squeezes_S1x1x256x2048_S1x256x2048 = slotW A (Ring.sl 4 (k.val + 3)) := slotW_congr A (off44_eq k hk) _ _
theorem off45_eq : ∀ k : Fin k0_t1_loop.trips, k.val < 45 → k0_off45 (wC k.val) = blkOffW 1 (Ring.bk 48 (k.val + 3)) := by decide +kernel
@[sl_canon] theorem canon45 (k : Fin k0_t1_loop.trips) (hk : k.val < 45) (h0 hs0 hh hs) : ((wM.slice (Rect.unit (s := S4x256x100000) ![0, 0, 0] S4x256x98304.size h0) hs0).slice (Rect.unit (s := S4x256x98304) (k0_off45 (wC k.val)) S1x256x2048.size hh) hs) = blkW 1 (Ring.bk 48 (k.val + 3)) := blkW_congr (off45_eq k hk) _ _ _ _
theorem off46_eq : ∀ k : Fin k0_t1_loop.trips, k.val < 45 → k0_off46 (wA k.val) = semOff (Ring.sl 4 (k.val + 3)) := by decide +kernel
@[sl_canon] theorem canon46 (S : DmaSems sig S4) (k : Fin k0_t1_loop.trips) (hk : k.val < 45) (hh) : (S.slice (Rect.unit (s := S4) (k0_off46 (wA k.val)) S1.size hh)).squeeze S_ squeezes_S1_S_ = cellR S (Ring.sl 4 (k.val + 3)) := cellR_congr S (off46_eq k hk) _
theorem off47_eq : ∀ k : Fin k0_t1_loop.trips, k.val < 45 → k0_off47 (wA k.val) = slotOffW (Ring.sl 4 (k.val + 3)) := by decide +kernel
@[sl_canon] theorem canon47 (A : Memref sig .tc .vmem S4x1x256x2048 .f32) (k : Fin k0_t1_loop.trips) (hk : k.val < 45) (hh hs) : (A.slice (Rect.unit (s := S4x1x256x2048) (k0_off47 (wA k.val)) S1x1x256x2048.size hh) hs).squeeze S1x256x2048 squeezes_S1x1x256x2048_S1x256x2048 = slotW A (Ring.sl 4 (k.val + 3)) := slotW_congr A (off47_eq k hk) _ _
theorem off48_eq : ∀ k : Fin k0_t1_loop.trips, k.val < 45 → k0_off48 (wC k.val) = blkOffW 2 (Ring.bk 48 (k.val + 3)) := by decide +kernel
@[sl_canon] theorem canon48 (k : Fin k0_t1_loop.trips) (hk : k.val < 45) (h0 hs0 hh hs) : ((wM.slice (Rect.unit (s := S4x256x100000) ![0, 0, 0] S4x256x98304.size h0) hs0).slice (Rect.unit (s := S4x256x98304) (k0_off48 (wC k.val)) S1x256x2048.size hh) hs) = blkW 2 (Ring.bk 48 (k.val + 3)) := blkW_congr (off48_eq k hk) _ _ _ _
theorem off49_eq : ∀ k : Fin k0_t1_loop.trips, k.val < 45 → k0_off49 (wA k.val) = semOff (Ring.sl 4 (k.val + 3)) := by decide +kernel
@[sl_canon] theorem canon49 (S : DmaSems sig S4) (k : Fin k0_t1_loop.trips) (hk : k.val < 45) (hh) : (S.slice (Rect.unit (s := S4) (k0_off49 (wA k.val)) S1.size hh)).squeeze S_ squeezes_S1_S_ = cellR S (Ring.sl 4 (k.val + 3)) := cellR_congr S (off49_eq k hk) _
theorem off50_eq : ∀ k : Fin k0_t1_loop.trips, k.val < 45 → k0_off50 (wA k.val) = slotOffW (Ring.sl 4 (k.val + 3)) := by decide +kernel
@[sl_canon] theorem canon50 (A : Memref sig .tc .vmem S4x1x256x2048 .f32) (k : Fin k0_t1_loop.trips) (hk : k.val < 45) (hh hs) : (A.slice (Rect.unit (s := S4x1x256x2048) (k0_off50 (wA k.val)) S1x1x256x2048.size hh) hs).squeeze S1x256x2048 squeezes_S1x1x256x2048_S1x256x2048 = slotW A (Ring.sl 4 (k.val + 3)) := slotW_congr A (off50_eq k hk) _ _
theorem off51_eq : ∀ k : Fin k0_t1_loop.trips, k.val < 45 → k0_off51 (wC k.val) = blkOffW 3 (Ring.bk 48 (k.val + 3)) := by decide +kernel
@[sl_canon] theorem canon51 (k : Fin k0_t1_loop.trips) (hk : k.val < 45) (h0 hs0 hh hs) : ((wM.slice (Rect.unit (s := S4x256x100000) ![0, 0, 0] S4x256x98304.size h0) hs0).slice (Rect.unit (s := S4x256x98304) (k0_off51 (wC k.val)) S1x256x2048.size hh) hs) = blkW 3 (Ring.bk 48 (k.val + 3)) := blkW_congr (off51_eq k hk) _ _ _ _
theorem off52_eq : ∀ k : Fin k0_t1_loop.trips, k.val < 45 → k0_off52 (wA k.val) = semOff (Ring.sl 4 (k.val + 3)) := by decide +kernel
@[sl_canon] theorem canon52 (S : DmaSems sig S4) (k : Fin k0_t1_loop.trips) (hk : k.val < 45) (hh) : (S.slice (Rect.unit (s := S4) (k0_off52 (wA k.val)) S1.size hh)).squeeze S_ squeezes_S1_S_ = cellR S (Ring.sl 4 (k.val + 3)) := cellR_congr S (off52_eq k hk) _
theorem off53_eq : ∀ k : Fin k0_t1_loop.trips, k.val < 45 → k0_off53 (wA k.val) = slotOffM (Ring.sl 4 (k.val + 3)) := by decide +kernel
@[sl_canon] theorem canon53 {e : EltTy} (A : Memref sig .tc .vmem S4x128x2048 e) (k : Fin k0_t1_loop.trips) (hk : k.val < 45) (hh hs) : (A.slice (Rect.unit (s := S4x128x2048) (k0_off53 (wA k.val)) S1x128x2048.size hh) hs).squeeze S128x2048 squeezes_S1x128x2048_S128x2048 = slotM A (Ring.sl 4 (k.val + 3)) := slotM_congr A (off53_eq k hk) _ _
theorem off54_eq : ∀ k : Fin k0_t1_loop.trips, k.val < 45 → k0_off54 (wC k.val) = blkOffM (Ring.bk 48 (k.val + 3)) := by decide +kernel
@[sl_canon] theorem canon54 {e : EltTy} (A : Memref sig .tc .hbm S128x100000 e) (k : Fin k0_t1_loop.trips) (hk : k.val < 45) (h0 hs0 hh hs) : ((A.slice (Rect.unit (s := S128x100000) ![0, 0] S128x98304.size h0) hs0).slice (Rect.unit (s := S128x98304) (k0_off54 (wC k.val)) S128x2048.size hh) hs) = blkM A (Ring.bk 48 (k.val + 3)) := blkM_congr A (off54_eq k hk) _ _ _ _
theorem off55_eq : ∀ k : Fin k0_t1_loop.trips, k.val < 45 → k0_off55 (wA k.val) = semOff (Ring.sl 4 (k.val + 3)) := by decide +kernel
@[sl_canon] theorem canon55 (S : DmaSems sig S4) (k : Fin k0_t1_loop.trips) (hk : k.val < 45) (hh) : (S.slice (Rect.unit (s := S4) (k0_off55 (wA k.val)) S1.size hh)).squeeze S_ squeezes_S1_S_ = cellR S (Ring.sl 4 (k.val + 3)) := cellR_congr S (off55_eq k hk) _
theorem off56_eq : ∀ k : Fin k0_t1_loop.trips, k.val < 45 → k0_off56 (wA k.val) = slotOffM (Ring.sl 4 (k.val + 3)) := by decide +kernel
@[sl_canon] theorem canon56 {e : EltTy} (A : Memref sig .tc .vmem S4x128x2048 e) (k : Fin k0_t1_loop.trips) (hk : k.val < 45) (hh hs) : (A.slice (Rect.unit (s := S4x128x2048) (k0_off56 (wA k.val)) S1x128x2048.size hh) hs).squeeze S128x2048 squeezes_S1x128x2048_S128x2048 = slotM A (Ring.sl 4 (k.val + 3)) := slotM_congr A (off56_eq k hk) _ _
theorem off57_eq : ∀ k : Fin k0_t1_loop.trips, k.val < 45 → k0_off57 (wC k.val) = blkOffM (Ring.bk 48 (k.val + 3)) := by decide +kernel
@[sl_canon] theorem canon57 {e : EltTy} (A : Memref sig .tc .hbm S128x100000 e) (k : Fin k0_t1_loop.trips) (hk : k.val < 45) (h0 hs0 hh hs) : ((A.slice (Rect.unit (s := S128x100000) ![0, 0] S128x98304.size h0) hs0).slice (Rect.unit (s := S128x98304) (k0_off57 (wC k.val)) S128x2048.size hh) hs) = blkM A (Ring.bk 48 (k.val + 3)) := blkM_congr A (off57_eq k hk) _ _ _ _
theorem off58_eq : ∀ k : Fin k0_t1_loop.trips, k0_off58 (wB k.val) = semOff (Ring.sl 4 k.val) := by decide +kernel
@[sl_canon] theorem canon58 (S : DmaSems sig S4) (k : Fin k0_t1_loop.trips) (hh) : (S.slice (Rect.unit (s := S4) (k0_off58 (wB k.val)) S1.size hh)).squeeze S_ squeezes_S1_S_ = cellR S (Ring.sl 4 k.val) := cellR_congr S (off58_eq k) _
theorem off59_eq : ∀ k : Fin k0_t1_loop.trips, k0_off59 (wB k.val) = slotOffW (Ring.sl 4 k.val) := by decide +kernel
@[sl_canon] theorem canon59 (A : Memref sig .tc .vmem S4x1x256x2048 .f32) (k : Fin k0_t1_loop.trips) (hh hs) : (A.slice (Rect.unit (s := S4x1x256x2048) (k0_off59 (wB k.val)) S1x1x256x2048.size hh) hs).squeeze S1x256x2048 squeezes_S1x1x256x2048_S1x256x2048 = slotW A (Ring.sl 4 k.val) := slotW_congr A (off59_eq k) _ _
theorem off60_eq : ∀ k : Fin k0_t1_loop.trips, k0_off60 (wC k.val) = blkOffW 0 (Ring.bk 48 k.val) := by decide +kernel
@[sl_canon] theorem canon60 (k : Fin k0_t1_loop.trips) (h0 hs0 hh hs) : ((wM.slice (Rect.unit (s := S4x256x100000) ![0, 0, 0] S4x256x98304.size h0) hs0).slice (Rect.unit (s := S4x256x98304) (k0_off60 (wC k.val)) S1x256x2048.size hh) hs) = blkW 0 (Ring.bk 48 k.val) := blkW_congr (off60_eq k) _ _ _ _
theorem off61_eq : ∀ k : Fin k0_t1_loop.trips, k0_off61 (wB k.val) = semOff (Ring.sl 4 k.val) := by decide +kernel
@[sl_canon] theorem canon61 (S : DmaSems sig S4) (k : Fin k0_t1_loop.trips) (hh) : (S.slice (Rect.unit (s := S4) (k0_off61 (wB k.val)) S1.size hh)).squeeze S_ squeezes_S1_S_ = cellR S (Ring.sl 4 k.val) := cellR_congr S (off61_eq k) _
theorem off62_eq : ∀ k : Fin k0_t1_loop.trips, k0_off62 (wB k.val) = slotOffW (Ring.sl 4 k.val) := by decide +kernel
@[sl_canon] theorem canon62 (A : Memref sig .tc .vmem S4x1x256x2048 .f32) (k : Fin k0_t1_loop.trips) (hh hs) : (A.slice (Rect.unit (s := S4x1x256x2048) (k0_off62 (wB k.val)) S1x1x256x2048.size hh) hs).squeeze S1x256x2048 squeezes_S1x1x256x2048_S1x256x2048 = slotW A (Ring.sl 4 k.val) := slotW_congr A (off62_eq k) _ _
theorem off63_eq : ∀ k : Fin k0_t1_loop.trips, k0_off63 (wC k.val) = blkOffW 1 (Ring.bk 48 k.val) := by decide +kernel
@[sl_canon] theorem canon63 (k : Fin k0_t1_loop.trips) (h0 hs0 hh hs) : ((wM.slice (Rect.unit (s := S4x256x100000) ![0, 0, 0] S4x256x98304.size h0) hs0).slice (Rect.unit (s := S4x256x98304) (k0_off63 (wC k.val)) S1x256x2048.size hh) hs) = blkW 1 (Ring.bk 48 k.val) := blkW_congr (off63_eq k) _ _ _ _
theorem off64_eq : ∀ k : Fin k0_t1_loop.trips, k0_off64 (wB k.val) = semOff (Ring.sl 4 k.val) := by decide +kernel
@[sl_canon] theorem canon64 (S : DmaSems sig S4) (k : Fin k0_t1_loop.trips) (hh) : (S.slice (Rect.unit (s := S4) (k0_off64 (wB k.val)) S1.size hh)).squeeze S_ squeezes_S1_S_ = cellR S (Ring.sl 4 k.val) := cellR_congr S (off64_eq k) _
theorem off65_eq : ∀ k : Fin k0_t1_loop.trips, k0_off65 (wB k.val) = slotOffW (Ring.sl 4 k.val) := by decide +kernel
@[sl_canon] theorem canon65 (A : Memref sig .tc .vmem S4x1x256x2048 .f32) (k : Fin k0_t1_loop.trips) (hh hs) : (A.slice (Rect.unit (s := S4x1x256x2048) (k0_off65 (wB k.val)) S1x1x256x2048.size hh) hs).squeeze S1x256x2048 squeezes_S1x1x256x2048_S1x256x2048 = slotW A (Ring.sl 4 k.val) := slotW_congr A (off65_eq k) _ _
theorem off66_eq : ∀ k : Fin k0_t1_loop.trips, k0_off66 (wC k.val) = blkOffW 2 (Ring.bk 48 k.val) := by decide +kernel
@[sl_canon] theorem canon66 (k : Fin k0_t1_loop.trips) (h0 hs0 hh hs) : ((wM.slice (Rect.unit (s := S4x256x100000) ![0, 0, 0] S4x256x98304.size h0) hs0).slice (Rect.unit (s := S4x256x98304) (k0_off66 (wC k.val)) S1x256x2048.size hh) hs) = blkW 2 (Ring.bk 48 k.val) := blkW_congr (off66_eq k) _ _ _ _
theorem off67_eq : ∀ k : Fin k0_t1_loop.trips, k0_off67 (wB k.val) = semOff (Ring.sl 4 k.val) := by decide +kernel
@[sl_canon] theorem canon67 (S : DmaSems sig S4) (k : Fin k0_t1_loop.trips) (hh) : (S.slice (Rect.unit (s := S4) (k0_off67 (wB k.val)) S1.size hh)).squeeze S_ squeezes_S1_S_ = cellR S (Ring.sl 4 k.val) := cellR_congr S (off67_eq k) _
theorem off68_eq : ∀ k : Fin k0_t1_loop.trips, k0_off68 (wB k.val) = slotOffW (Ring.sl 4 k.val) := by decide +kernel
@[sl_canon] theorem canon68 (A : Memref sig .tc .vmem S4x1x256x2048 .f32) (k : Fin k0_t1_loop.trips) (hh hs) : (A.slice (Rect.unit (s := S4x1x256x2048) (k0_off68 (wB k.val)) S1x1x256x2048.size hh) hs).squeeze S1x256x2048 squeezes_S1x1x256x2048_S1x256x2048 = slotW A (Ring.sl 4 k.val) := slotW_congr A (off68_eq k) _ _
theorem off69_eq : ∀ k : Fin k0_t1_loop.trips, k0_off69 (wC k.val) = blkOffW 3 (Ring.bk 48 k.val) := by decide +kernel
@[sl_canon] theorem canon69 (k : Fin k0_t1_loop.trips) (h0 hs0 hh hs) : ((wM.slice (Rect.unit (s := S4x256x100000) ![0, 0, 0] S4x256x98304.size h0) hs0).slice (Rect.unit (s := S4x256x98304) (k0_off69 (wC k.val)) S1x256x2048.size hh) hs) = blkW 3 (Ring.bk 48 k.val) := blkW_congr (off69_eq k) _ _ _ _
theorem off70_eq : ∀ k : Fin k0_t1_loop.trips, k0_off70 (wB k.val) = semOff (Ring.sl 4 k.val) := by decide +kernel
@[sl_canon] theorem canon70 (S : DmaSems sig S4) (k : Fin k0_t1_loop.trips) (hh) : (S.slice (Rect.unit (s := S4) (k0_off70 (wB k.val)) S1.size hh)).squeeze S_ squeezes_S1_S_ = cellR S (Ring.sl 4 k.val) := cellR_congr S (off70_eq k) _
theorem off71_eq : ∀ k : Fin k0_t1_loop.trips, k0_off71 (wB k.val) = slotOffM (Ring.sl 4 k.val) := by decide +kernel
@[sl_canon] theorem canon71 {e : EltTy} (A : Memref sig .tc .vmem S4x128x2048 e) (k : Fin k0_t1_loop.trips) (hh hs) : (A.slice (Rect.unit (s := S4x128x2048) (k0_off71 (wB k.val)) S1x128x2048.size hh) hs).squeeze S128x2048 squeezes_S1x128x2048_S128x2048 = slotM A (Ring.sl 4 k.val) := slotM_congr A (off71_eq k) _ _
theorem off72_eq : ∀ k : Fin k0_t1_loop.trips, k0_off72 (wC k.val) = blkOffM (Ring.bk 48 k.val) := by decide +kernel
@[sl_canon] theorem canon72 {e : EltTy} (A : Memref sig .tc .hbm S128x100000 e) (k : Fin k0_t1_loop.trips) (h0 hs0 hh hs) : ((A.slice (Rect.unit (s := S128x100000) ![0, 0] S128x98304.size h0) hs0).slice (Rect.unit (s := S128x98304) (k0_off72 (wC k.val)) S128x2048.size hh) hs) = blkM A (Ring.bk 48 k.val) := blkM_congr A (off72_eq k) _ _ _ _
theorem off73_eq : ∀ k : Fin k0_t1_loop.trips, k0_off73 (wB k.val) = semOff (Ring.sl 4 k.val) := by decide +kernel
@[sl_canon] theorem canon73 (S : DmaSems sig S4) (k : Fin k0_t1_loop.trips) (hh) : (S.slice (Rect.unit (s := S4) (k0_off73 (wB k.val)) S1.size hh)).squeeze S_ squeezes_S1_S_ = cellR S (Ring.sl 4 k.val) := cellR_congr S (off73_eq k) _
theorem off74_eq : ∀ k : Fin k0_t1_loop.trips, k0_off74 (wB k.val) = slotOffM (Ring.sl 4 k.val) := by decide +kernel
@[sl_canon] theorem canon74 {e : EltTy} (A : Memref sig .tc .vmem S4x128x2048 e) (k : Fin k0_t1_loop.trips) (hh hs) : (A.slice (Rect.unit (s := S4x128x2048) (k0_off74 (wB k.val)) S1x128x2048.size hh) hs).squeeze S128x2048 squeezes_S1x128x2048_S128x2048 = slotM A (Ring.sl 4 k.val) := slotM_congr A (off74_eq k) _ _
theorem off75_eq : ∀ k : Fin k0_t1_loop.trips, k0_off75 (wC k.val) = blkOffM (Ring.bk 48 k.val) := by decide +kernel
@[sl_canon] theorem canon75 {e : EltTy} (A : Memref sig .tc .hbm S128x100000 e) (k : Fin k0_t1_loop.trips) (h0 hs0 hh hs) : ((A.slice (Rect.unit (s := S128x100000) ![0, 0] S128x98304.size h0) hs0).slice (Rect.unit (s := S128x98304) (k0_off75 (wC k.val)) S128x2048.size hh) hs) = blkM A (Ring.bk 48 k.val) := blkM_congr A (off75_eq k) _ _ _ _
theorem off76_eq : ∀ k : Fin k0_t1_loop.trips, k0_off76 (wB k.val) = slotOffW (Ring.sl 4 k.val) := by decide +kernel
@[sl_canon] theorem canon76 (A : Memref sig .tc .vmem S4x1x256x2048 .f32) (k : Fin k0_t1_loop.trips) (hh hs) : (A.slice (Rect.unit (s := S4x1x256x2048) (k0_off76 (wB k.val)) S1x1x256x2048.size hh) hs).squeeze S1x256x2048 squeezes_S1x1x256x2048_S1x256x2048 = slotW A (Ring.sl 4 k.val) := slotW_congr A (off76_eq k) _ _
theorem off77_eq : ∀ k : Fin k0_t1_loop.trips, k0_off77 (wB k.val) = slotOffW (Ring.sl 4 k.val) := by decide +kernel
@[sl_canon] theorem canon77 (A : Memref sig .tc .vmem S4x1x256x2048 .f32) (k : Fin k0_t1_loop.trips) (hh hs) : (A.slice (Rect.unit (s := S4x1x256x2048) (k0_off77 (wB k.val)) S1x1x256x2048.size hh) hs).squeeze S1x256x2048 squeezes_S1x1x256x2048_S1x256x2048 = slotW A (Ring.sl 4 k.val) := slotW_congr A (off77_eq k) _ _
theorem off78_eq : ∀ k : Fin k0_t1_loop.trips, k0_off78 (wB k.val) = slotOffW (Ring.sl 4 k.val) := by decide +kernel
@[sl_canon] theorem canon78 (A : Memref sig .tc .vmem S4x1x256x2048 .f32) (k : Fin k0_t1_loop.trips) (hh hs) : (A.slice (Rect.unit (s := S4x1x256x2048) (k0_off78 (wB k.val)) S1x1x256x2048.size hh) hs).squeeze S1x256x2048 squeezes_S1x1x256x2048_S1x256x2048 = slotW A (Ring.sl 4 k.val) := slotW_congr A (off78_eq k) _ _
theorem off79_eq : ∀ k : Fin k0_t1_loop.trips, k0_off79 (wB k.val) = slotOffW (Ring.sl 4 k.val) := by decide +kernel
@[sl_canon] theorem canon79 (A : Memref sig .tc .vmem S4x1x256x2048 .f32) (k : Fin k0_t1_loop.trips) (hh hs) : (A.slice (Rect.unit (s := S4x1x256x2048) (k0_off79 (wB k.val)) S1x1x256x2048.size hh) hs).squeeze S1x256x2048 squeezes_S1x1x256x2048_S1x256x2048 = slotW A (Ring.sl 4 k.val) := slotW_congr A (off79_eq k) _ _
theorem off80_eq : ∀ k : Fin k0_t1_loop.trips, k0_off80 (wB k.val) = slotOffM (Ring.sl 4 k.val) := by decide +kernel
instance (k : Fin k0_t1_loop.trips) : ClosedOff (k0_off80 (wB k.val)) := ⟨slotOffM (Ring.sl 4 k.val), off80_eq k⟩
theorem off81_eq : ∀ k : Fin k0_t1_loop.trips, k0_off81 (wB k.val) = slotOffM (Ring.sl 4 k.val) := by decide +kernel
instance (k : Fin k0_t1_loop.trips) : ClosedOff (k0_off81 (wB k.val)) := ⟨slotOffM (Ring.sl 4 k.val), off81_eq k⟩
instance (k : Fin k0_t1_loop.trips) : ClosedOff (k0_off71 (wB k.val)) := ⟨slotOffM (Ring.sl 4 k.val), off71_eq k⟩
instance (k : Fin k0_t1_loop.trips) : ClosedOff (k0_off74 (wB k.val)) := ⟨slotOffM (Ring.sl 4 k.val), off74_eq k⟩

/-! ## The trip's checks and conditions -/

theorem chk1_holds : ∀ k : Fin k0_t1_loop.trips, k0_chk1 k (wA k.val) (wB k.val) (wA k.val) (wB k.val) (wA k.val) (wB k.val) (wA k.val) (wB k.val) (wA k.val) (wB k.val) (wA k.val) (wB k.val) (wC k.val) := by decide +kernel
theorem chk2_holds : ∀ k : Fin k0_t1_loop.trips, k0_chk2 (wB k.val) := by decide +kernel
theorem chk3_holds : ∀ k : Fin k0_t1_loop.trips, k0_chk3 (wB k.val) := by decide +kernel
theorem chk4_holds : ∀ k : Fin k0_t1_loop.trips, k0_chk4 (wB k.val) := by decide +kernel
theorem chk5_holds : ∀ k : Fin k0_t1_loop.trips, k0_chk5 (wB k.val) := by decide +kernel
theorem chk6_holds : ∀ k : Fin k0_t1_loop.trips, k0_chk6 (wB k.val) := by decide +kernel
theorem chk7_holds : ∀ k : Fin k0_t1_loop.trips, k0_chk7 (wB k.val) := by decide +kernel
theorem cond13_on : ∀ k : Fin k0_t1_loop.trips, k.val < 45 → k0_cond13 k (wC k.val) = 1#1 := by decide +kernel
theorem cond13_off : ∀ k : Fin k0_t1_loop.trips, ¬ k.val < 45 → ¬ k0_cond13 k (wC k.val) = 1#1 := by decide +kernel
theorem cond14_on : ∀ k : Fin k0_t1_loop.trips, k.val < 45 → k0_cond14 k (wC k.val) = 1#1 := by decide +kernel
theorem cond14_off : ∀ k : Fin k0_t1_loop.trips, ¬ k.val < 45 → ¬ k0_cond14 k (wC k.val) = 1#1 := by decide +kernel
theorem cond15_on : ∀ k : Fin k0_t1_loop.trips, k.val < 45 → k0_cond15 k (wC k.val) = 1#1 := by decide +kernel
theorem cond15_off : ∀ k : Fin k0_t1_loop.trips, ¬ k.val < 45 → ¬ k0_cond15 k (wC k.val) = 1#1 := by decide +kernel
theorem cond16_on : ∀ k : Fin k0_t1_loop.trips, k.val < 45 → k0_cond16 k (wC k.val) = 1#1 := by decide +kernel
theorem cond16_off : ∀ k : Fin k0_t1_loop.trips, ¬ k.val < 45 → ¬ k0_cond16 k (wC k.val) = 1#1 := by decide +kernel
theorem cond17_on : ∀ k : Fin k0_t1_loop.trips, k.val < 45 → k0_cond17 k (wC k.val) = 1#1 := by decide +kernel
theorem cond17_off : ∀ k : Fin k0_t1_loop.trips, ¬ k.val < 45 → ¬ k0_cond17 k (wC k.val) = 1#1 := by decide +kernel
theorem cond18_on : ∀ k : Fin k0_t1_loop.trips, k.val < 45 → k0_cond18 k (wC k.val) = 1#1 := by decide +kernel
theorem cond18_off : ∀ k : Fin k0_t1_loop.trips, ¬ k.val < 45 → ¬ k0_cond18 k (wC k.val) = 1#1 := by decide +kernel
theorem cond19_on : ∀ k : Fin k0_t1_loop.trips, k0_cond19 k (wC k.val) = 1#1 := by decide +kernel
theorem cond20_on : ∀ k : Fin k0_t1_loop.trips, k0_cond20 k (wC k.val) = 1#1 := by decide +kernel
theorem cond21_on : ∀ k : Fin k0_t1_loop.trips, k0_cond21 k (wC k.val) = 1#1 := by decide +kernel
theorem cond22_on : ∀ k : Fin k0_t1_loop.trips, k0_cond22 k (wC k.val) = 1#1 := by decide +kernel
theorem cond23_on : ∀ k : Fin k0_t1_loop.trips, k0_cond23 k (wC k.val) = 1#1 := by decide +kernel
theorem cond24_on : ∀ k : Fin k0_t1_loop.trips, k0_cond24 k (wC k.val) = 1#1 := by decide +kernel
theorem cond1_on : k0_cond1 = 1#1 := by decide +kernel
theorem cond2_on : k0_cond2 = 1#1 := by decide +kernel
theorem cond3_on : k0_cond3 = 1#1 := by decide +kernel
theorem cond4_on : k0_cond4 = 1#1 := by decide +kernel
theorem cond5_on : k0_cond5 = 1#1 := by decide +kernel
theorem cond6_on : k0_cond6 = 1#1 := by decide +kernel
theorem cond7_on : k0_cond7 = 1#1 := by decide +kernel
theorem cond8_on : k0_cond8 = 1#1 := by decide +kernel
theorem cond9_on : k0_cond9 = 1#1 := by decide +kernel
theorem cond10_on : k0_cond10 = 1#1 := by decide +kernel
theorem cond11_on : k0_cond11 = 1#1 := by decide +kernel
theorem cond12_on : k0_cond12 = 1#1 := by decide +kernel

end Cert.Proof.Ideal

end
-- ==== Proof.State.lean ====
/-
  What the loop's buffers hold, over any float values: the running columns as a record, one block's step on it, and
  the block data as the tables give it.
-/
module

public import proofs.«01_k».proof.Proof.Ring
public import Idealize.ShloMosaic.Lib.Pipeline.FrameSuffix
public import Idealize.ShloMosaic.Lib.WritesUnit
public import Idealize.ShloMosaic.Lib.VecWindow

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ
abbrev 𝒱₀ : Variants := Variants.none

/-! ## The pieces -/

abbrev aW0 : Memref sig .tc .vmem S4x1x256x2048 .f32 := Memref.whole cc0_scoped0
abbrev aW1 : Memref sig .tc .vmem S4x1x256x2048 .f32 := Memref.whole cc0_scoped2
abbrev aW2 : Memref sig .tc .vmem S4x1x256x2048 .f32 := Memref.whole cc0_scoped4
abbrev aW3 : Memref sig .tc .vmem S4x1x256x2048 .f32 := Memref.whole cc0_scoped6
abbrev aMk : Memref sig .tc .vmem S4x128x2048 .i32 := Memref.whole cc0_scoped8
abbrev aGn : Memref sig .tc .vmem S4x128x2048 .f32 := Memref.whole cc0_scoped10
abbrev stM : Memref sig .tc .vmem S128x8 .f32 := Memref.whole cc0_scratch0
abbrev ixM : Memref sig .tc .vmem S128x2 .i32 := Memref.whole cc0_scratch1
abbrev cnM : Memref sig .tc .smem S1 .i32 := Memref.whole cc0_scratch2

section Pieces
variable (c : Dev nD) (XW : Buf (Elt F) (wM.view.loc (c : Thread nD τ))) (XM : Buf (Elt F) (mM.view.loc (c : Thread nD τ)))
  (XG : Buf (Elt F) (gM.view.loc (c : Thread nD τ)))

/-- A buffer part held whole. -/
abbrev ptP {sp : Space} {S : Shape} {e : EltTy} (A : Memref sig .tc sp S e) (f : Buf (Elt F) (A.view.loc (c : Thread nD τ))) : sProp 𝕄 :=
  A.view.loc (c : Thread nD τ) ↦[A.view.set]{fullShare} f
abbrev cellP (S : DmaSems sig S4) (s : Fin 4) : sProp 𝕄 := semVal ((c : Thread nD τ), SemLoc.dma (cellR S s).sem) 0
/-- What a transfer of `B` leaves in `A` over prior contents. -/
abbrev landed {sp sp' : Space} {S : Shape} {e : EltTy} (A : Memref sig .tc sp S e) (B : Memref sig .tc sp' S e)
    (X : Buf (Elt F) (B.view.loc (c : Thread nD τ))) (f : Buf (Elt F) (A.view.loc (c : Thread nD τ))) : Buf (Elt F) (A.view.loc (c : Thread nD τ)) :=
  A.view.writes (Elt F) f [⟨Rect.whole S, ReadAs.same.apply (B.view.read (Elt F) X)⟩]
/-- A region of a table HOME: held at the table's contents. -/
abbrev homeW (i : Fin 4) (b : Fin 48) : sProp 𝕄 := ptP c (blkW i b) XW
abbrev homeM (b : Fin 48) : sProp 𝕄 := ptP c (blkM mM b) XM
abbrev homeG (b : Fin 48) : sProp 𝕄 := ptP c (blkM gM b) XG
/-- Slot `s` of weights ring `A`, cells `S`, IN FLIGHT with split `i`'s block `b`, started over `f`. -/
abbrev flightW (A : Memref sig .tc .vmem S4x1x256x2048 .f32) (S : DmaSems sig S4) (i : Fin 4) (s : Fin 4) (b : Fin 48)
    (f : Buf (Elt F) ((slotW A s).view.loc (c : Thread nD τ))) : sProp 𝕄 :=
  Transfers.Flight countersEmb (c : Thread nD τ) (SemLoc.dma (cellR S s).sem) () 65536
    iprop(ptP c (slotW A s) (landed c (slotW A s) (blkW i b) XW f) ∗ homeW c XW i b)
/-- The same for the mask's ring -/
abbrev flightM (s : Fin 4) (b : Fin 48) (f : Buf (Elt F) ((slotM aMk s).view.loc (c : Thread nD τ))) : sProp 𝕄 :=
  Transfers.Flight countersEmb (c : Thread nD τ) (SemLoc.dma (cellR cc0_scoped9 s).sem) () 32768
    iprop(ptP c (slotM aMk s) (landed c (slotM aMk s) (blkM mM b) XM f) ∗ homeM c XM b)
/-- and the noise's. -/
abbrev flightG (s : Fin 4) (b : Fin 48) (f : Buf (Elt F) ((slotM aGn s).view.loc (c : Thread nD τ))) : sProp 𝕄 :=
  Transfers.Flight countersEmb (c : Thread nD τ) (SemLoc.dma (cellR cc0_scoped11 s).sem) () 32768
    iprop(ptP c (slotM aGn s) (landed c (slotM aGn s) (blkM gM b) XG f) ∗ homeG c XG b)

end Pieces

/-! ## The running columns -/

abbrev SB (n : ℕ) : Shape := ⟨2, ![128, n]⟩

/-- The running columns: the maximum and the two sums of exponentials, the count, and the best score, its logit and
    its index under the mask and without it. -/
structure St (F : FTy → Type) where
  m : FVec F S128x1 .f32
  a : FVec F S128x1 .f32
  b : FVec F S128x1 .f32
  n : FVec F S128x1 .f32
  bs : FVec F S128x1 .f32
  bl : FVec F S128x1 .f32
  us : FVec F S128x1 .f32
  ul : FVec F S128x1 .f32
  ib : IVec S128x1 32
  iu : IVec S128x1 32

section Step
variable {n : ℕ} (hB : S128x1.Broadcasts (SB n)) (hR : (SB n).Reduces [1] S128)

/-- The rows' maxima, as a column. -/
def rmax (x : FVec F (SB n) .f32) : FVec F S128x1 .f32 :=
  shapeCast S128x1 (multiReduction .maximumf [1] S128 x 0xFF800000#32 hR (.inl rfl) rfl) shapeCasts_S128_S128x1
/-- The rows' sums, as a column. -/
def rsum (x : FVec F (SB n) .f32) : FVec F S128x1 .f32 :=
  shapeCast S128x1 (multiReduction .add [1] S128 x 0#32 hR (.inl rfl) rfl) shapeCasts_S128_S128x1
/-- Each row's first column that holds the row's maximum, numbered by `gidx`. -/
def rarg (x : FVec F (SB n) .f32) (gidx : IVec (SB n) 32) : IVec S128x1 32 :=
  shapeCast S128x1 (multiReductionI .minsi [1] S128
    (select (cmpf .oeq x (broadcastTo (SB n) (rmax hR x) hB)) gidx (broadcast (SB n) 1073741824#32)) 2147483647#32 hR rfl) shapeCasts_S128_S128x1
/-- Each row's logit there. -/
def rlog (l x : FVec F (SB n) .f32) (gidx : IVec (SB n) 32) : FVec F S128x1 .f32 :=
  rmax hR (select (cmpi .eq gidx (broadcastTo (SB n) (rarg hB hR x gidx) hB)) l (broadcast (SB n) (FloatOps.ofBits .f32 0xFF800000#32)))

/-- One block's step: its logits `l`, noise `g`, mask bits `mb` and column numbers `gidx`. -/
def accum (l g : FVec F (SB n) .f32) (mb : IVec (SB n) 1) (gidx : IVec (SB n) 32) (s : St F) : St F where
  m := maximumf s.m (rmax hR l)
  a := addf (mulf s.a (exp (subf s.m (maximumf s.m (rmax hR l)))))
    (rsum hR (exp (subf l (broadcastTo (SB n) (maximumf s.m (rmax hR l)) hB))))
  b := addf (mulf s.b (exp (subf s.m (maximumf s.m (rmax hR l)))))
    (rsum hR (select mb (exp (subf l (broadcastTo (SB n) (maximumf s.m (rmax hR l)) hB))) (broadcast (SB n) (FloatOps.ofBits .f32 0#32))))
  n := addf s.n (rsum hR (sitofp .f32 (extui 32 mb natLt_1_32)))
  bs := select (cmpf .ogt (rmax hR (select mb (addf l g) (broadcast (SB n) (FloatOps.ofBits .f32 0xFF800000#32)))) s.bs)
    (rmax hR (select mb (addf l g) (broadcast (SB n) (FloatOps.ofBits .f32 0xFF800000#32)))) s.bs
  bl := select (cmpf .ogt (rmax hR (select mb (addf l g) (broadcast (SB n) (FloatOps.ofBits .f32 0xFF800000#32)))) s.bs)
    (rlog hB hR l (select mb (addf l g) (broadcast (SB n) (FloatOps.ofBits .f32 0xFF800000#32))) gidx) s.bl
  ib := select (cmpf .ogt (rmax hR (select mb (addf l g) (broadcast (SB n) (FloatOps.ofBits .f32 0xFF800000#32)))) s.bs)
    (rarg hB hR (select mb (addf l g) (broadcast (SB n) (FloatOps.ofBits .f32 0xFF800000#32))) gidx) s.ib
  us := select (cmpf .ogt (rmax hR (addf l g)) s.us) (rmax hR (addf l g)) s.us
  ul := select (cmpf .ogt (rmax hR (addf l g)) s.us) (rlog hB hR l (addf l g) gidx) s.ul
  iu := select (cmpf .ogt (rmax hR (addf l g)) s.us) (rarg hB hR (addf l g) gidx) s.iu

end Step

/-- A column cast to its own shape is itself, ten times over. -/
theorem stMk_cast (p0 p1 p2 p3 p4 p5 p6 p7 : FVec F S128x1 .f32) (q0 q1 : IVec S128x1 32) :
    (⟨shapeCast S128x1 p0 shapeCasts_S128x1_S128x1, shapeCast S128x1 p1 shapeCasts_S128x1_S128x1, shapeCast S128x1 p2 shapeCasts_S128x1_S128x1, shapeCast S128x1 p3 shapeCasts_S128x1_S128x1, shapeCast S128x1 p4 shapeCasts_S128x1_S128x1, shapeCast S128x1 p5 shapeCasts_S128x1_S128x1, shapeCast S128x1 p6 shapeCasts_S128x1_S128x1, shapeCast S128x1 p7 shapeCasts_S128x1_S128x1, shapeCast S128x1 q0 shapeCasts_S128x1_S128x1, shapeCast S128x1 q1 shapeCasts_S128x1_S128x1⟩ : St F) = ⟨p0, p1, p2, p3, p4, p5, p6, p7, q0, q1⟩ := by
  have h : ∀ {α : Type} (p : S128x1.Idx → α), shapeCast S128x1 p shapeCasts_S128x1_S128x1 = p :=
    fun p => funext fun x => congrArg p (Shape.reshapeEquiv_self _ x)
  rw [h p0, h p1, h p2, h p3, h p4, h p5, h p6, h p7, h q0, h q1]

/-! ## The columns as the buffers hold them -/

section Cols
variable (c : Dev nD)

/-- Two columns of one buffer that differ: a store into one leaves the other. -/
theorem readAt_miss {d : ℕ} {e : EltTy} {sp : Space} (v : View sig .tc sp (⟨2, ![128, d]⟩ : Shape) e) (f : v.ty.Contents (Elt F)) {j j' : ℕ} (h : j ≠ j')
    (hj : ∀ a, (![0, j] : Fin 2 → ℕ) a + S128x1.size a ≤ (⟨2, ![128, d]⟩ : Shape).size a) (hj' : ∀ a, (![0, j'] : Fin 2 → ℕ) a + S128x1.size a ≤ (⟨2, ![128, d]⟩ : Shape).size a)
    (w : S128x1.Idx → Elt F e) (L : List (View.Piece (Elt F) (⟨2, ![128, d]⟩ : Shape) e)) :
    v.readAt (Elt F) (Rect.unit (s := ⟨2, ![128, d]⟩) ![0, j] S128x1.size hj).toLoadRect (v.writes (Elt F) f ((⟨Rect.unit (s := ⟨2, ![128, d]⟩) ![0, j'] S128x1.size hj', w⟩ : View.Piece (Elt F) (⟨2, ![128, d]⟩ : Shape) e) :: L))
      = v.readAt (Elt F) (Rect.unit (s := ⟨2, ![128, d]⟩) ![0, j] S128x1.size hj).toLoadRect (v.writes (Elt F) f L) := by
  funext x
  refine View.read_writes_cons_unit_of_not_mem v f hj' w L _ rfl (1 : Fin 2) ?_
  have hx : (x (1 : Fin 2)).val < 1 := (x (1 : Fin 2)).isLt
  show j + 1 * (x (1 : Fin 2)).val < j' ∨ j' + 1 ≤ j + 1 * (x (1 : Fin 2)).val
  omega
/-- A store into a column is read back. -/
theorem readAt_hit {d : ℕ} {e : EltTy} {sp : Space} (v : View sig .tc sp (⟨2, ![128, d]⟩ : Shape) e) (f : v.ty.Contents (Elt F)) {j : ℕ}
    (hj : ∀ a, (![0, j] : Fin 2 → ℕ) a + S128x1.size a ≤ (⟨2, ![128, d]⟩ : Shape).size a)
    (w : S128x1.Idx → Elt F e) (L : List (View.Piece (Elt F) (⟨2, ![128, d]⟩ : Shape) e)) :
    v.readAt (Elt F) (Rect.unit (s := ⟨2, ![128, d]⟩) ![0, j] S128x1.size hj).toLoadRect (v.writes (Elt F) f ((⟨Rect.unit (s := ⟨2, ![128, d]⟩) ![0, j] S128x1.size hj, w⟩ : View.Piece (Elt F) (⟨2, ![128, d]⟩ : Shape) e) :: L)) = w := by
  funext x
  exact View.read_writes_cons_unit_of_mem v f hj w L _ x rfl (fun a => by
    show (![0, j] : Fin 2 → ℕ) a + 1 * (x a).val = _; omega)

abbrev S8 : Shape := S128x8
/-- The record the two buffers hold. -/
def stOf (g9 : Buf (Elt F) (stM.view.loc (c : Thread nD τ))) (g10 : Buf (Elt F) (ixM.view.loc (c : Thread nD τ))) : St F where
  m := View.readAt (Elt F) stM.view (Rect.unit (s := S128x8) ![0, 0] S128x1.size inb_S128x8_S128x1_0_0).toLoadRect g9
  a := View.readAt (Elt F) stM.view (Rect.unit (s := S128x8) ![0, 1] S128x1.size inb_S128x8_S128x1_0_1).toLoadRect g9
  b := View.readAt (Elt F) stM.view (Rect.unit (s := S128x8) ![0, 2] S128x1.size inb_S128x8_S128x1_0_2).toLoadRect g9
  n := View.readAt (Elt F) stM.view (Rect.unit (s := S128x8) ![0, 3] S128x1.size inb_S128x8_S128x1_0_3).toLoadRect g9
  bs := View.readAt (Elt F) stM.view (Rect.unit (s := S128x8) ![0, 4] S128x1.size inb_S128x8_S128x1_0_4).toLoadRect g9
  bl := View.readAt (Elt F) stM.view (Rect.unit (s := S128x8) ![0, 5] S128x1.size inb_S128x8_S128x1_0_5).toLoadRect g9
  us := View.readAt (Elt F) stM.view (Rect.unit (s := S128x8) ![0, 6] S128x1.size inb_S128x8_S128x1_0_6).toLoadRect g9
  ul := View.readAt (Elt F) stM.view (Rect.unit (s := S128x8) ![0, 7] S128x1.size inb_S128x8_S128x1_0_7).toLoadRect g9
  ib := View.readAt (Elt F) ixM.view (Rect.unit (s := S128x2) ![0, 0] S128x1.size inb_S128x2_S128x1_0_0).toLoadRect g10
  iu := View.readAt (Elt F) ixM.view (Rect.unit (s := S128x2) ![0, 1] S128x1.size inb_S128x2_S128x1_0_1).toLoadRect g10

/-- Written column by column, the buffers hold those columns. -/
theorem stOf_writes (g9 : Buf (Elt F) (stM.view.loc (c : Thread nD τ))) (g10 : Buf (Elt F) (ixM.view.loc (c : Thread nD τ)))
    (p0 p1 p2 p3 p4 p5 p6 p7 : S128x1.Idx → Elt F .f32) (q0 q1 : S128x1.Idx → Elt F .i32) :
    stOf c (stM.view.writes (Elt F) g9 [⟨Rect.unit (s := S128x8) ![0, 7] S128x1.size inb_S128x8_S128x1_0_7, p7⟩, ⟨Rect.unit (s := S128x8) ![0, 6] S128x1.size inb_S128x8_S128x1_0_6, p6⟩, ⟨Rect.unit (s := S128x8) ![0, 5] S128x1.size inb_S128x8_S128x1_0_5, p5⟩, ⟨Rect.unit (s := S128x8) ![0, 4] S128x1.size inb_S128x8_S128x1_0_4, p4⟩, ⟨Rect.unit (s := S128x8) ![0, 3] S128x1.size inb_S128x8_S128x1_0_3, p3⟩, ⟨Rect.unit (s := S128x8) ![0, 2] S128x1.size inb_S128x8_S128x1_0_2, p2⟩, ⟨Rect.unit (s := S128x8) ![0, 1] S128x1.size inb_S128x8_S128x1_0_1, p1⟩, ⟨Rect.unit (s := S128x8) ![0, 0] S128x1.size inb_S128x8_S128x1_0_0, p0⟩]) (ixM.view.writes (Elt F) g10 [⟨Rect.unit (s := S128x2) ![0, 1] S128x1.size inb_S128x2_S128x1_0_1, q1⟩, ⟨Rect.unit (s := S128x2) ![0, 0] S128x1.size inb_S128x2_S128x1_0_0, q0⟩])
      = ⟨p0, p1, p2, p3, p4, p5, p6, p7, q0, q1⟩ := by
  unfold stOf
  congr 1
  · exact (readAt_miss stM.view g9 (by decide) _ _ _ _).trans ((readAt_miss stM.view g9 (by decide) _ _ _ _).trans ((readAt_miss stM.view g9 (by decide) _ _ _ _).trans ((readAt_miss stM.view g9 (by decide) _ _ _ _).trans ((readAt_miss stM.view g9 (by decide) _ _ _ _).trans ((readAt_miss stM.view g9 (by decide) _ _ _ _).trans ((readAt_miss stM.view g9 (by decide) _ _ _ _).trans (readAt_hit stM.view g9 _ _ _)))))))
  · exact (readAt_miss stM.view g9 (by decide) _ _ _ _).trans ((readAt_miss stM.view g9 (by decide) _ _ _ _).trans ((readAt_miss stM.view g9 (by decide) _ _ _ _).trans ((readAt_miss stM.view g9 (by decide) _ _ _ _).trans ((readAt_miss stM.view g9 (by decide) _ _ _ _).trans ((readAt_miss stM.view g9 (by decide) _ _ _ _).trans (readAt_hit stM.view g9 _ _ _))))))
  · exact (readAt_miss stM.view g9 (by decide) _ _ _ _).trans ((readAt_miss stM.view g9 (by decide) _ _ _ _).trans ((readAt_miss stM.view g9 (by decide) _ _ _ _).trans ((readAt_miss stM.view g9 (by decide) _ _ _ _).trans ((readAt_miss stM.view g9 (by decide) _ _ _ _).trans (readAt_hit stM.view g9 _ _ _)))))
  · exact (readAt_miss stM.view g9 (by decide) _ _ _ _).trans ((readAt_miss stM.view g9 (by decide) _ _ _ _).trans ((readAt_miss stM.view g9 (by decide) _ _ _ _).trans ((readAt_miss stM.view g9 (by decide) _ _ _ _).trans (readAt_hit stM.view g9 _ _ _))))
  · exact (readAt_miss stM.view g9 (by decide) _ _ _ _).trans ((readAt_miss stM.view g9 (by decide) _ _ _ _).trans ((readAt_miss stM.view g9 (by decide) _ _ _ _).trans (readAt_hit stM.view g9 _ _ _)))
  · exact (readAt_miss stM.view g9 (by decide) _ _ _ _).trans ((readAt_miss stM.view g9 (by decide) _ _ _ _).trans (readAt_hit stM.view g9 _ _ _))
  · exact (readAt_miss stM.view g9 (by decide) _ _ _ _).trans (readAt_hit stM.view g9 _ _ _)
  · exact readAt_hit stM.view g9 _ _ _
  · exact (readAt_miss ixM.view g10 (by decide) _ _ _ _).trans (readAt_hit ixM.view g10 _ _ _)
  · exact readAt_hit ixM.view g10 _ _ _

/-- The block counter's word. -/
def cntOf (g11 : Buf (Elt F) (cnM.view.loc (c : Thread nD τ))) : BitVec 32 :=
  View.readAt (Elt F) cnM.view (Rect.unit (s := S1) ![0] S1.size inb_S1_S1_0).toLoadRect g11 (Shape.Idx.first (numel1_S1.symm ▸ Nat.one_pos))
theorem cntOf_writes (g11 : Buf (Elt F) (cnM.view.loc (c : Thread nD τ))) (w : BitVec 32) :
    cntOf c (cnM.view.writes (Elt F) g11 [⟨Rect.unit (s := S1) ![0] S1.size inb_S1_S1_0, fun _ => w⟩]) = w :=
  congrFun (View.readAt_writes_full cnM.view g11 (s := S1) inb_S1_S1_0 inb_S1_S1_0 (fun _ => w) []) _

end Cols

/-! ## The blocks' data -/

section Data
variable (c : Dev nD) (XW : Buf (Elt F) (wM.view.loc (c : Thread nD τ))) (XM : Buf (Elt F) (mM.view.loc (c : Thread nD τ)))
  (XG : Buf (Elt F) (gM.view.loc (c : Thread nD τ))) (arg0 : Memref sig .tc .vmem S128x1024 .f32) (g0 : Buf (Elt F) (arg0.view.loc (c : Thread nD τ)))

abbrev wDat (i : Fin 4) (b : Fin 48) : S1x256x2048.Idx → Elt F .f32 := ReadAs.same.apply (View.read (Elt F) (blkW i b).view XW)
abbrev mDat (b : Fin 48) : S128x2048.Idx → Elt F .i32 := ReadAs.same.apply (View.read (Elt F) (blkM mM b).view XM)
abbrev gDat (b : Fin 48) : S128x2048.Idx → Elt F .f32 := ReadAs.same.apply (View.read (Elt F) (blkM gM b).view XG)
def hDat0 : FVec F S128x256 .f32 := shapeCast S128x256 (View.readAt (Elt F) arg0.view (Rect.unit (s := S128x1024) ![0, 0] S128x256.size inb_S128x1024_S128x256_0_0).toLoadRect g0) shapeCasts_S128x256_S128x256
def hDat1 : FVec F S128x256 .f32 := shapeCast S128x256 (View.readAt (Elt F) arg0.view (Rect.unit (s := S128x1024) ![0, 256] S128x256.size inb_S128x1024_S128x256_0_256).toLoadRect g0) shapeCasts_S128x256_S128x256
def hDat2 : FVec F S128x256 .f32 := shapeCast S128x256 (View.readAt (Elt F) arg0.view (Rect.unit (s := S128x1024) ![0, 512] S128x256.size inb_S128x1024_S128x256_0_512).toLoadRect g0) shapeCasts_S128x256_S128x256
def hDat3 : FVec F S128x256 .f32 := shapeCast S128x256 (View.readAt (Elt F) arg0.view (Rect.unit (s := S128x1024) ![0, 768] S128x256.size inb_S128x1024_S128x256_0_768).toLoadRect g0) shapeCasts_S128x256_S128x256
/-- A block's logits: the four row splits' products, added. -/
def lgOf (h0 h1 h2 h3 : FVec F S128x256 .f32) (w0 w1 w2 w3 : FVec F S1x256x2048 .f32) : FVec F S128x2048 .f32 :=
  addf (addf (addf (matmul dot_S128x256_S256x2048_S128x2048_1_0_0_1_n_n none h0 (shapeCast S256x2048 w0 shapeCasts_S1x256x2048_S256x2048) (constant S128x2048 .f32 0#32))
      (matmul dot_S128x256_S256x2048_S128x2048_1_0_0_1_n_n none h1 (shapeCast S256x2048 w1 shapeCasts_S1x256x2048_S256x2048) (constant S128x2048 .f32 0#32)))
      (matmul dot_S128x256_S256x2048_S128x2048_1_0_0_1_n_n none h2 (shapeCast S256x2048 w2 shapeCasts_S1x256x2048_S256x2048) (constant S128x2048 .f32 0#32)))
      (matmul dot_S128x256_S256x2048_S128x2048_1_0_0_1_n_n none h3 (shapeCast S256x2048 w3 shapeCasts_S1x256x2048_S256x2048) (constant S128x2048 .f32 0#32))
def lgBlk (b : Fin 48) : FVec F S128x2048 .f32 :=
  lgOf (hDat0 c arg0 g0) (hDat1 c arg0 g0) (hDat2 c arg0 g0) (hDat3 c arg0 g0) (wDat c XW 0 b) (wDat c XW 1 b) (wDat c XW 2 b) (wDat c XW 3 b)
/-- The column numbers of the block the counter's word names. -/
def gidxOf (w : BitVec 32) : IVec S128x2048 32 :=
  addi (broadcast S128x2048 (Scalar.muli w 2048#32)) (iota .tc S128x2048 32 [1] iota_S128x2048_d1_w32)
def mbOf (x : IVec S128x2048 32) : IVec S128x2048 1 := cmpi .ne x (broadcast S128x2048 0#32)

/-- Block `b`'s step, the counter at `w`. -/
def blkSt (b : Fin 48) (w : BitVec 32) (s : St F) : St F :=
  accum broadcasts_S128x1_S128x2048 reduces_S128x2048_S128 (lgBlk c XW arg0 g0 b) (gDat c XG b) (mbOf (mDat c XM b)) (gidxOf w) s

/-- What a weights slot reads once block `b` has landed. -/
theorem wSlot_read (A : Memref sig .tc .vmem S4x1x256x2048 .f32) (s : Fin 4) (x : S1x256x2048.Idx → Elt F .f32) (inb) :
    (slotW A s).view.readCov [(⟨Rect.whole S1x256x2048, x⟩ : View.Piece (Elt F) S1x256x2048 .f32)] (Rect.unit (s := S1x256x2048) ![0, 0, 0] S1x256x2048.size inb).toLoadRect = x :=
  View.readCov_full (s := S1x256x2048) (slotW A s).view inb (off' := fun _ => 0) (fun a => by simp) x []
/-- What the mask's or the noise's slot reads through the whole ring once a block has landed. -/
theorem mSlot_read {e : EltTy} (A : Memref sig .tc .vmem S4x128x2048 e) (s : Fin 4) (x : S128x2048.Idx → Elt F e) {off : Fin 3 → ℕ} (h : off = slotOffM s) (inb)
    (f : A.view.ty.Contents (Elt F)) (hc) :
    shapeCast S128x2048 (View.readAt (Elt F) A.view (Rect.unit (s := S4x128x2048) off S1x128x2048.size inb).toLoadRect
      ((slotM A s).view.writes (Elt F) f [(⟨Rect.whole S128x2048, x⟩ : View.Piece (Elt F) S128x2048 e)])) hc = x := by
  subst h
  have h1 : View.read (Elt F) (slotM A s).view ((slotM A s).view.writes (Elt F) f [(⟨Rect.whole S128x2048, x⟩ : View.Piece (Elt F) S128x2048 e)]) = x :=
    View.read_writes_full (s := S128x2048) (slotM A s).view f (off := fun _ => 0) (fun a => by simp) x []
  exact h1

end Data

end Cert.Proof.Ideal

end
-- ==== Proof.Trip.lean ====
/-
  ONE TRIP of the pipelined loop, at a symbolic trip, in its two cases: a trip that starts a block (`k < 45`) and one
  of the last three, that starts none.
-/
module

public import proofs.«01_k».proof.Proof.State

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Trip

variable (c : Dev nD) (XW : Buf (Elt F) (wM.view.loc (c : Thread nD τ))) (XM : Buf (Elt F) (mM.view.loc (c : Thread nD τ)))
  (XG : Buf (Elt F) (gM.view.loc (c : Thread nD τ)))
  (arg0 : Memref sig .tc .vmem S128x1024 .f32) (harg0 : arg0.IsWhole)
  (arg7 : Memref sig .tc .vmem S128x1 .f32) (harg7 : arg7.IsWhole) (arg8 : Memref sig .tc .vmem S128x1 .i32) (harg8 : arg8.IsWhole)
  (u260 u360 u367 u374 u381 u388 u395 : BitVec 32) (u396 : BitVec 1)

abbrev Words : Type := BitVec 32 × BitVec 32 × BitVec 32 × BitVec 32 × BitVec 32 × BitVec 32 × BitVec 32 × BitVec 32 × BitVec 32 × BitVec 32 × BitVec 32 × BitVec 32 × BitVec 32
/-- The carried words before trip `k`. -/
abbrev words (k : ℕ) : Words := (wA k, wB k, wA k, wB k, wA k, wB k, wA k, wB k, wA k, wB k, wA k, wB k, wC k)

abbrev tripG (k : Fin k0_t1_loop.trips) (acc : Words) : Prog (TpuEff nD τ sig (Elt F) Λ₀ .tc) Words :=
  k0_t1_body (F := F) arg0 harg0 wM (Memref.isWhole_whole _) wM (Memref.isWhole_whole _) wM (Memref.isWhole_whole _) wM (Memref.isWhole_whole _) mM (Memref.isWhole_whole _) gM (Memref.isWhole_whole _)
    arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6
    (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11
    u260 u360 u367 u374 u381 u388 u395 u396 k acc

/-- The columns' buffers and the counter after trip `k`, from what they held before it. -/
abbrev colsAfter (k : ℕ) (g0 : Buf (Elt F) (arg0.view.loc (c : Thread nD τ))) (s : St F) (w : BitVec 32) : sProp 𝕄 :=
  iprop(∃ g9 g10 g11, ptP c stM g9 ∗ ptP c ixM g10 ∗ ptP c cnM g11 ∗ ⌜stOf c g9 g10 = blkSt c XW XM XG arg0 g0 (Ring.bk 48 k) w s ∧ cntOf c g11 = Scalar.addi w 1#32⌝)

set_option backward.proofsInPublic true in
set_option maxHeartbeats 4000000 in
theorem tripA (k : Fin k0_t1_loop.trips) (hk : k.val < 45) (g0) (g9) (g10) (g11) (W : Waits sig Unit) (f0 f1 f2 f3 f4 f5) (h0 h1 h2 h3 h4 h5) :
    iprop(ptP c arg0 g0 ∗ ptP c stM g9 ∗ ptP c ixM g10 ∗ ptP c cnM g11 ∗ owes (c : Thread nD τ) 0 W ∗ flightW c XW aW0 cc0_scoped1 0 (Ring.sl 4 k.val) (Ring.bk 48 k.val) f0 ∗ flightW c XW aW1 cc0_scoped3 1 (Ring.sl 4 k.val) (Ring.bk 48 k.val) f1 ∗ flightW c XW aW2 cc0_scoped5 2 (Ring.sl 4 k.val) (Ring.bk 48 k.val) f2 ∗ flightW c XW aW3 cc0_scoped7 3 (Ring.sl 4 k.val) (Ring.bk 48 k.val) f3 ∗ flightM c XM (Ring.sl 4 k.val) (Ring.bk 48 k.val) f4 ∗ flightG c XG (Ring.sl 4 k.val) (Ring.bk 48 k.val) f5 ∗ ptP c (slotW aW0 (Ring.sl 4 (k.val + 3))) h0 ∗ ptP c (slotW aW1 (Ring.sl 4 (k.val + 3))) h1 ∗ ptP c (slotW aW2 (Ring.sl 4 (k.val + 3))) h2 ∗ ptP c (slotW aW3 (Ring.sl 4 (k.val + 3))) h3 ∗ ptP c (slotM aMk (Ring.sl 4 (k.val + 3))) h4 ∗ ptP c (slotM aGn (Ring.sl 4 (k.val + 3))) h5 ∗ cellP c cc0_scoped1 (Ring.sl 4 (k.val + 3)) ∗ cellP c cc0_scoped3 (Ring.sl 4 (k.val + 3)) ∗ cellP c cc0_scoped5 (Ring.sl 4 (k.val + 3)) ∗ cellP c cc0_scoped7 (Ring.sl 4 (k.val + 3)) ∗ cellP c cc0_scoped9 (Ring.sl 4 (k.val + 3)) ∗ cellP c cc0_scoped11 (Ring.sl 4 (k.val + 3)) ∗ homeW c XW 0 (Ring.bk 48 (k.val + 3)) ∗ homeW c XW 1 (Ring.bk 48 (k.val + 3)) ∗ homeW c XW 2 (Ring.bk 48 (k.val + 3)) ∗ homeW c XW 3 (Ring.bk 48 (k.val + 3)) ∗ homeM c XM (Ring.bk 48 (k.val + 3)) ∗ homeG c XG (Ring.bk 48 (k.val + 3)))
      ⊢ wp frame (wpE (defs₀ (F := F)) 𝒱₀ (c : Thread nD τ) none) Set.univ (tripG arg0 harg0 arg7 harg7 arg8 harg8 u260 u360 u367 u374 u381 u388 u395 u396 k (words k.val))
        (fun acc => iprop(⌜acc = words (k.val + 1)⌝ ∗ ptP c arg0 g0 ∗ colsAfter c XW XM XG arg0 k.val g0 (stOf c g9 g10) (cntOf c g11) ∗ (∃ W, owes (c : Thread nD τ) 0 W) ∗ flightW c XW aW0 cc0_scoped1 0 (Ring.sl 4 (k.val + 3)) (Ring.bk 48 (k.val + 3)) h0 ∗ flightW c XW aW1 cc0_scoped3 1 (Ring.sl 4 (k.val + 3)) (Ring.bk 48 (k.val + 3)) h1 ∗ flightW c XW aW2 cc0_scoped5 2 (Ring.sl 4 (k.val + 3)) (Ring.bk 48 (k.val + 3)) h2 ∗ flightW c XW aW3 cc0_scoped7 3 (Ring.sl 4 (k.val + 3)) (Ring.bk 48 (k.val + 3)) h3 ∗ flightM c XM (Ring.sl 4 (k.val + 3)) (Ring.bk 48 (k.val + 3)) h4 ∗ flightG c XG (Ring.sl 4 (k.val + 3)) (Ring.bk 48 (k.val + 3)) h5 ∗ (∃ f, ptP c (slotW aW0 (Ring.sl 4 k.val)) f) ∗ (∃ f, ptP c (slotW aW1 (Ring.sl 4 k.val)) f) ∗ (∃ f, ptP c (slotW aW2 (Ring.sl 4 k.val)) f) ∗ (∃ f, ptP c (slotW aW3 (Ring.sl 4 k.val)) f) ∗ (∃ f, ptP c (slotM aMk (Ring.sl 4 k.val)) f) ∗ (∃ f, ptP c (slotM aGn (Ring.sl 4 k.val)) f) ∗ cellP c cc0_scoped1 (Ring.sl 4 k.val) ∗ cellP c cc0_scoped3 (Ring.sl 4 k.val) ∗ cellP c cc0_scoped5 (Ring.sl 4 k.val) ∗ cellP c cc0_scoped7 (Ring.sl 4 k.val) ∗ cellP c cc0_scoped9 (Ring.sl 4 k.val) ∗ cellP c cc0_scoped11 (Ring.sl 4 k.val) ∗ homeW c XW 0 (Ring.bk 48 k.val) ∗ homeW c XW 1 (Ring.bk 48 k.val) ∗ homeW c XW 2 (Ring.bk 48 k.val) ∗ homeW c XW 3 (Ring.bk 48 k.val) ∗ homeM c XM (Ring.bk 48 k.val) ∗ homeG c XG (Ring.bk 48 k.val))) := by
  have c1 := chk1_holds k
  have c2 := chk2_holds k
  have c3 := chk3_holds k
  have c4 := chk4_holds k
  have c5 := chk5_holds k
  have c6 := chk6_holds k
  have c7 := chk7_holds k
  have d13 := cond13_on k hk
  have d14 := cond14_on k hk
  have d15 := cond15_on k hk
  have d16 := cond16_on k hk
  have d17 := cond17_on k hk
  have d18 := cond18_on k hk
  have d19 := cond19_on k
  have d20 := cond20_on k
  have d21 := cond21_on k
  have d22 := cond22_on k
  have d23 := cond23_on k
  have d24 := cond24_on k
  iintro ⟨H0, H9, H10, H11, HW, HF0, HF1, HF2, HF3, HF4, HF5, HS0, HS1, HS2, HS3, HS4, HS5, HC0, HC1, HC2, HC3, HC4, HC5, HB0, HB1, HB2, HB3, HB4, HB5⟩
  dsimp only [tripG]
  sl_unfold [k0_t1_body]
  sl_exec
  sl_step
  have e1 := (by decide +kernel : ∀ k : Fin k0_t1_loop.trips, k.val < 45 → tripA.sl.v472_r0 k = wA (k.val + 1)) k hk
  have e2 := (by decide +kernel : ∀ k : Fin k0_t1_loop.trips, k.val < 45 → tripA.sl.v782_r0 k = wB (k.val + 1)) k hk
  have e3 := (by decide +kernel : ∀ k : Fin k0_t1_loop.trips, k.val < 45 → tripA.sl.v446_r0 k = wC (k.val + 1)) k hk
  have el : tripA.sl.v596_r0 c XW arg0 k g0 = lgBlk c XW arg0 g0 (Ring.bk 48 k.val) := by
    have w0 : tripA.sl.v570_r0 c XW k = wDat c XW 0 (Ring.bk 48 k.val) := wSlot_read _ _ _ _
    have w1 : tripA.sl.v577_r0 c XW k = wDat c XW 1 (Ring.bk 48 k.val) := wSlot_read _ _ _ _
    have w2 : tripA.sl.v585_r0 c XW k = wDat c XW 2 (Ring.bk 48 k.val) := wSlot_read _ _ _ _
    have w3 : tripA.sl.v593_r0 c XW k = wDat c XW 3 (Ring.bk 48 k.val) := wSlot_read _ _ _ _
    refine Eq.trans (b := lgOf (hDat0 c arg0 g0) (hDat1 c arg0 g0) (hDat2 c arg0 g0) (hDat3 c arg0 g0) (tripA.sl.v570_r0 c XW k) (tripA.sl.v577_r0 c XW k) (tripA.sl.v585_r0 c XW k) (tripA.sl.v593_r0 c XW k)) rfl ?_
    rw [w0, w1, w2, w3]
    rfl
  have eg : tripA.sl.v602_r0 c XG k c7 = gDat c XG (Ring.bk 48 k.val) :=
    mSlot_read aGn (Ring.sl 4 k.val) (gDat c XG (Ring.bk 48 k.val)) (off81_eq k) _ _ _
  have em : tripA.sl.v599_r0 c XM k c6 = mDat c XM (Ring.bk 48 k.val) :=
    mSlot_read aMk (Ring.sl 4 k.val) (mDat c XM (Ring.bk 48 k.val)) (off80_eq k) _ _ _
  rw [e1, e2, e3]
  isplitr
  · ipureintro; rfl
  isplitl [H0]; · iexact H0
  isplitl [H9 H10 H11]
  · iexists _, _, _
    isplitl [H9]; · iexact H9
    isplitl [H10]; · iexact H10
    isplitl [H11]; · iexact H11
    ipureintro
    refine ⟨(stOf_writes c g9 g10 _ _ _ _ _ _ _ _ _ _).trans ?_, cntOf_writes c g11 _⟩
    refine Eq.trans (b := accum broadcasts_S128x1_S128x2048 reduces_S128x2048_S128 (tripA.sl.v596_r0 c XW arg0 k g0) (tripA.sl.v602_r0 c XG k c7) (mbOf (tripA.sl.v599_r0 c XM k c6)) (gidxOf (cntOf c g11)) (stOf c g9 g10)) ?_ ?_
    · exact (stMk_cast _ _ _ _ _ _ _ _ _ _).trans rfl
    · rw [el, eg, em]; rfl
  isplitl [HW]; · iexists _; iexact HW
  isplitl [HC0]; · iexact HC0
  isplitl [HC1]; · iexact HC1
  isplitl [HC2]; · iexact HC2
  isplitl [HC3]; · iexact HC3
  isplitl [HC4]; · iexact HC4
  isplitl [HC5]; · iexact HC5
  isplitl [HF0_dst]; · iexists _; iexact HF0_dst
  isplitl [HF1_dst]; · iexists _; iexact HF1_dst
  isplitl [HF2_dst]; · iexists _; iexact HF2_dst
  isplitl [HF3_dst]; · iexists _; iexact HF3_dst
  isplitl [HF4_dst]; · iexists _; iexact HF4_dst
  isplitl [HF5_dst]; · iexists _; iexact HF5_dst
  isplitl [HF0]; · iexact HF0
  isplitl [HF1]; · iexact HF1
  isplitl [HF2]; · iexact HF2
  isplitl [HF3]; · iexact HF3
  isplitl [HF4]; · iexact HF4
  isplitl [HF5]; · iexact HF5
  isplitl [HF0_src]; · iexact HF0_src
  isplitl [HF1_src]; · iexact HF1_src
  isplitl [HF2_src]; · iexact HF2_src
  isplitl [HF3_src]; · iexact HF3_src
  isplitl [HF4_src]; · iexact HF4_src
  iexact HF5_src

set_option backward.proofsInPublic true in
set_option maxHeartbeats 4000000 in
theorem tripB (k : Fin k0_t1_loop.trips) (hk : ¬ k.val < 45) (g0) (g9) (g10) (g11) (W : Waits sig Unit) (f0 f1 f2 f3 f4 f5) :
    iprop(ptP c arg0 g0 ∗ ptP c stM g9 ∗ ptP c ixM g10 ∗ ptP c cnM g11 ∗ owes (c : Thread nD τ) 0 W ∗ flightW c XW aW0 cc0_scoped1 0 (Ring.sl 4 k.val) (Ring.bk 48 k.val) f0 ∗ flightW c XW aW1 cc0_scoped3 1 (Ring.sl 4 k.val) (Ring.bk 48 k.val) f1 ∗ flightW c XW aW2 cc0_scoped5 2 (Ring.sl 4 k.val) (Ring.bk 48 k.val) f2 ∗ flightW c XW aW3 cc0_scoped7 3 (Ring.sl 4 k.val) (Ring.bk 48 k.val) f3 ∗ flightM c XM (Ring.sl 4 k.val) (Ring.bk 48 k.val) f4 ∗ flightG c XG (Ring.sl 4 k.val) (Ring.bk 48 k.val) f5)
      ⊢ wp frame (wpE (defs₀ (F := F)) 𝒱₀ (c : Thread nD τ) none) Set.univ (tripG arg0 harg0 arg7 harg7 arg8 harg8 u260 u360 u367 u374 u381 u388 u395 u396 k (words k.val))
        (fun acc => iprop(⌜acc = words (k.val + 1)⌝ ∗ ptP c arg0 g0 ∗ colsAfter c XW XM XG arg0 k.val g0 (stOf c g9 g10) (cntOf c g11) ∗ (∃ W, owes (c : Thread nD τ) 0 W) ∗ (∃ f, ptP c (slotW aW0 (Ring.sl 4 k.val)) f) ∗ (∃ f, ptP c (slotW aW1 (Ring.sl 4 k.val)) f) ∗ (∃ f, ptP c (slotW aW2 (Ring.sl 4 k.val)) f) ∗ (∃ f, ptP c (slotW aW3 (Ring.sl 4 k.val)) f) ∗ (∃ f, ptP c (slotM aMk (Ring.sl 4 k.val)) f) ∗ (∃ f, ptP c (slotM aGn (Ring.sl 4 k.val)) f) ∗ cellP c cc0_scoped1 (Ring.sl 4 k.val) ∗ cellP c cc0_scoped3 (Ring.sl 4 k.val) ∗ cellP c cc0_scoped5 (Ring.sl 4 k.val) ∗ cellP c cc0_scoped7 (Ring.sl 4 k.val) ∗ cellP c cc0_scoped9 (Ring.sl 4 k.val) ∗ cellP c cc0_scoped11 (Ring.sl 4 k.val) ∗ homeW c XW 0 (Ring.bk 48 k.val) ∗ homeW c XW 1 (Ring.bk 48 k.val) ∗ homeW c XW 2 (Ring.bk 48 k.val) ∗ homeW c XW 3 (Ring.bk 48 k.val) ∗ homeM c XM (Ring.bk 48 k.val) ∗ homeG c XG (Ring.bk 48 k.val))) := by
  have c1 := chk1_holds k
  have c2 := chk2_holds k
  have c3 := chk3_holds k
  have c4 := chk4_holds k
  have c5 := chk5_holds k
  have c6 := chk6_holds k
  have c7 := chk7_holds k
  have d13 := cond13_off k hk
  have d14 := cond14_off k hk
  have d15 := cond15_off k hk
  have d16 := cond16_off k hk
  have d17 := cond17_off k hk
  have d18 := cond18_off k hk
  have d19 := cond19_on k
  have d20 := cond20_on k
  have d21 := cond21_on k
  have d22 := cond22_on k
  have d23 := cond23_on k
  have d24 := cond24_on k
  iintro ⟨H0, H9, H10, H11, HW, HF0, HF1, HF2, HF3, HF4, HF5⟩
  dsimp only [tripG]
  sl_unfold [k0_t1_body]
  sl_exec
  sl_step
  have e1 := (by decide +kernel : ∀ k : Fin k0_t1_loop.trips, ¬ k.val < 45 → tripB.sl.v472_r0 k = wA (k.val + 1)) k hk
  have e2 := (by decide +kernel : ∀ k : Fin k0_t1_loop.trips, ¬ k.val < 45 → tripB.sl.v782_r0 k = wB (k.val + 1)) k hk
  have e3 := (by decide +kernel : ∀ k : Fin k0_t1_loop.trips, ¬ k.val < 45 → tripB.sl.v446_r0 k = wC (k.val + 1)) k hk
  have el : tripB.sl.v596_r0 c XW arg0 k g0 = lgBlk c XW arg0 g0 (Ring.bk 48 k.val) := by
    have w0 : tripB.sl.v570_r0 c XW k = wDat c XW 0 (Ring.bk 48 k.val) := wSlot_read _ _ _ _
    have w1 : tripB.sl.v577_r0 c XW k = wDat c XW 1 (Ring.bk 48 k.val) := wSlot_read _ _ _ _
    have w2 : tripB.sl.v585_r0 c XW k = wDat c XW 2 (Ring.bk 48 k.val) := wSlot_read _ _ _ _
    have w3 : tripB.sl.v593_r0 c XW k = wDat c XW 3 (Ring.bk 48 k.val) := wSlot_read _ _ _ _
    refine Eq.trans (b := lgOf (hDat0 c arg0 g0) (hDat1 c arg0 g0) (hDat2 c arg0 g0) (hDat3 c arg0 g0) (tripB.sl.v570_r0 c XW k) (tripB.sl.v577_r0 c XW k) (tripB.sl.v585_r0 c XW k) (tripB.sl.v593_r0 c XW k)) rfl ?_
    rw [w0, w1, w2, w3]
    rfl
  have eg : tripB.sl.v602_r0 c XG k c7 = gDat c XG (Ring.bk 48 k.val) :=
    mSlot_read aGn (Ring.sl 4 k.val) (gDat c XG (Ring.bk 48 k.val)) (off81_eq k) _ _ _
  have em : tripB.sl.v599_r0 c XM k c6 = mDat c XM (Ring.bk 48 k.val) :=
    mSlot_read aMk (Ring.sl 4 k.val) (mDat c XM (Ring.bk 48 k.val)) (off80_eq k) _ _ _
  rw [e1, e2, e3]
  isplitr
  · ipureintro; rfl
  isplitl [H0]; · iexact H0
  isplitl [H9 H10 H11]
  · iexists _, _, _
    isplitl [H9]; · iexact H9
    isplitl [H10]; · iexact H10
    isplitl [H11]; · iexact H11
    ipureintro
    refine ⟨(stOf_writes c g9 g10 _ _ _ _ _ _ _ _ _ _).trans ?_, cntOf_writes c g11 _⟩
    refine Eq.trans (b := accum broadcasts_S128x1_S128x2048 reduces_S128x2048_S128 (tripB.sl.v596_r0 c XW arg0 k g0) (tripB.sl.v602_r0 c XG k c7) (mbOf (tripB.sl.v599_r0 c XM k c6)) (gidxOf (cntOf c g11)) (stOf c g9 g10)) ?_ ?_
    · exact (stMk_cast _ _ _ _ _ _ _ _ _ _).trans rfl
    · rw [el, eg, em]; rfl
  isplitl [HW]; · iexists _; iexact HW
  isplitl [HF0_dst]; · iexists _; iexact HF0_dst
  isplitl [HF1_dst]; · iexists _; iexact HF1_dst
  isplitl [HF2_dst]; · iexists _; iexact HF2_dst
  isplitl [HF3_dst]; · iexists _; iexact HF3_dst
  isplitl [HF4_dst]; · iexists _; iexact HF4_dst
  isplitl [HF5_dst]; · iexists _; iexact HF5_dst
  isplitl [HF0]; · iexact HF0
  isplitl [HF1]; · iexact HF1
  isplitl [HF2]; · iexact HF2
  isplitl [HF3]; · iexact HF3
  isplitl [HF4]; · iexact HF4
  isplitl [HF5]; · iexact HF5
  isplitl [HF0_src]; · iexact HF0_src
  isplitl [HF1_src]; · iexact HF1_src
  isplitl [HF2_src]; · iexact HF2_src
  isplitl [HF3_src]; · iexact HF3_src
  isplitl [HF4_src]; · iexact HF4_src
  iexact HF5_src

end Trip

end Cert.Proof.Ideal

end
-- ==== Proof.Inv.lean ====
/-
  The six rings as one proposition, the loop's invariant over them, and that a trip keeps it.
-/
module

public import proofs.«01_k».proof.Proof.Trip

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## A ring of four slots over 48 blocks, three in flight -/

section Ring4
variable {M : Type} [URA M] (home : Fin 48 → sProp M) (free : Fin 4 → sProp M) (infl : Fin 4 → Fin 48 → sProp M)

/-- The slot of block `p`: in flight with it, or free when there is no such block. -/
def role (p : ℕ) : sProp M := if p < 48 then infl (Ring.sl 4 p) (Ring.bk 48 p) else free (Ring.sl 4 p)
theorem role_lt {p : ℕ} (h : p < 48) : role free infl p = infl (Ring.sl 4 p) (Ring.bk 48 p) := if_pos h
theorem role_ge {p : ℕ} (h : ¬ p < 48) : role free infl p = free (Ring.sl 4 p) := if_neg h
/-- The ring before trip `k`. -/
def ringAt (k : ℕ) : sProp M :=
  iprop(bigSep (Ring.homeSet (NB := 48) 3 k) home ∗ role free infl k ∗ role free infl (k + 1) ∗ role free infl (k + 2) ∗ free (Ring.sl 4 (k + 3)))
/-- What a trip that starts a block leaves alone, -/
def restA (k : ℕ) : sProp M :=
  iprop(bigSep ((Ring.homeSet (NB := 48) 3 k).erase (Ring.bk 48 (k + 3))) home ∗ role free infl (k + 1) ∗ role free infl (k + 2))
/-- and one that starts none. -/
def restB (k : ℕ) : sProp M :=
  iprop(bigSep (Ring.homeSet (NB := 48) 3 k) home ∗ role free infl (k + 1) ∗ role free infl (k + 2) ∗ free (Ring.sl 4 (k + 3)))

theorem ring_outA (k : ℕ) (hk : k < 45) :
    ringAt home free infl k ⊢ iprop(infl (Ring.sl 4 k) (Ring.bk 48 k) ∗ free (Ring.sl 4 (k + 3)) ∗ home (Ring.bk 48 (k + 3)) ∗ restA home free infl k) := by
  have e : bigSep (Ring.homeSet (NB := 48) 3 k) home = iprop(home (Ring.bk 48 (k + 3)) ∗ bigSep ((Ring.homeSet (NB := 48) 3 k).erase (Ring.bk 48 (k + 3))) home) := by
    conv_lhs => rw [Ring.homeSet_out 3 k (by omega), bigSep_insert (Ring.bkL_not_mem_erase 3 k)]
    rfl
  unfold ringAt restA
  rw [e, role_lt free infl (by omega : k < 48)]
  iintro ⟨⟨H1, H2⟩, H3, H4, H5, H6⟩
  isplitl [H3]; · iexact H3
  isplitl [H6]; · iexact H6
  isplitl [H1]; · iexact H1
  isplitl [H2]; · iexact H2
  isplitl [H4]; · iexact H4
  iexact H5

theorem ring_inA (k : ℕ) (hk : k < 45) :
    iprop(infl (Ring.sl 4 (k + 3)) (Ring.bk 48 (k + 3)) ∗ free (Ring.sl 4 k) ∗ home (Ring.bk 48 k) ∗ restA home free infl k) ⊢ ringAt home free infl (k + 1) := by
  have e : bigSep (Ring.homeSet (NB := 48) 3 (k + 1)) home = iprop(home (Ring.bk 48 k) ∗ bigSep ((Ring.homeSet (NB := 48) 3 k).erase (Ring.bk 48 (k + 3))) home) := by
    rw [Ring.homeSet_succ 3 k (by omega), bigSep_insert (Ring.bk_not_mem_erase 3 k (by omega) (by omega))]
    rfl
  unfold ringAt restA
  rw [e, role_lt free infl (by omega : k + 1 + 2 < 48), Ring.sl_succ_add 4 k 3 rfl]
  iintro ⟨H1, H2, H3, H4, H5, H6⟩
  isplitl [H3 H4]
  · isplitl [H3]; · iexact H3
    iexact H4
  isplitl [H5]; · iexact H5
  isplitl [H6]; · iexact H6
  isplitl [H1]; · iexact H1
  iexact H2

theorem ring_outB (k : ℕ) (hk : k < 48) :
    ringAt home free infl k ⊢ iprop(infl (Ring.sl 4 k) (Ring.bk 48 k) ∗ restB home free infl k) := by
  unfold ringAt restB
  rw [role_lt free infl hk]
  iintro ⟨H1, H3, H4, H5, H6⟩
  isplitl [H3]; · iexact H3
  isplitl [H1]; · iexact H1
  isplitl [H4]; · iexact H4
  isplitl [H5]; · iexact H5
  iexact H6

theorem ring_inB (k : ℕ) (hk : k < 48) (hk' : ¬ k < 45) :
    iprop(free (Ring.sl 4 k) ∗ home (Ring.bk 48 k) ∗ restB home free infl k) ⊢ ringAt home free infl (k + 1) := by
  have e : bigSep (Ring.homeSet (NB := 48) 3 (k + 1)) home = iprop(home (Ring.bk 48 k) ∗ bigSep (Ring.homeSet (NB := 48) 3 k) home) := by
    rw [Ring.homeSet_succ_tail 3 k (by omega) (by omega), bigSep_insert (Ring.bk_not_mem_homeSet 3 k (by omega) (by omega))]
    rfl
  unfold ringAt restB
  rw [e, role_ge free infl (by omega : ¬ k + 1 + 2 < 48), Ring.sl_succ_add 4 k 3 rfl]
  iintro ⟨H2, H3, H4, H5, H6, H7⟩
  isplitl [H3 H4]
  · isplitl [H3]; · iexact H3
    iexact H4
  isplitl [H5]; · iexact H5
  isplitl [H6]; · iexact H6
  isplitl [H7]; · iexact H7
  iexact H2

/-- The ring once the first three blocks have been started. -/
theorem ring_start :
    iprop(infl 0 0 ∗ infl 1 1 ∗ infl 2 2 ∗ free 3 ∗ bigSep (Ring.homeSet (NB := 48) 3 0) home) ⊢ ringAt home free infl 0 := by
  unfold ringAt
  rw [role_lt free infl (by omega : 0 < 48), role_lt free infl (by omega : 0 + 1 < 48), role_lt free infl (by omega : 0 + 2 < 48)]
  iintro ⟨H1, H2, H3, H4, H5⟩
  isplitl [H5]; · iexact H5
  isplitl [H1]; · iexact H1
  isplitl [H2]; · iexact H2
  isplitl [H3]; · iexact H3
  iexact H4
/-- The blocks all home, the first three apart. -/
theorem ring_open : bigSep Finset.univ home = iprop(home 0 ∗ home 1 ∗ home 2 ∗ bigSep (Ring.homeSet (NB := 48) 3 0) home) := by
  have e : (Finset.univ : Finset (Fin 48)) = insert 0 (insert 1 (insert 2 (Ring.homeSet (NB := 48) 3 0))) := by decide +kernel
  rw [e, bigSep_insert (by decide +kernel), bigSep_insert (by decide +kernel), bigSep_insert (by decide +kernel)]
  rfl
/-- The ring after the last trip: every block home, every slot free. -/
theorem ring_done (n : ℕ) (h : n = 48) : ringAt home free infl n ⊢ iprop(bigSep Finset.univ home ∗ free 0 ∗ free 1 ∗ free 2 ∗ free 3) := by
  subst h
  unfold ringAt
  rw [role_ge free infl (by omega : ¬ 48 < 48), role_ge free infl (by omega : ¬ 48 + 1 < 48), role_ge free infl (by omega : ¬ 48 + 2 < 48), Ring.homeSet_last 3 48 (by omega), (by decide +kernel : Ring.sl 4 48 = 0), (by decide +kernel : Ring.sl 4 (48 + 1) = 1), (by decide +kernel : Ring.sl 4 (48 + 2) = 2), (by decide +kernel : Ring.sl 4 (48 + 3) = 3)]

end Ring4

section Inv
variable (c : Dev nD) (XW : Buf (Elt F) (wM.view.loc (c : Thread nD τ))) (XM : Buf (Elt F) (mM.view.loc (c : Thread nD τ)))
  (XG : Buf (Elt F) (gM.view.loc (c : Thread nD τ)))
  (arg0 : Memref sig .tc .vmem S128x1024 .f32) (harg0 : arg0.IsWhole)
  (arg7 : Memref sig .tc .vmem S128x1 .f32) (harg7 : arg7.IsWhole) (arg8 : Memref sig .tc .vmem S128x1 .i32) (harg8 : arg8.IsWhole)
  (u260 u360 u367 u374 u381 u388 u395 : BitVec 32) (u396 : BitVec 1)

/-- A free slot of a weights ring, with its cell, -/
abbrev freeW (A : Memref sig .tc .vmem S4x1x256x2048 .f32) (S : DmaSems sig S4) (s : Fin 4) : sProp 𝕄 :=
  iprop((∃ f, ptP (F := F) c (slotW A s) f) ∗ cellP c S s)
/-- of the mask's or the noise's. -/
abbrev freeM {e : EltTy} (A : Memref sig .tc .vmem S4x128x2048 e) (S : DmaSems sig S4) (s : Fin 4) : sProp 𝕄 :=
  iprop((∃ f, ptP (F := F) c (slotM A s) f) ∗ cellP c S s)
abbrev inflW (A : Memref sig .tc .vmem S4x1x256x2048 .f32) (S : DmaSems sig S4) (i : Fin 4) (s : Fin 4) (b : Fin 48) : sProp 𝕄 :=
  iprop(∃ f, flightW c XW A S i s b f)
abbrev inflM (s : Fin 4) (b : Fin 48) : sProp 𝕄 := iprop(∃ f, flightM c XM s b f)
abbrev inflG (s : Fin 4) (b : Fin 48) : sProp 𝕄 := iprop(∃ f, flightG c XG s b f)
/-- The rings before trip `k`: the weights' four, -/
abbrev ringW (A : Memref sig .tc .vmem S4x1x256x2048 .f32) (S : DmaSems sig S4) (i : Fin 4) (k : ℕ) : sProp 𝕄 :=
  ringAt (homeW c XW i) (freeW c A S) (inflW c XW A S i) k
/-- the mask's -/
abbrev ringM (k : ℕ) : sProp 𝕄 := ringAt (homeM c XM) (freeM c aMk cc0_scoped9) (inflM c XM) k
/-- and the noise's. -/
abbrev ringG (k : ℕ) : sProp 𝕄 := ringAt (homeG c XG) (freeM c aGn cc0_scoped11) (inflG c XG) k

/-- The columns before trip `k`, from what they start at. -/
def stRec (g0 : Buf (Elt F) (arg0.view.loc (c : Thread nD τ))) (s0 : St F) : ℕ → St F
  | 0 => s0
  | k + 1 => blkSt c XW XM XG arg0 g0 (Ring.bk 48 k) (wB k) (stRec g0 s0 k)

/-- The loop's invariant before trip `k`. -/
def invAt (g0 : Buf (Elt F) (arg0.view.loc (c : Thread nD τ))) (s0 : St F) (k : ℕ) (acc : Words) : sProp 𝕄 :=
  iprop(⌜acc = words k⌝ ∗ ptP c arg0 g0
    ∗ (∃ g9 g10 g11, ptP c stM g9 ∗ ptP c ixM g10 ∗ ptP c cnM g11 ∗ ⌜stOf c g9 g10 = stRec c XW XM XG arg0 g0 s0 k ∧ cntOf c g11 = wB k⌝)
    ∗ (∃ W, owes (c : Thread nD τ) 0 W)
    ∗ ringW c XW aW0 cc0_scoped1 0 k ∗ ringW c XW aW1 cc0_scoped3 1 k ∗ ringW c XW aW2 cc0_scoped5 2 k ∗ ringW c XW aW3 cc0_scoped7 3 k ∗ ringM c XM k ∗ ringG c XG k)

theorem wB_succ (k : Fin k0_t1_loop.trips) : Scalar.addi (wB k.val) 1#32 = wB (k.val + 1) := by
  revert k; decide +kernel

set_option maxHeartbeats 1000000 in
/-- A trip keeps it. -/
theorem inv_step (g0 : Buf (Elt F) (arg0.view.loc (c : Thread nD τ))) (s0 : St F) (k : Fin k0_t1_loop.trips) (acc : Words) :
    invAt c XW XM XG arg0 g0 s0 k.val acc
      ⊢ wp frame (wpE (defs₀ (F := F)) 𝒱₀ (c : Thread nD τ) none) Set.univ (tripG arg0 harg0 arg7 harg7 arg8 harg8 u260 u360 u367 u374 u381 u388 u395 u396 k acc)
        (fun acc => invAt c XW XM XG arg0 g0 s0 (k.val + 1) acc) := by
  have hk48 : k.val < 48 := by have := k.isLt; have := trips_eq; omega
  unfold invAt
  iintro ⟨%hacc, H0, ⟨%g9, %g10, %g11, H9, H10, H11, %hs⟩, ⟨%W, HW⟩, HR0, HR1, HR2, HR3, HR4, HR5⟩
  subst hacc
  by_cases hk : k.val < 45
  · ihave HQ0 := (ring_outA _ _ _ k.val hk) $$ HR0
    icases HQ0 with ⟨⟨%f0, HF0⟩, ⟨⟨%h0, HS0⟩, HC0⟩, HB0, HX0⟩
    ihave HQ1 := (ring_outA _ _ _ k.val hk) $$ HR1
    icases HQ1 with ⟨⟨%f1, HF1⟩, ⟨⟨%h1, HS1⟩, HC1⟩, HB1, HX1⟩
    ihave HQ2 := (ring_outA _ _ _ k.val hk) $$ HR2
    icases HQ2 with ⟨⟨%f2, HF2⟩, ⟨⟨%h2, HS2⟩, HC2⟩, HB2, HX2⟩
    ihave HQ3 := (ring_outA _ _ _ k.val hk) $$ HR3
    icases HQ3 with ⟨⟨%f3, HF3⟩, ⟨⟨%h3, HS3⟩, HC3⟩, HB3, HX3⟩
    ihave HQ4 := (ring_outA _ _ _ k.val hk) $$ HR4
    icases HQ4 with ⟨⟨%f4, HF4⟩, ⟨⟨%h4, HS4⟩, HC4⟩, HB4, HX4⟩
    ihave HQ5 := (ring_outA _ _ _ k.val hk) $$ HR5
    icases HQ5 with ⟨⟨%f5, HF5⟩, ⟨⟨%h5, HS5⟩, HC5⟩, HB5, HX5⟩
    iapply (wp_wand_r Idealize.ShloMosaic.frame (wpE (defs₀ (F := F)) 𝒱₀ (c : Thread nD τ) none) Set.univ)
    isplitl [H0 H9 H10 H11 HW HF0 HF1 HF2 HF3 HF4 HF5 HS0 HS1 HS2 HS3 HS4 HS5 HC0 HC1 HC2 HC3 HC4 HC5 HB0 HB1 HB2 HB3 HB4 HB5]
    · iapply (tripA c XW XM XG arg0 harg0 arg7 harg7 arg8 harg8 u260 u360 u367 u374 u381 u388 u395 u396 k hk g0 g9 g10 g11 W f0 f1 f2 f3 f4 f5 h0 h1 h2 h3 h4 h5)
      isplitl [H0]; · iexact H0
      isplitl [H9]; · iexact H9
      isplitl [H10]; · iexact H10
      isplitl [H11]; · iexact H11
      isplitl [HW]; · iexact HW
      isplitl [HF0]; · iexact HF0
      isplitl [HF1]; · iexact HF1
      isplitl [HF2]; · iexact HF2
      isplitl [HF3]; · iexact HF3
      isplitl [HF4]; · iexact HF4
      isplitl [HF5]; · iexact HF5
      isplitl [HS0]; · iexact HS0
      isplitl [HS1]; · iexact HS1
      isplitl [HS2]; · iexact HS2
      isplitl [HS3]; · iexact HS3
      isplitl [HS4]; · iexact HS4
      isplitl [HS5]; · iexact HS5
      isplitl [HC0]; · iexact HC0
      isplitl [HC1]; · iexact HC1
      isplitl [HC2]; · iexact HC2
      isplitl [HC3]; · iexact HC3
      isplitl [HC4]; · iexact HC4
      isplitl [HC5]; · iexact HC5
      isplitl [HB0]; · iexact HB0
      isplitl [HB1]; · iexact HB1
      isplitl [HB2]; · iexact HB2
      isplitl [HB3]; · iexact HB3
      isplitl [HB4]; · iexact HB4
      iexact HB5
    · iintro %acc' ⟨%hacc, H0, ⟨%g9', %g10', %g11', H9, H10, H11, %hs'⟩, HW, HF0, HF1, HF2, HF3, HF4, HF5, HS0, HS1, HS2, HS3, HS4, HS5, HC0, HC1, HC2, HC3, HC4, HC5, HB0, HB1, HB2, HB3, HB4, HB5⟩
      isplitr
      · ipureintro; exact hacc
      isplitl [H0]; · iexact H0
      isplitl [H9 H10 H11]
      · iexists g9', g10', g11'
        isplitl [H9]; · iexact H9
        isplitl [H10]; · iexact H10
        isplitl [H11]; · iexact H11
        ipureintro
        exact ⟨hs'.1.trans (by rw [hs.1, hs.2]; rfl), hs'.2.trans (by rw [hs.2]; exact wB_succ k)⟩
      isplitl [HW]; · iexact HW
      isplitl [HF0 HS0 HC0 HB0 HX0]
      · iapply (ring_inA _ _ _ k.val hk)
        isplitl [HF0]; · iexists _; iexact HF0
        isplitl [HS0 HC0]
        · isplitl [HS0]; · iexact HS0
          iexact HC0
        isplitl [HB0]; · iexact HB0
        iexact HX0
      isplitl [HF1 HS1 HC1 HB1 HX1]
      · iapply (ring_inA _ _ _ k.val hk)
        isplitl [HF1]; · iexists _; iexact HF1
        isplitl [HS1 HC1]
        · isplitl [HS1]; · iexact HS1
          iexact HC1
        isplitl [HB1]; · iexact HB1
        iexact HX1
      isplitl [HF2 HS2 HC2 HB2 HX2]
      · iapply (ring_inA _ _ _ k.val hk)
        isplitl [HF2]; · iexists _; iexact HF2
        isplitl [HS2 HC2]
        · isplitl [HS2]; · iexact HS2
          iexact HC2
        isplitl [HB2]; · iexact HB2
        iexact HX2
      isplitl [HF3 HS3 HC3 HB3 HX3]
      · iapply (ring_inA _ _ _ k.val hk)
        isplitl [HF3]; · iexists _; iexact HF3
        isplitl [HS3 HC3]
        · isplitl [HS3]; · iexact HS3
          iexact HC3
        isplitl [HB3]; · iexact HB3
        iexact HX3
      isplitl [HF4 HS4 HC4 HB4 HX4]
      · iapply (ring_inA _ _ _ k.val hk)
        isplitl [HF4]; · iexists _; iexact HF4
        isplitl [HS4 HC4]
        · isplitl [HS4]; · iexact HS4
          iexact HC4
        isplitl [HB4]; · iexact HB4
        iexact HX4
      iapply (ring_inA _ _ _ k.val hk)
      isplitl [HF5]; · iexists _; iexact HF5
      isplitl [HS5 HC5]
      · isplitl [HS5]; · iexact HS5
        iexact HC5
      isplitl [HB5]; · iexact HB5
      iexact HX5
  · ihave HQ0 := (ring_outB _ _ _ k.val hk48) $$ HR0
    icases HQ0 with ⟨⟨%f0, HF0⟩, HX0⟩
    ihave HQ1 := (ring_outB _ _ _ k.val hk48) $$ HR1
    icases HQ1 with ⟨⟨%f1, HF1⟩, HX1⟩
    ihave HQ2 := (ring_outB _ _ _ k.val hk48) $$ HR2
    icases HQ2 with ⟨⟨%f2, HF2⟩, HX2⟩
    ihave HQ3 := (ring_outB _ _ _ k.val hk48) $$ HR3
    icases HQ3 with ⟨⟨%f3, HF3⟩, HX3⟩
    ihave HQ4 := (ring_outB _ _ _ k.val hk48) $$ HR4
    icases HQ4 with ⟨⟨%f4, HF4⟩, HX4⟩
    ihave HQ5 := (ring_outB _ _ _ k.val hk48) $$ HR5
    icases HQ5 with ⟨⟨%f5, HF5⟩, HX5⟩
    iapply (wp_wand_r Idealize.ShloMosaic.frame (wpE (defs₀ (F := F)) 𝒱₀ (c : Thread nD τ) none) Set.univ)
    isplitl [H0 H9 H10 H11 HW HF0 HF1 HF2 HF3 HF4 HF5]
    · iapply (tripB c XW XM XG arg0 harg0 arg7 harg7 arg8 harg8 u260 u360 u367 u374 u381 u388 u395 u396 k hk g0 g9 g10 g11 W f0 f1 f2 f3 f4 f5)
      isplitl [H0]; · iexact H0
      isplitl [H9]; · iexact H9
      isplitl [H10]; · iexact H10
      isplitl [H11]; · iexact H11
      isplitl [HW]; · iexact HW
      isplitl [HF0]; · iexact HF0
      isplitl [HF1]; · iexact HF1
      isplitl [HF2]; · iexact HF2
      isplitl [HF3]; · iexact HF3
      isplitl [HF4]; · iexact HF4
      iexact HF5
    · iintro %acc' ⟨%hacc, H0, ⟨%g9', %g10', %g11', H9, H10, H11, %hs'⟩, HW, HS0, HS1, HS2, HS3, HS4, HS5, HC0, HC1, HC2, HC3, HC4, HC5, HB0, HB1, HB2, HB3, HB4, HB5⟩
      isplitr
      · ipureintro; exact hacc
      isplitl [H0]; · iexact H0
      isplitl [H9 H10 H11]
      · iexists g9', g10', g11'
        isplitl [H9]; · iexact H9
        isplitl [H10]; · iexact H10
        isplitl [H11]; · iexact H11
        ipureintro
        exact ⟨hs'.1.trans (by rw [hs.1, hs.2]; rfl), hs'.2.trans (by rw [hs.2]; exact wB_succ k)⟩
      isplitl [HW]; · iexact HW
      isplitl [HS0 HC0 HB0 HX0]
      · iapply (ring_inB _ _ _ k.val hk48 hk)
        isplitl [HS0 HC0]
        · isplitl [HS0]; · iexact HS0
          iexact HC0
        isplitl [HB0]; · iexact HB0
        iexact HX0
      isplitl [HS1 HC1 HB1 HX1]
      · iapply (ring_inB _ _ _ k.val hk48 hk)
        isplitl [HS1 HC1]
        · isplitl [HS1]; · iexact HS1
          iexact HC1
        isplitl [HB1]; · iexact HB1
        iexact HX1
      isplitl [HS2 HC2 HB2 HX2]
      · iapply (ring_inB _ _ _ k.val hk48 hk)
        isplitl [HS2 HC2]
        · isplitl [HS2]; · iexact HS2
          iexact HC2
        isplitl [HB2]; · iexact HB2
        iexact HX2
      isplitl [HS3 HC3 HB3 HX3]
      · iapply (ring_inB _ _ _ k.val hk48 hk)
        isplitl [HS3 HC3]
        · isplitl [HS3]; · iexact HS3
          iexact HC3
        isplitl [HB3]; · iexact HB3
        iexact HX3
      isplitl [HS4 HC4 HB4 HX4]
      · iapply (ring_inB _ _ _ k.val hk48 hk)
        isplitl [HS4 HC4]
        · isplitl [HS4]; · iexact HS4
          iexact HC4
        isplitl [HB4]; · iexact HB4
        iexact HX4
      iapply (ring_inB _ _ _ k.val hk48 hk)
      isplitl [HS5 HC5]
      · isplitl [HS5]; · iexact HS5
        iexact HC5
      isplitl [HB5]; · iexact HB5
      iexact HX5

end Inv

end Cert.Proof.Ideal

end
-- ==== Proof.Body.lean ====
/-
  The kernel's body run once: the transfers started, the loop by its invariant, the last 1696 columns, the results.
-/
module

public import proofs.«01_k».proof.Proof.Inv

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

abbrev t4M : Memref sig .tc .vmem S128x1696 .i32 := Memref.whole cc0_scratch4
abbrev t5M : Memref sig .tc .vmem S128x1696 .f32 := Memref.whole cc0_scratch5

section Body
variable (c : Dev nD) (XW : Buf (Elt F) (wM.view.loc (c : Thread nD τ))) (XM : Buf (Elt F) (mM.view.loc (c : Thread nD τ)))
  (XG : Buf (Elt F) (gM.view.loc (c : Thread nD τ)))
  (arg0 : Memref sig .tc .vmem S128x1024 .f32) (harg0 : arg0.IsWhole)
  (arg7 : Memref sig .tc .vmem S128x1 .f32) (harg7 : arg7.IsWhole) (arg8 : Memref sig .tc .vmem S128x1 .i32) (harg8 : arg8.IsWhole)

abbrev tcellP (s : Fin 6) : sProp 𝕄 := semVal ((c : Thread nD τ), SemLoc.dma (tcell s).sem) 0

/-! ## The last 1696 columns -/

abbrev wTail (i : Fin 4) : S256x1696.Idx → Elt F .f32 := ReadAs.same.apply (View.read (Elt F) (tailW i).view XW)
abbrev mTail : S128x1696.Idx → Elt F .i32 := ReadAs.same.apply (View.read (Elt F) (tailM mM).view XM)
abbrev gTail : S128x1696.Idx → Elt F .f32 := ReadAs.same.apply (View.read (Elt F) (tailM gM).view XG)
/-- Their logits, -/
def lgTOf (h0 h1 h2 h3 : FVec F S128x256 .f32) (w0 w1 w2 w3 : FVec F S256x1696 .f32) : FVec F S128x1696 .f32 :=
  addf (addf (addf (matmul dot_S128x256_S256x1696_S128x1696_1_0_0_1_n_n none h0 w0 (constant S128x1696 .f32 0#32))
      (matmul dot_S128x256_S256x1696_S128x1696_1_0_0_1_n_n none h1 w1 (constant S128x1696 .f32 0#32)))
      (matmul dot_S128x256_S256x1696_S128x1696_1_0_0_1_n_n none h2 w2 (constant S128x1696 .f32 0#32)))
      (matmul dot_S128x256_S256x1696_S128x1696_1_0_0_1_n_n none h3 w3 (constant S128x1696 .f32 0#32))
def lgTail (g0 : Buf (Elt F) (arg0.view.loc (c : Thread nD τ))) : FVec F S128x1696 .f32 :=
  lgTOf (hDat0 c arg0 g0) (hDat1 c arg0 g0) (hDat2 c arg0 g0) (hDat3 c arg0 g0) (wTail c XW 0) (wTail c XW 1) (wTail c XW 2) (wTail c XW 3)
/-- and their numbers. -/
def gidxTail : IVec S128x1696 32 := addi (broadcast S128x1696 98304#32) (iota .tc S128x1696 32 [1] iota_S128x1696_d1_w32)
def mbTail (x : IVec S128x1696 32) : IVec S128x1696 1 := cmpi .ne x (broadcast S128x1696 0#32)
/-- Their step. -/
def tailSt (g0 : Buf (Elt F) (arg0.view.loc (c : Thread nD τ))) (s : St F) : St F :=
  accum broadcasts_S128x1_S128x1696 reduces_S128x1696_S128 (lgTail c XW arg0 g0) (gTail c XG) (mbTail (mTail c XM)) gidxTail s

/-- What the columns start at. -/
def st0 : St F where
  m := fun x => k0_pay39 (F := F) ((Rect.unit (s := S128x8) ![0, 0] S128x1.size inb_S128x8_S128x1_0_0).toLoadRect.idx x)
  a := fun x => k0_pay39 (F := F) ((Rect.unit (s := S128x8) ![0, 1] S128x1.size inb_S128x8_S128x1_0_1).toLoadRect.idx x)
  b := fun x => k0_pay39 (F := F) ((Rect.unit (s := S128x8) ![0, 2] S128x1.size inb_S128x8_S128x1_0_2).toLoadRect.idx x)
  n := fun x => k0_pay39 (F := F) ((Rect.unit (s := S128x8) ![0, 3] S128x1.size inb_S128x8_S128x1_0_3).toLoadRect.idx x)
  bs := fun x => k0_pay39 (F := F) ((Rect.unit (s := S128x8) ![0, 4] S128x1.size inb_S128x8_S128x1_0_4).toLoadRect.idx x)
  bl := fun x => k0_pay39 (F := F) ((Rect.unit (s := S128x8) ![0, 5] S128x1.size inb_S128x8_S128x1_0_5).toLoadRect.idx x)
  us := fun x => k0_pay39 (F := F) ((Rect.unit (s := S128x8) ![0, 6] S128x1.size inb_S128x8_S128x1_0_6).toLoadRect.idx x)
  ul := fun x => k0_pay39 (F := F) ((Rect.unit (s := S128x8) ![0, 7] S128x1.size inb_S128x8_S128x1_0_7).toLoadRect.idx x)
  ib := fun x => k0_pay40 ((Rect.unit (s := S128x2) ![0, 0] S128x1.size inb_S128x2_S128x1_0_0).toLoadRect.idx x)
  iu := fun x => k0_pay40 ((Rect.unit (s := S128x2) ![0, 1] S128x1.size inb_S128x2_S128x1_0_1).toLoadRect.idx x)

/-- The columns at the end, -/
def stEnd (g0 : Buf (Elt F) (arg0.view.loc (c : Thread nD τ))) : St F := tailSt c XW XM XG arg0 g0 (stRec c XW XM XG arg0 g0 st0 48)
/-- and the two results of a record. -/
def outF (s : St F) : FVec F S128x1 .f32 := k0_pay2 s.m s.a s.b s.n (k0_pay78 s.n) (k0_pay79 s.n s.ul s.bl)
def outI (s : St F) : IVec S128x1 32 := k0_pay1 (F := F) (k0_pay78 s.n) s.iu s.ib

theorem stOf_init (g9 : Buf (Elt F) (stM.view.loc (c : Thread nD τ))) (g10 : Buf (Elt F) (ixM.view.loc (c : Thread nD τ))) :
    stOf c (stM.view.writes (Elt F) g9 [⟨Rect.unit (s := S128x8) ![0, 0] S128x8.size inb_S128x8_S128x8_0_0, k0_pay39⟩])
      (ixM.view.writes (Elt F) g10 [⟨Rect.unit (s := S128x2) ![0, 0] S128x2.size inb_S128x2_S128x2_0_0, k0_pay40⟩]) = st0 := by
  have h9 := View.read_writes_full (s := S128x8) stM.view g9 (off := ![0, 0]) inb_S128x8_S128x8_0_0 (k0_pay39 (F := F)) []
  have h10 := View.read_writes_full (s := S128x2) ixM.view g10 (off := ![0, 0]) inb_S128x2_S128x2_0_0 (k0_pay40 : S128x2.Idx → Elt F .i32) []
  unfold stOf st0
  congr 1 <;> funext x
  · exact congrFun h9 _
  · exact congrFun h9 _
  · exact congrFun h9 _
  · exact congrFun h9 _
  · exact congrFun h9 _
  · exact congrFun h9 _
  · exact congrFun h9 _
  · exact congrFun h9 _
  · exact congrFun h10 _
  · exact congrFun h10 _

/-- What a tail slot of the weights reads once its columns have landed. -/
theorem tSlot_read (i : Fin 4) (x : S256x1696.Idx → Elt F .f32) {off : Fin 3 → ℕ} (h : off = tslotOffW i) (inb hs) (inb') (hc) :
    shapeCast S256x1696 (View.readAt (Elt F) ((Memref.whole cc0_scratch3 : Memref sig .tc .vmem S4x256x1696 .f32).slice (Rect.unit (s := S4x256x1696) off S1x256x1696.size inb) hs).view
      (Rect.unit (s := S1x256x1696) ![0, 0, 0] S1x256x1696.size inb').toLoadRect
      ((tslotW i).view.writes (Elt F) (tslotW i).view.junk [(⟨Rect.whole S256x1696, x⟩ : View.Piece (Elt F) S256x1696 .f32)])) hc = x := by
  subst h
  have h1 : View.read (Elt F) (tslotW i).view ((tslotW i).view.writes (Elt F) (tslotW i).view.junk [(⟨Rect.whole S256x1696, x⟩ : View.Piece (Elt F) S256x1696 .f32)]) = x :=
    View.read_writes_full (s := S256x1696) (tslotW i).view _ (off := fun _ => 0) (fun a => by simp) x []
  have h2 := View.readAt_full (s := S1x256x1696) ((Memref.whole cc0_scratch3 : Memref sig .tc .vmem S4x256x1696 .f32).slice (Rect.unit (s := S4x256x1696) (tslotOffW i) S1x256x1696.size inb) hs).view
    ((tslotW i).view.writes (Elt F) (tslotW i).view.junk [(⟨Rect.whole S256x1696, x⟩ : View.Piece (Elt F) S256x1696 .f32)]) inb'
  exact (congrArg (fun f => shapeCast S256x1696 f hc) h2).trans h1

/-- The scratch the body works in, all of it free: the columns' buffers, the four slots of every ring, the tail's
    buffers, and their cells. -/
def scrP : sProp 𝕄 :=
  iprop((∃ f, ptP (F := F) c stM f) ∗ (∃ f, ptP (F := F) c ixM f) ∗ (∃ f, ptP (F := F) c cnM f)
    ∗ (freeW (F := F) c aW0 cc0_scoped1 0) ∗ (freeW (F := F) c aW0 cc0_scoped1 1) ∗ (freeW (F := F) c aW0 cc0_scoped1 2) ∗ (freeW (F := F) c aW0 cc0_scoped1 3) ∗ (freeW (F := F) c aW1 cc0_scoped3 0) ∗ (freeW (F := F) c aW1 cc0_scoped3 1) ∗ (freeW (F := F) c aW1 cc0_scoped3 2) ∗ (freeW (F := F) c aW1 cc0_scoped3 3) ∗ (freeW (F := F) c aW2 cc0_scoped5 0) ∗ (freeW (F := F) c aW2 cc0_scoped5 1) ∗ (freeW (F := F) c aW2 cc0_scoped5 2) ∗ (freeW (F := F) c aW2 cc0_scoped5 3) ∗ (freeW (F := F) c aW3 cc0_scoped7 0) ∗ (freeW (F := F) c aW3 cc0_scoped7 1) ∗ (freeW (F := F) c aW3 cc0_scoped7 2) ∗ (freeW (F := F) c aW3 cc0_scoped7 3) ∗ (freeM (F := F) c aMk cc0_scoped9 0) ∗ (freeM (F := F) c aMk cc0_scoped9 1) ∗ (freeM (F := F) c aMk cc0_scoped9 2) ∗ (freeM (F := F) c aMk cc0_scoped9 3) ∗ (freeM (F := F) c aGn cc0_scoped11 0) ∗ (freeM (F := F) c aGn cc0_scoped11 1) ∗ (freeM (F := F) c aGn cc0_scoped11 2) ∗ (freeM (F := F) c aGn cc0_scoped11 3)
    ∗ (∃ f, ptP (F := F) c (tslotW 0) f) ∗ (∃ f, ptP (F := F) c (tslotW 1) f) ∗ (∃ f, ptP (F := F) c (tslotW 2) f) ∗ (∃ f, ptP (F := F) c (tslotW 3) f) ∗ (∃ f, ptP (F := F) c t4M f) ∗ (∃ f, ptP (F := F) c t5M f) ∗ tcellP (F := F) c 0 ∗ tcellP (F := F) c 1 ∗ tcellP (F := F) c 2 ∗ tcellP (F := F) c 3 ∗ tcellP (F := F) c 4 ∗ tcellP (F := F) c 5)
/-- The tables in the regions the transfers take: every block of every table, and the tails. -/
def tabP : sProp 𝕄 :=
  iprop(bigSep Finset.univ (homeW c XW 0) ∗ bigSep Finset.univ (homeW c XW 1) ∗ bigSep Finset.univ (homeW c XW 2) ∗ bigSep Finset.univ (homeW c XW 3) ∗ bigSep Finset.univ (homeM c XM) ∗ bigSep Finset.univ (homeG c XG) ∗ ptP c (tailW 0) XW ∗ ptP c (tailW 1) XW ∗ ptP c (tailW 2) XW ∗ ptP c (tailW 3) XW ∗ ptP c (tailM mM) XM ∗ ptP c (tailM gM) XG)

abbrev bodyG : Prog (TpuEff nD τ sig (Elt F) Λ₀ .tc) PUnit :=
  cc0__outer (F := F) arg0 harg0 wM (Memref.isWhole_whole _) wM (Memref.isWhole_whole _) wM (Memref.isWhole_whole _) wM (Memref.isWhole_whole _) mM (Memref.isWhole_whole _) gM (Memref.isWhole_whole _)
    arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6
    (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11

set_option backward.proofsInPublic true in
set_option maxHeartbeats 8000000 in
theorem bodyRun (g0) (W : Waits sig Unit) :
    iprop(ptP c arg0 g0 ∗ (∃ f, ptP (F := F) c arg7 f) ∗ (∃ f, ptP (F := F) c arg8 f) ∗ owes (c : Thread nD τ) 0 W ∗ scrP (F := F) c ∗ tabP c XW XM XG)
      ⊢ wp frame (wpE (defs₀ (F := F)) 𝒱₀ (c : Thread nD τ) none) Set.univ (bodyG arg0 harg0 arg7 harg7 arg8 harg8)
        (fun _ => iprop(ptP c arg0 g0 ∗ (∃ f, ptP (F := F) c arg7 f ∗ ⌜View.read (Elt F) arg7.view f = outF (stEnd c XW XM XG arg0 g0)⌝)
          ∗ (∃ f, ptP (F := F) c arg8 f ∗ ⌜View.read (Elt F) arg8.view f = outI (stEnd c XW XM XG arg0 g0)⌝)
          ∗ (∃ W, owes (c : Thread nD τ) 0 W) ∗ scrP (F := F) c ∗ tabP c XW XM XG)) := by
  have d1 := cond1_on
  have d2 := cond2_on
  have d3 := cond3_on
  have d4 := cond4_on
  have d5 := cond5_on
  have d6 := cond6_on
  have d7 := cond7_on
  have d8 := cond8_on
  have d9 := cond9_on
  have d10 := cond10_on
  have d11 := cond11_on
  have d12 := cond12_on
  unfold scrP tabP
  rw [ring_open (homeW c XW 0), ring_open (homeW c XW 1), ring_open (homeW c XW 2), ring_open (homeW c XW 3), ring_open (homeM c XM), ring_open (homeG c XG)]
  iintro ⟨H0, ⟨%f7, H7⟩, ⟨%f8, H8⟩, HW, ⟨⟨%g9, H9⟩, ⟨%g10, H10⟩, ⟨%g11, H11⟩, ⟨⟨%s00, HS00⟩, HC00⟩, ⟨⟨%s01, HS01⟩, HC01⟩, ⟨⟨%s02, HS02⟩, HC02⟩, ⟨⟨%s03, HS03⟩, HC03⟩, ⟨⟨%s10, HS10⟩, HC10⟩, ⟨⟨%s11, HS11⟩, HC11⟩, ⟨⟨%s12, HS12⟩, HC12⟩, ⟨⟨%s13, HS13⟩, HC13⟩, ⟨⟨%s20, HS20⟩, HC20⟩, ⟨⟨%s21, HS21⟩, HC21⟩, ⟨⟨%s22, HS22⟩, HC22⟩, ⟨⟨%s23, HS23⟩, HC23⟩, ⟨⟨%s30, HS30⟩, HC30⟩, ⟨⟨%s31, HS31⟩, HC31⟩, ⟨⟨%s32, HS32⟩, HC32⟩, ⟨⟨%s33, HS33⟩, HC33⟩, ⟨⟨%s40, HS40⟩, HC40⟩, ⟨⟨%s41, HS41⟩, HC41⟩, ⟨⟨%s42, HS42⟩, HC42⟩, ⟨⟨%s43, HS43⟩, HC43⟩, ⟨⟨%s50, HS50⟩, HC50⟩, ⟨⟨%s51, HS51⟩, HC51⟩, ⟨⟨%s52, HS52⟩, HC52⟩, ⟨⟨%s53, HS53⟩, HC53⟩, ⟨%t0, HT0⟩, ⟨%t1, HT1⟩, ⟨%t2, HT2⟩, ⟨%t3, HT3⟩, ⟨%t4, HT4⟩, ⟨%t5, HT5⟩, HTC0, HTC1, HTC2, HTC3, HTC4, HTC5⟩, ⟨HB00, HB01, HB02, HR0⟩, ⟨HB10, HB11, HB12, HR1⟩, ⟨HB20, HB21, HB22, HR2⟩, ⟨HB30, HB31, HB32, HR3⟩, ⟨HB40, HB41, HB42, HR4⟩, ⟨HB50, HB51, HB52, HR5⟩, HX0, HX1, HX2, HX3, HX4, HX5⟩
  dsimp only [bodyG]
  sl_unfold [cc0__outer]
  sl_exec
  sl_for (invAt c XW XM XG arg0 g0 st0) $$ [H0 H9 H10 H11 HW HC00 HC01 HC02 HS03 HC03 HR0 HC10 HC11 HC12 HS13 HC13 HR1 HC20 HC21 HC22 HS23 HC23 HR2 HC30 HC31 HC32 HS33 HC33 HR3 HC40 HC41 HC42 HS43 HC43 HR4 HC50 HC51 HC52 HS53 HC53 HR5]
  case region =>
    intro k acc
    exact inv_step c XW XM XG arg0 harg0 arg7 harg7 arg8 harg8 0#32 0#32 0#32 0#32 0#32 0#32 0#32 0#1 g0 st0 k acc
  · unfold invAt
    isplitr
    · ipureintro; rfl
    isplitl [H0]; · iexact H0
    isplitl [H9 H10 H11]
    · iexists _, _, _
      isplitl [H9]; · iexact H9
      isplitl [H10]; · iexact H10
      isplitl [H11]; · iexact H11
      ipureintro
      exact ⟨stOf_init c _ _, cntOf_writes c _ _⟩
    isplitl [HW]; · iexists _; iexact HW
    isplitl [HC00 HC01 HC02 HS03 HC03 HR0]
    · iapply (ring_start _ _ _)
      isplitl [HC00]; · iexists _; iexact HC00
      isplitl [HC01]; · iexists _; iexact HC01
      isplitl [HC02]; · iexists _; iexact HC02
      isplitl [HS03 HC03]
      · isplitl [HS03]; · iexists _; iexact HS03
        iexact HC03
      iexact HR0
    isplitl [HC10 HC11 HC12 HS13 HC13 HR1]
    · iapply (ring_start _ _ _)
      isplitl [HC10]; · iexists _; iexact HC10
      isplitl [HC11]; · iexists _; iexact HC11
      isplitl [HC12]; · iexists _; iexact HC12
      isplitl [HS13 HC13]
      · isplitl [HS13]; · iexists _; iexact HS13
        iexact HC13
      iexact HR1
    isplitl [HC20 HC21 HC22 HS23 HC23 HR2]
    · iapply (ring_start _ _ _)
      isplitl [HC20]; · iexists _; iexact HC20
      isplitl [HC21]; · iexists _; iexact HC21
      isplitl [HC22]; · iexists _; iexact HC22
      isplitl [HS23 HC23]
      · isplitl [HS23]; · iexists _; iexact HS23
        iexact HC23
      iexact HR2
    isplitl [HC30 HC31 HC32 HS33 HC33 HR3]
    · iapply (ring_start _ _ _)
      isplitl [HC30]; · iexists _; iexact HC30
      isplitl [HC31]; · iexists _; iexact HC31
      isplitl [HC32]; · iexists _; iexact HC32
      isplitl [HS33 HC33]
      · isplitl [HS33]; · iexists _; iexact HS33
        iexact HC33
      iexact HR3
    isplitl [HC40 HC41 HC42 HS43 HC43 HR4]
    · iapply (ring_start _ _ _)
      isplitl [HC40]; · iexists _; iexact HC40
      isplitl [HC41]; · iexists _; iexact HC41
      isplitl [HC42]; · iexists _; iexact HC42
      isplitl [HS43 HC43]
      · isplitl [HS43]; · iexists _; iexact HS43
        iexact HC43
      iexact HR4
    iapply (ring_start _ _ _)
    isplitl [HC50]; · iexists _; iexact HC50
    isplitl [HC51]; · iexists _; iexact HC51
    isplitl [HC52]; · iexists _; iexact HC52
    isplitl [HS53 HC53]
    · isplitl [HS53]; · iexists _; iexact HS53
      iexact HC53
    iexact HR5
  iintro %acc HI
  unfold invAt
  icases HI with ⟨%hacc, H0, ⟨%k9, %k10, %k11, H9, H10, H11, %hs⟩, ⟨%W', HW⟩, HR0, HR1, HR2, HR3, HR4, HR5⟩
  have hacc' : acc = words 48 := hacc.trans (congrArg words trips_eq)
  subst hacc'
  sl_exec
  sl_step
  have hs1 : stOf c k9 k10 = stRec c XW XM XG arg0 g0 st0 48 := hs.1.trans (congrArg (stRec c XW XM XG arg0 g0 st0) trips_eq)
  have el : bodyRun.sl.v106 c XW arg0 g0 = lgTail c XW arg0 g0 := by
    have w0 : bodyRun.sl.v84 c XW = wTail c XW 0 := tSlot_read 0 _ rfl _ _ _ _
    have w1 : bodyRun.sl.v90 c XW = wTail c XW 1 := tSlot_read 1 _ rfl _ _ _ _
    have w2 : bodyRun.sl.v97 c XW = wTail c XW 2 := tSlot_read 2 _ rfl _ _ _ _
    have w3 : bodyRun.sl.v104 c XW = wTail c XW 3 := tSlot_read 3 _ rfl _ _ _ _
    refine Eq.trans (b := lgTOf (hDat0 c arg0 g0) (hDat1 c arg0 g0) (hDat2 c arg0 g0) (hDat3 c arg0 g0) (bodyRun.sl.v84 c XW) (bodyRun.sl.v90 c XW) (bodyRun.sl.v97 c XW) (bodyRun.sl.v104 c XW)) rfl ?_
    rw [w0, w1, w2, w3]
    rfl
  have em : bodyRun.sl.v107 c XM = mTail c XM := View.readCov_full (s := S128x1696) t4M.view _ (off' := fun _ => 0) (fun a => by simp) _ []
  have eg : bodyRun.sl.v108 c XG = gTail c XG := View.readCov_full (s := S128x1696) t5M.view _ (off' := fun _ => 0) (fun a => by simp) _ []
  have hst : stOf c (stM.view.writes (Elt F) stM.view.junk (bodyRun.sl.H9_8 c XW XM XG arg0 g0 k9)) (ixM.view.writes (Elt F) ixM.view.junk (bodyRun.sl.H10_2 c XW XM XG arg0 g0 k9 k10)) = stEnd c XW XM XG arg0 g0 := by
    refine (stOf_writes c _ _ _ _ _ _ _ _ _ _ _ _).trans ?_
    refine Eq.trans (b := accum broadcasts_S128x1_S128x1696 reduces_S128x1696_S128 (bodyRun.sl.v106 c XW arg0 g0) (bodyRun.sl.v108 c XG) (mbTail (bodyRun.sl.v107 c XM)) gidxTail (stOf c k9 k10)) ?_ ?_
    · exact (stMk_cast _ _ _ _ _ _ _ _ _ _).trans rfl
    · rw [el, eg, em, hs1]; rfl
  isplitl [H0]; · iexact H0
  isplitl [H7]
  · iexists _
    isplitl [H7]; · iexact H7
    ipureintro
    refine (View.read_writes_full (s := S128x1) arg7.view _ (off := ![0, 0]) _ _ []).trans ?_
    exact Eq.trans (b := outF (stOf c (stM.view.writes (Elt F) stM.view.junk (bodyRun.sl.H9_8 c XW XM XG arg0 g0 k9)) (ixM.view.writes (Elt F) ixM.view.junk (bodyRun.sl.H10_2 c XW XM XG arg0 g0 k9 k10)))) rfl (congrArg outF hst)
  isplitl [H8]
  · iexists _
    isplitl [H8]; · iexact H8
    ipureintro
    refine (View.read_writes_full (s := S128x1) arg8.view _ (off := ![0, 0]) _ _ []).trans ?_
    exact Eq.trans (b := outI (stOf c (stM.view.writes (Elt F) stM.view.junk (bodyRun.sl.H9_8 c XW XM XG arg0 g0 k9)) (ixM.view.writes (Elt F) ixM.view.junk (bodyRun.sl.H10_2 c XW XM XG arg0 g0 k9 k10)))) rfl (congrArg outI hst)
  isplitl [HW]; · iexists _; iexact HW
  ihave HD0 := (ring_done _ _ _ _ trips_eq) $$ HR0
  icases HD0 with ⟨HB0, HS00, HS01, HS02, HS03⟩
  ihave HD1 := (ring_done _ _ _ _ trips_eq) $$ HR1
  icases HD1 with ⟨HB1, HS10, HS11, HS12, HS13⟩
  ihave HD2 := (ring_done _ _ _ _ trips_eq) $$ HR2
  icases HD2 with ⟨HB2, HS20, HS21, HS22, HS23⟩
  ihave HD3 := (ring_done _ _ _ _ trips_eq) $$ HR3
  icases HD3 with ⟨HB3, HS30, HS31, HS32, HS33⟩
  ihave HD4 := (ring_done _ _ _ _ trips_eq) $$ HR4
  icases HD4 with ⟨HB4, HS40, HS41, HS42, HS43⟩
  ihave HD5 := (ring_done _ _ _ _ trips_eq) $$ HR5
  icases HD5 with ⟨HB5, HS50, HS51, HS52, HS53⟩
  isplitl [H9 H10 H11 HS00 HS01 HS02 HS03 HS10 HS11 HS12 HS13 HS20 HS21 HS22 HS23 HS30 HS31 HS32 HS33 HS40 HS41 HS42 HS43 HS50 HS51 HS52 HS53 HT0 HT1 HT2 HT3 HT4 HT5 HTC0 HTC1 HTC2 HTC3 HTC4 HTC5]
  · isplitl [H9]; · iexists _; iexact H9
    isplitl [H10]; · iexists _; iexact H10
    isplitl [H11]; · iexists _; iexact H11
    isplitl [HS00]; · iexact HS00
    isplitl [HS01]; · iexact HS01
    isplitl [HS02]; · iexact HS02
    isplitl [HS03]; · iexact HS03
    isplitl [HS10]; · iexact HS10
    isplitl [HS11]; · iexact HS11
    isplitl [HS12]; · iexact HS12
    isplitl [HS13]; · iexact HS13
    isplitl [HS20]; · iexact HS20
    isplitl [HS21]; · iexact HS21
    isplitl [HS22]; · iexact HS22
    isplitl [HS23]; · iexact HS23
    isplitl [HS30]; · iexact HS30
    isplitl [HS31]; · iexact HS31
    isplitl [HS32]; · iexact HS32
    isplitl [HS33]; · iexact HS33
    isplitl [HS40]; · iexact HS40
    isplitl [HS41]; · iexact HS41
    isplitl [HS42]; · iexact HS42
    isplitl [HS43]; · iexact HS43
    isplitl [HS50]; · iexact HS50
    isplitl [HS51]; · iexact HS51
    isplitl [HS52]; · iexact HS52
    isplitl [HS53]; · iexact HS53
    isplitl [HT0]; · iexists _; iexact HT0
    isplitl [HT1]; · iexists _; iexact HT1
    isplitl [HT2]; · iexists _; iexact HT2
    isplitl [HT3]; · iexists _; iexact HT3
    isplitl [HT4]; · iexists _; iexact HT4
    isplitl [HT5]; · iexists _; iexact HT5
    isplitl [HTC0]; · iexact HTC0
    isplitl [HTC1]; · iexact HTC1
    isplitl [HTC2]; · iexact HTC2
    isplitl [HTC3]; · iexact HTC3
    isplitl [HTC4]; · iexact HTC4
    iexact HTC5
  isplitl [HB0]; · iapply (Entails.of_eq (ring_open (homeW c XW 0))); iexact HB0
  isplitl [HB1]; · iapply (Entails.of_eq (ring_open (homeW c XW 1))); iexact HB1
  isplitl [HB2]; · iapply (Entails.of_eq (ring_open (homeW c XW 2))); iexact HB2
  isplitl [HB3]; · iapply (Entails.of_eq (ring_open (homeW c XW 3))); iexact HB3
  isplitl [HB4]; · iapply (Entails.of_eq (ring_open (homeM c XM))); iexact HB4
  isplitl [HB5]; · iapply (Entails.of_eq (ring_open (homeG c XG))); iexact HB5
  isplitl [HX0]; · iexact HX0
  isplitl [HX1]; · iexact HX1
  isplitl [HX2]; · iexact HX2
  isplitl [HX3]; · iexact HX3
  isplitl [HX4]; · iexact HX4
  iexact HX5

end Body

end Cert.Proof.Ideal

end
-- ==== Proof.Tables.lean ====
/-
  The tables and the scratch as the launch holds them, cut into the regions the body takes: a table whole is its
  forty-eight column blocks and its last columns, a ring's buffer whole is its four slots.
-/
module

public import proofs.«01_k».proof.Proof.Body

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## The weights -/

/-- Row split `i`'s column block `b`, and its last columns. -/
def bW (i : Fin 4) (b : Fin 48) : Finset S4x256x100000.Idx := (blkW i b).view.set
def eW (i : Fin 4) : Finset S4x256x100000.Idx := (tailW i).view.set
/-- One or the other. -/
def gW (p : Fin 4 × (Fin 48 ⊕ Unit)) : Finset S4x256x100000.Idx :=
  match p with
  | (i, .inl b) => bW i b
  | (i, .inr _) => eW i
/-- Which rows and columns those are. -/
def pW (p : Fin 4 × (Fin 48 ⊕ Unit)) (y : S4x256x100000.Idx) : Prop :=
  (y 0).val = p.1.val ∧ match p.2 with
    | .inl b => 2048 * b.val ≤ (y 2).val ∧ (y 2).val < 2048 * b.val + 2048
    | .inr _ => 98304 ≤ (y 2).val

theorem mem_blkW (i : Fin 4) (b : Fin 48) (y : S4x256x100000.Idx) :
    y ∈ bW i b ↔ (y 0).val = i.val ∧ 2048 * b.val ≤ (y 2).val ∧ (y 2).val < 2048 * b.val + 2048 := by
  have hb := b.isLt
  have hi := i.isLt
  have h1 : (y 1).val < 256 := (y 1).isLt
  refine (show y ∈ bW i b ↔ ∃ x ∈ (Rect.unit (s := S4x256x98304) (blkOffW i b) S1x256x2048.size (blkOffW_inb i b)).set,
      ((View.whole main_v3).slice (Rect.unit (s := S4x256x100000) ![0, 0, 0] S4x256x98304.size inb_S4x256x100000_S4x256x98304_0_0_0)).emb x = y from
    ((congrArg (fun S => y ∈ S) (View.set_slice _ _)).to_iff).trans Finset.mem_map).trans ?_
  constructor
  · rintro ⟨x, hx, rfl⟩
    rw [Rect.mem_set_unit] at hx
    have a0 : i.val ≤ (x 0).val ∧ (x 0).val < i.val + 1 := hx 0
    have a2 : 2048 * b.val ≤ (x 2).val ∧ (x 2).val < 2048 * b.val + 2048 := hx 2
    refine ⟨?_, ?_, ?_⟩
    · show 0 + 1 * (x 0).val = _; omega
    · show _ ≤ 0 + 1 * (x 2).val; omega
    · show 0 + 1 * (x 2).val < _; omega
  · rintro ⟨e0, e1, e2⟩
    have hy : (y 2).val < 98304 := by omega
    refine ⟨fun | 0 => (⟨(y 0).val, by rw [e0]; exact hi⟩ : Fin 4) | 1 => (⟨(y 1).val, h1⟩ : Fin 256) | 2 => (⟨(y 2).val, hy⟩ : Fin 98304), ?_, ?_⟩
    · rw [Rect.mem_set_unit]; intro a; fin_cases a
      · show i.val ≤ (y 0).val ∧ (y 0).val < i.val + 1; omega
      · show 0 ≤ (y 1).val ∧ (y 1).val < 0 + 256; omega
      · exact ⟨e1, e2⟩
    · funext a; apply Fin.ext; fin_cases a
      · show 0 + 1 * (y 0).val = (y 0).val; omega
      · show 0 + 1 * (y 1).val = (y 1).val; omega
      · show 0 + 1 * (y 2).val = (y 2).val; omega

theorem tailW_set (i : Fin 4) : eW i = (Rect.unit (s := S4x256x100000) (tailOffW i) S1x256x1696.size (tailOffW_inb i)).set :=
  (View.set_reshape _ _).trans (View.set_slice_whole _ _)
theorem mem_tailW (i : Fin 4) (y : S4x256x100000.Idx) : y ∈ eW i ↔ (y 0).val = i.val ∧ 98304 ≤ (y 2).val := by
  have hi := i.isLt
  have h1 : (y 1).val < 256 := (y 1).isLt
  have h2 : (y 2).val < 100000 := (y 2).isLt
  rw [tailW_set, Rect.mem_set_unit]
  constructor
  · intro H
    have a0 : i.val ≤ (y 0).val ∧ (y 0).val < i.val + 1 := H 0
    have a2 : 98304 ≤ (y 2).val ∧ (y 2).val < 98304 + 1696 := H 2
    omega
  · rintro ⟨e0, e2⟩ a; fin_cases a
    · show i.val ≤ (y 0).val ∧ (y 0).val < i.val + 1; omega
    · show 0 ≤ (y 1).val ∧ (y 1).val < 0 + 256; omega
    · show 98304 ≤ (y 2).val ∧ (y 2).val < 98304 + 1696; omega

theorem mem_gW (p : Fin 4 × (Fin 48 ⊕ Unit)) (y : S4x256x100000.Idx) : y ∈ gW p ↔ pW p y := by
  obtain ⟨i, b | u⟩ := p
  · exact mem_blkW i b y
  · exact mem_tailW i y

theorem gW_disjoint : ∀ p p' : Fin 4 × (Fin 48 ⊕ Unit), p ≠ p' → Disjoint (gW p) (gW p') := by
  intro p p' hne; rw [Finset.disjoint_left]; intro y hy hy'; rw [mem_gW] at hy hy'
  apply hne
  obtain ⟨i, b | u⟩ := p <;> obtain ⟨i', b' | u'⟩ := p'
  · obtain ⟨h0, h1⟩ := hy; obtain ⟨h0', h1'⟩ := hy'
    simp only at h0 h1 h0' h1'
    have : i = i' := Fin.ext (by omega)
    have : b = b' := Fin.ext (by omega)
    subst_vars; rfl
  · obtain ⟨h0, h1⟩ := hy; obtain ⟨h0', h1'⟩ := hy'
    simp only at h0 h1 h0' h1'
    have := b.isLt; omega
  · obtain ⟨h0, h1⟩ := hy; obtain ⟨h0', h1'⟩ := hy'
    simp only at h0 h1 h0' h1'
    have := b'.isLt; omega
  · obtain ⟨h0, h1⟩ := hy; obtain ⟨h0', h1'⟩ := hy'
    simp only at h0 h1 h0' h1'
    have : i = i' := Fin.ext (by omega)
    subst_vars; rfl

theorem gW_cover : (Finset.univ : Finset (Fin 4 × (Fin 48 ⊕ Unit))).biUnion gW = Finset.univ := by
  ext y
  have h0 : (y 0).val < 4 := (y 0).isLt
  simp only [Finset.mem_biUnion, Finset.mem_univ, true_and, iff_true]
  by_cases h : (y 2).val < 98304
  · refine ⟨(⟨(y 0).val, h0⟩, .inl ⟨(y 2).val / 2048, by omega⟩), ?_⟩
    rw [mem_gW]; refine ⟨rfl, ?_⟩
    show 2048 * ((y 2).val / 2048) ≤ (y 2).val ∧ (y 2).val < 2048 * ((y 2).val / 2048) + 2048
    omega
  · refine ⟨(⟨(y 0).val, h0⟩, .inr ()), ?_⟩
    rw [mem_gW]; exact ⟨rfl, by show 98304 ≤ (y 2).val; omega⟩

theorem bigSep_unit (Φ : Unit → sProp 𝕄) : bigSep Finset.univ Φ = Φ () := by
  rw [show (Finset.univ : Finset Unit) = {()} from rfl, bigSep_singleton]

/-- The weights whole: each row split's blocks and last columns. -/
theorem table_W (c : Dev nD) (XW : Buf (Elt F) (wM.view.loc (c : Thread nD τ))) :
    (((c : Thread nD τ).loc main_v3) ↦{fullShare} XW : sProp 𝕄)
      = iprop((bigSep Finset.univ (homeW c XW 0) ∗ ptP c (tailW 0) XW) ∗ (bigSep Finset.univ (homeW c XW 1) ∗ ptP c (tailW 1) XW)
          ∗ (bigSep Finset.univ (homeW c XW 2) ∗ ptP c (tailW 2) XW) ∗ (bigSep Finset.univ (homeW c XW 3) ∗ ptP c (tailW 3) XW)) := by
  rw [Ring.pointsTo_blocks (ℓ := (c : Thread nD τ).loc main_v3) gW gW_disjoint gW_cover, bigSep_univ_prod, Ring.bigSep_fin4]
  rw [bigSep_univ_sum, bigSep_univ_sum, bigSep_univ_sum, bigSep_univ_sum, bigSep_unit, bigSep_unit, bigSep_unit, bigSep_unit]
  rfl

/-! ## The mask and the noise -/

def bM (b : Fin 48) : Finset S128x100000.Idx := (blkM mM b).view.set
def eM : Finset S128x100000.Idx := (tailM mM).view.set
def gMk (p : Fin 48 ⊕ Unit) : Finset S128x100000.Idx :=
  match p with
  | .inl b => bM b
  | .inr _ => eM
def pMk (p : Fin 48 ⊕ Unit) (y : S128x100000.Idx) : Prop :=
  match p with
  | .inl b => 2048 * b.val ≤ (y 1).val ∧ (y 1).val < 2048 * b.val + 2048
  | .inr _ => 98304 ≤ (y 1).val

theorem mem_blkM (b : Fin 48) (y : S128x100000.Idx) :
    y ∈ bM b ↔ 2048 * b.val ≤ (y 1).val ∧ (y 1).val < 2048 * b.val + 2048 := by
  have hb := b.isLt
  have h0 : (y 0).val < 128 := (y 0).isLt
  refine (show y ∈ bM b ↔ ∃ x ∈ (Rect.unit (s := S128x98304) (blkOffM b) S128x2048.size (blkOffM_inb b)).set,
      ((View.whole main_v1).slice (Rect.unit (s := S128x100000) ![0, 0] S128x98304.size inb_S128x100000_S128x98304_0_0)).emb x = y from
    ((congrArg (fun S => y ∈ S) (View.set_slice _ _)).to_iff).trans Finset.mem_map).trans ?_
  constructor
  · rintro ⟨x, hx, rfl⟩
    rw [Rect.mem_set_unit] at hx
    have a2 : 2048 * b.val ≤ (x 1).val ∧ (x 1).val < 2048 * b.val + 2048 := hx 1
    refine ⟨?_, ?_⟩
    · show _ ≤ 0 + 1 * (x 1).val; omega
    · show 0 + 1 * (x 1).val < _; omega
  · rintro ⟨e1, e2⟩
    have hy : (y 1).val < 98304 := by omega
    refine ⟨fun | 0 => (⟨(y 0).val, h0⟩ : Fin 128) | 1 => (⟨(y 1).val, hy⟩ : Fin 98304), ?_, ?_⟩
    · rw [Rect.mem_set_unit]; intro a; fin_cases a
      · show 0 ≤ (y 0).val ∧ (y 0).val < 0 + 128; omega
      · exact ⟨e1, e2⟩
    · funext a; apply Fin.ext; fin_cases a
      · show 0 + 1 * (y 0).val = (y 0).val; omega
      · show 0 + 1 * (y 1).val = (y 1).val; omega
theorem mem_tailM (y : S128x100000.Idx) : y ∈ eM ↔ 98304 ≤ (y 1).val := by
  have h0 : (y 0).val < 128 := (y 0).isLt
  have h1 : (y 1).val < 100000 := (y 1).isLt
  have e : eM = (Rect.unit (s := S128x100000) ![0, 98304] S128x1696.size inb_S128x100000_S128x1696_0_98304).set := View.set_slice_whole _ _
  rw [e, Rect.mem_set_unit]
  constructor
  · intro H
    have a1 : 98304 ≤ (y 1).val ∧ (y 1).val < 98304 + 1696 := H 1
    exact a1.1
  · intro e1 a; fin_cases a
    · show 0 ≤ (y 0).val ∧ (y 0).val < 0 + 128; omega
    · show 98304 ≤ (y 1).val ∧ (y 1).val < 98304 + 1696; omega
theorem mem_gMk (p : Fin 48 ⊕ Unit) (y : S128x100000.Idx) : y ∈ gMk p ↔ pMk p y := by
  obtain b | u := p
  · exact mem_blkM b y
  · exact mem_tailM y
theorem gMk_disjoint : ∀ p p' : Fin 48 ⊕ Unit, p ≠ p' → Disjoint (gMk p) (gMk p') := by
  intro p p' hne; rw [Finset.disjoint_left]; intro y hy hy'; rw [mem_gMk] at hy hy'
  apply hne
  obtain b | u := p <;> obtain b' | u' := p'
  all_goals unfold pMk at hy hy'; simp only at hy hy'
  · have : b = b' := Fin.ext (by omega)
    subst_vars; rfl
  · have := b.isLt; omega
  · have := b'.isLt; omega
  · rfl
theorem gMk_cover : (Finset.univ : Finset (Fin 48 ⊕ Unit)).biUnion gMk = Finset.univ := by
  ext y
  simp only [Finset.mem_biUnion, Finset.mem_univ, true_and, iff_true]
  by_cases h : (y 1).val < 98304
  · refine ⟨.inl ⟨(y 1).val / 2048, by omega⟩, ?_⟩
    rw [mem_gMk]
    show 2048 * ((y 1).val / 2048) ≤ (y 1).val ∧ (y 1).val < 2048 * ((y 1).val / 2048) + 2048
    omega
  · refine ⟨.inr (), ?_⟩
    rw [mem_gMk]; show 98304 ≤ (y 1).val; omega

theorem table_M (c : Dev nD) (XM : Buf (Elt F) (mM.view.loc (c : Thread nD τ))) :
    (((c : Thread nD τ).loc main_v1) ↦{fullShare} XM : sProp 𝕄) = iprop(bigSep Finset.univ (homeM c XM) ∗ ptP c (tailM mM) XM) := by
  rw [Ring.pointsTo_blocks (ℓ := (c : Thread nD τ).loc main_v1) gMk gMk_disjoint gMk_cover, bigSep_univ_sum, bigSep_unit]
  rfl
theorem table_G (c : Dev nD) (XG : Buf (Elt F) (gM.view.loc (c : Thread nD τ))) :
    (((c : Thread nD τ).loc main_v2) ↦{fullShare} XG : sProp 𝕄) = iprop(bigSep Finset.univ (homeG c XG) ∗ ptP c (tailM gM) XG) := by
  rw [Ring.pointsTo_blocks (ℓ := (c : Thread nD τ).loc main_v2) gMk gMk_disjoint gMk_cover, bigSep_univ_sum, bigSep_unit]
  rfl

/-! ## The ring buffers and the last columns' -/

abbrev jW (s : Fin 4) : Finset S4x1x256x2048.Idx := (Rect.unit (s := S4x1x256x2048) (slotOffW s) S1x1x256x2048.size (slotOffW_inb s)).set
abbrev jM (s : Fin 4) : Finset S4x128x2048.Idx := (Rect.unit (s := S4x128x2048) (slotOffM s) S1x128x2048.size (slotOffM_inb s)).set
abbrev jT (s : Fin 4) : Finset S4x256x1696.Idx := (Rect.unit (s := S4x256x1696) (tslotOffW s) S1x256x1696.size (tslotOffW_inb s)).set

theorem mem_jW (s : Fin 4) (y : S4x1x256x2048.Idx) : y ∈ jW s ↔ (y 0).val = s.val := by
  rw [Rect.mem_set_unit]
  have h1 : (y 1).val < 1 := (y 1).isLt
  have h2 : (y 2).val < 256 := (y 2).isLt
  have h3 : (y 3).val < 2048 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 256; omega
    · show 0 ≤ (y 3).val ∧ (y 3).val < 0 + 2048; omega
theorem mem_jM (s : Fin 4) (y : S4x128x2048.Idx) : y ∈ jM s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 2048; omega
theorem mem_jT (s : Fin 4) (y : S4x256x1696.Idx) : y ∈ jT s ↔ (y 0).val = s.val := by
  rw [Rect.mem_set_unit]
  have h1 : (y 1).val < 256 := (y 1).isLt
  have h2 : (y 2).val < 1696 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1696; omega

theorem jW_disjoint : ∀ s s' : Fin 4, s ≠ s' → Disjoint (jW s) (jW s') := by
  intro b b' hne; rw [Finset.disjoint_left]; intro y hy hy'; rw [mem_jW] at hy hy'; exact hne (Fin.ext (hy.symm.trans hy'))
theorem jW_cover : (Finset.univ : Finset (Fin 4)).biUnion jW = Finset.univ := by
  ext y; simp only [Finset.mem_biUnion, Finset.mem_univ, true_and, iff_true]; exact ⟨(⟨(y 0).val, (y 0).isLt⟩ : Fin 4), by rw [mem_jW]⟩
theorem jM_disjoint : ∀ s s' : Fin 4, s ≠ s' → Disjoint (jM s) (jM s') := by
  intro b b' hne; rw [Finset.disjoint_left]; intro y hy hy'; rw [mem_jM] at hy hy'; exact hne (Fin.ext (hy.symm.trans hy'))
theorem jM_cover : (Finset.univ : Finset (Fin 4)).biUnion jM = Finset.univ := by
  ext y; simp only [Finset.mem_biUnion, Finset.mem_univ, true_and, iff_true]; exact ⟨(⟨(y 0).val, (y 0).isLt⟩ : Fin 4), by rw [mem_jM]⟩
theorem jT_disjoint : ∀ s s' : Fin 4, s ≠ s' → Disjoint (jT s) (jT s') := by
  intro b b' hne; rw [Finset.disjoint_left]; intro y hy hy'; rw [mem_jT] at hy hy'; exact hne (Fin.ext (hy.symm.trans hy'))
theorem jT_cover : (Finset.univ : Finset (Fin 4)).biUnion jT = Finset.univ := by
  ext y; simp only [Finset.mem_biUnion, Finset.mem_univ, true_and, iff_true]; exact ⟨(⟨(y 0).val, (y 0).isLt⟩ : Fin 4), by rw [mem_jT]⟩

/-- The elements of a slot, in the buffer. -/
def kW (A : Memref sig .tc .vmem S4x1x256x2048 .f32) (c : Dev nD) (s : Fin 4) : Finset (Idx (A.view.loc (c : Thread nD τ))) := (slotW A s).view.set
theorem kW_eq (A : Memref sig .tc .vmem S4x1x256x2048 .f32) (c : Dev nD) (s : Fin 4) : kW A c s = (jW s).map A.view.emb :=
  (View.set_reshape _ _).trans (View.set_slice _ _)
theorem kW_disjoint (A : Memref sig .tc .vmem S4x1x256x2048 .f32) (c : Dev nD) : ∀ s s' : Fin 4, s ≠ s' → Disjoint (kW A c s) (kW A c s') := by
  intro s s' hne; rw [kW_eq, kW_eq, Finset.disjoint_map]; exact jW_disjoint s s' hne
theorem kW_cover (A : Memref sig .tc .vmem S4x1x256x2048 .f32) (hA : A.view.set = Finset.univ) (c : Dev nD) : (Finset.univ : Finset (Fin 4)).biUnion (kW A c) = Finset.univ := by
  rw [← hA]
  ext y
  simp only [Finset.mem_biUnion, Finset.mem_univ, true_and, kW_eq, Finset.mem_map]
  constructor
  · rintro ⟨s, x, -, rfl⟩; exact Finset.mem_map.mpr ⟨x, Finset.mem_univ _, rfl⟩
  · intro h
    obtain ⟨x, -, rfl⟩ := Finset.mem_map.mp h
    obtain ⟨s, -, hs⟩ := Finset.mem_biUnion.mp ((jW_cover ▸ Finset.mem_univ x : x ∈ (Finset.univ : Finset (Fin 4)).biUnion jW))
    exact ⟨s, x, hs, rfl⟩
theorem splitW (A : Memref sig .tc .vmem S4x1x256x2048 .f32) (hA : A.view.set = Finset.univ) (c : Dev nD) :
    iprop(∃ f : Buf (Elt F) (A.view.loc (c : Thread nD τ)), (A.view.loc (c : Thread nD τ)) ↦{fullShare} f)
      ⊢ (iprop((∃ f, ptP c (slotW A 0) f) ∗ (∃ f, ptP c (slotW A 1) f) ∗ (∃ f, ptP c (slotW A 2) f) ∗ ∃ f, ptP c (slotW A 3) f) : sProp 𝕄) :=
  Ring.slots4_split (kW A c) (kW_disjoint A c) (kW_cover A hA c) (fun f => ptP c (slotW A 0) f) (fun f => ptP c (slotW A 1) f) (fun f => ptP c (slotW A 2) f) (fun f => ptP c (slotW A 3) f)
    (fun _ => rfl) (fun _ => rfl) (fun _ => rfl) (fun _ => rfl)
theorem joinW (A : Memref sig .tc .vmem S4x1x256x2048 .f32) (hA : A.view.set = Finset.univ) (c : Dev nD) :
    iprop((∃ f, ptP c (slotW A 0) f) ∗ (∃ f, ptP c (slotW A 1) f) ∗ (∃ f, ptP c (slotW A 2) f) ∗ ∃ f, ptP c (slotW A 3) f)
      ⊢ (iprop(∃ f : Buf (Elt F) (A.view.loc (c : Thread nD τ)), (A.view.loc (c : Thread nD τ)) ↦{fullShare} f) : sProp 𝕄) :=
  Ring.slots4_join (kW A c) (kW_disjoint A c) (kW_cover A hA c) (fun f => ptP c (slotW A 0) f) (fun f => ptP c (slotW A 1) f) (fun f => ptP c (slotW A 2) f) (fun f => ptP c (slotW A 3) f)
    (fun _ => rfl) (fun _ => rfl) (fun _ => rfl) (fun _ => rfl)

/-- The elements of a slot, in the buffer. -/
def kM {e : EltTy} (A : Memref sig .tc .vmem S4x128x2048 e) (c : Dev nD) (s : Fin 4) : Finset (Idx (A.view.loc (c : Thread nD τ))) := (slotM A s).view.set
theorem kM_eq {e : EltTy} (A : Memref sig .tc .vmem S4x128x2048 e) (c : Dev nD) (s : Fin 4) : kM A c s = (jM s).map A.view.emb :=
  (View.set_reshape _ _).trans (View.set_slice _ _)
theorem kM_disjoint {e : EltTy} (A : Memref sig .tc .vmem S4x128x2048 e) (c : Dev nD) : ∀ s s' : Fin 4, s ≠ s' → Disjoint (kM A c s) (kM A c s') := by
  intro s s' hne; rw [kM_eq, kM_eq, Finset.disjoint_map]; exact jM_disjoint s s' hne
theorem kM_cover {e : EltTy} (A : Memref sig .tc .vmem S4x128x2048 e) (hA : A.view.set = Finset.univ) (c : Dev nD) : (Finset.univ : Finset (Fin 4)).biUnion (kM A c) = Finset.univ := by
  rw [← hA]
  ext y
  simp only [Finset.mem_biUnion, Finset.mem_univ, true_and, kM_eq, Finset.mem_map]
  constructor
  · rintro ⟨s, x, -, rfl⟩; exact Finset.mem_map.mpr ⟨x, Finset.mem_univ _, rfl⟩
  · intro h
    obtain ⟨x, -, rfl⟩ := Finset.mem_map.mp h
    obtain ⟨s, -, hs⟩ := Finset.mem_biUnion.mp ((jM_cover ▸ Finset.mem_univ x : x ∈ (Finset.univ : Finset (Fin 4)).biUnion jM))
    exact ⟨s, x, hs, rfl⟩
theorem splitM {e : EltTy} (A : Memref sig .tc .vmem S4x128x2048 e) (hA : A.view.set = Finset.univ) (c : Dev nD) :
    iprop(∃ f : Buf (Elt F) (A.view.loc (c : Thread nD τ)), (A.view.loc (c : Thread nD τ)) ↦{fullShare} f)
      ⊢ (iprop((∃ f, ptP c (slotM A 0) f) ∗ (∃ f, ptP c (slotM A 1) f) ∗ (∃ f, ptP c (slotM A 2) f) ∗ ∃ f, ptP c (slotM A 3) f) : sProp 𝕄) :=
  Ring.slots4_split (kM A c) (kM_disjoint A c) (kM_cover A hA c) (fun f => ptP c (slotM A 0) f) (fun f => ptP c (slotM A 1) f) (fun f => ptP c (slotM A 2) f) (fun f => ptP c (slotM A 3) f)
    (fun _ => rfl) (fun _ => rfl) (fun _ => rfl) (fun _ => rfl)
theorem joinM {e : EltTy} (A : Memref sig .tc .vmem S4x128x2048 e) (hA : A.view.set = Finset.univ) (c : Dev nD) :
    iprop((∃ f, ptP c (slotM A 0) f) ∗ (∃ f, ptP c (slotM A 1) f) ∗ (∃ f, ptP c (slotM A 2) f) ∗ ∃ f, ptP c (slotM A 3) f)
      ⊢ (iprop(∃ f : Buf (Elt F) (A.view.loc (c : Thread nD τ)), (A.view.loc (c : Thread nD τ)) ↦{fullShare} f) : sProp 𝕄) :=
  Ring.slots4_join (kM A c) (kM_disjoint A c) (kM_cover A hA c) (fun f => ptP c (slotM A 0) f) (fun f => ptP c (slotM A 1) f) (fun f => ptP c (slotM A 2) f) (fun f => ptP c (slotM A 3) f)
    (fun _ => rfl) (fun _ => rfl) (fun _ => rfl) (fun _ => rfl)

abbrev aT : Memref sig .tc .vmem S4x256x1696 .f32 := Memref.whole cc0_scratch3
/-- The elements of a slot, in the buffer. -/
def kT (c : Dev nD) (s : Fin 4) : Finset (Idx (aT.view.loc (c : Thread nD τ))) := (tslotW s).view.set
theorem kT_eq (c : Dev nD) (s : Fin 4) : kT c s = (jT s).map aT.view.emb :=
  (View.set_reshape _ _).trans (View.set_slice _ _)
theorem kT_disjoint (c : Dev nD) : ∀ s s' : Fin 4, s ≠ s' → Disjoint (kT c s) (kT c s') := by
  intro s s' hne; rw [kT_eq, kT_eq, Finset.disjoint_map]; exact jT_disjoint s s' hne
theorem kT_cover (c : Dev nD) : (Finset.univ : Finset (Fin 4)).biUnion (kT c) = Finset.univ := by
  have hA : aT.view.set = Finset.univ := View.set_whole _
  rw [← hA]
  ext y
  simp only [Finset.mem_biUnion, Finset.mem_univ, true_and, kT_eq, Finset.mem_map]
  constructor
  · rintro ⟨s, x, -, rfl⟩; exact Finset.mem_map.mpr ⟨x, Finset.mem_univ _, rfl⟩
  · intro h
    obtain ⟨x, -, rfl⟩ := Finset.mem_map.mp h
    obtain ⟨s, -, hs⟩ := Finset.mem_biUnion.mp ((jT_cover ▸ Finset.mem_univ x : x ∈ (Finset.univ : Finset (Fin 4)).biUnion jT))
    exact ⟨s, x, hs, rfl⟩
theorem splitT (c : Dev nD) :
    iprop(∃ f : Buf (Elt F) (aT.view.loc (c : Thread nD τ)), (aT.view.loc (c : Thread nD τ)) ↦{fullShare} f)
      ⊢ (iprop((∃ f, ptP c (tslotW 0) f) ∗ (∃ f, ptP c (tslotW 1) f) ∗ (∃ f, ptP c (tslotW 2) f) ∗ ∃ f, ptP c (tslotW 3) f) : sProp 𝕄) :=
  Ring.slots4_split (kT c) (kT_disjoint c) (kT_cover c) (fun f => ptP c (tslotW 0) f) (fun f => ptP c (tslotW 1) f) (fun f => ptP c (tslotW 2) f) (fun f => ptP c (tslotW 3) f)
    (fun _ => rfl) (fun _ => rfl) (fun _ => rfl) (fun _ => rfl)
theorem joinT (c : Dev nD) :
    iprop((∃ f, ptP c (tslotW 0) f) ∗ (∃ f, ptP c (tslotW 1) f) ∗ (∃ f, ptP c (tslotW 2) f) ∗ ∃ f, ptP c (tslotW 3) f)
      ⊢ (iprop(∃ f : Buf (Elt F) (aT.view.loc (c : Thread nD τ)), (aT.view.loc (c : Thread nD τ)) ↦{fullShare} f) : sProp 𝕄) :=
  Ring.slots4_join (kT c) (kT_disjoint c) (kT_cover c) (fun f => ptP c (tslotW 0) f) (fun f => ptP c (tslotW 1) f) (fun f => ptP c (tslotW 2) f) (fun f => ptP c (tslotW 3) f)
    (fun _ => rfl) (fun _ => rfl) (fun _ => rfl) (fun _ => rfl)

theorem stM_eq (c : Dev nD) (f : Buf (Elt F) ((c : Thread nD τ).loc cc0_scratch0)) : ptP c stM f = (((c : Thread nD τ).loc cc0_scratch0) ↦{fullShare} f : sProp 𝕄) :=
  congrArg (fun S => (((c : Thread nD τ).loc cc0_scratch0) ↦[S]{fullShare} f : sProp 𝕄)) (View.set_whole _)
theorem ixM_eq (c : Dev nD) (f : Buf (Elt F) ((c : Thread nD τ).loc cc0_scratch1)) : ptP c ixM f = (((c : Thread nD τ).loc cc0_scratch1) ↦{fullShare} f : sProp 𝕄) :=
  congrArg (fun S => (((c : Thread nD τ).loc cc0_scratch1) ↦[S]{fullShare} f : sProp 𝕄)) (View.set_whole _)
theorem cnM_eq (c : Dev nD) (f : Buf (Elt F) ((c : Thread nD τ).loc cc0_scratch2)) : ptP c cnM f = (((c : Thread nD τ).loc cc0_scratch2) ↦{fullShare} f : sProp 𝕄) :=
  congrArg (fun S => (((c : Thread nD τ).loc cc0_scratch2) ↦[S]{fullShare} f : sProp 𝕄)) (View.set_whole _)
theorem t4M_eq (c : Dev nD) (f : Buf (Elt F) ((c : Thread nD τ).loc cc0_scratch4)) : ptP c t4M f = (((c : Thread nD τ).loc cc0_scratch4) ↦{fullShare} f : sProp 𝕄) :=
  congrArg (fun S => (((c : Thread nD τ).loc cc0_scratch4) ↦[S]{fullShare} f : sProp 𝕄)) (View.set_whole _)
theorem t5M_eq (c : Dev nD) (f : Buf (Elt F) ((c : Thread nD τ).loc cc0_scratch5)) : ptP c t5M f = (((c : Thread nD τ).loc cc0_scratch5) ↦{fullShare} f : sProp 𝕄) :=
  congrArg (fun S => (((c : Thread nD τ).loc cc0_scratch5) ↦[S]{fullShare} f : sProp 𝕄)) (View.set_whole _)

/-! ## The cells -/

/-- The cells the body waits on: a ring's four each, and the last columns' six. -/
abbrev osem : Fin 6 × Fin 4 ⊕ Fin 6 → SemLoc sig
  | .inl (0, s) => .dma (cellR cc0_scoped1 s).sem
  | .inl (1, s) => .dma (cellR cc0_scoped3 s).sem
  | .inl (2, s) => .dma (cellR cc0_scoped5 s).sem
  | .inl (3, s) => .dma (cellR cc0_scoped7 s).sem
  | .inl (4, s) => .dma (cellR cc0_scoped9 s).sem
  | .inl (5, s) => .dma (cellR cc0_scoped11 s).sem
  | .inr s => .dma (tcell s).sem
theorem ownSemFacts : Pipeline.OwnSemFacts spec0 osem := by decide +kernel
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem ownSems0_eq (c : Dev nD) : (Pipeline.ownSems0 (Ix := Unit) (Name := ℕ) (U := Pipeline.UD sig nD τ) (Lvl := ℕ) (Val := Elt F) (τ := τ) osem c : sProp 𝕄)
    = iprop(((cellP c cc0_scoped1 0 ∗ cellP c cc0_scoped1 1 ∗ cellP c cc0_scoped1 2 ∗ cellP c cc0_scoped1 3) ∗ (cellP c cc0_scoped3 0 ∗ cellP c cc0_scoped3 1 ∗ cellP c cc0_scoped3 2 ∗ cellP c cc0_scoped3 3) ∗ (cellP c cc0_scoped5 0 ∗ cellP c cc0_scoped5 1 ∗ cellP c cc0_scoped5 2 ∗ cellP c cc0_scoped5 3) ∗ (cellP c cc0_scoped7 0 ∗ cellP c cc0_scoped7 1 ∗ cellP c cc0_scoped7 2 ∗ cellP c cc0_scoped7 3) ∗ (cellP c cc0_scoped9 0 ∗ cellP c cc0_scoped9 1 ∗ cellP c cc0_scoped9 2 ∗ cellP c cc0_scoped9 3) ∗ (cellP c cc0_scoped11 0 ∗ cellP c cc0_scoped11 1 ∗ cellP c cc0_scoped11 2 ∗ cellP c cc0_scoped11 3)) ∗ tcellP c 0 ∗ tcellP c 1 ∗ tcellP c 2 ∗ tcellP c 3 ∗ tcellP c 4 ∗ tcellP c 5) := by
  unfold Pipeline.ownSems0
  rw [bigSep_univ_sum, bigSep_univ_prod, bigSep_fin6, bigSep_fin6, Ring.bigSep_fin4, Ring.bigSep_fin4, Ring.bigSep_fin4, Ring.bigSep_fin4, Ring.bigSep_fin4, Ring.bigSep_fin4]
  rfl

end Cert.Proof.Ideal

end
-- ==== Proof.Launch.lean ====
/-
  The launch: the windows' proof data, the body's obligation at the one point, and the run of the program over any
  float values — the arguments unchanged, the two results at the reshapes of what the body computes, every semaphore
  at zero.
-/
module

public import proofs.«01_k».proof.Proof.Tables
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.ValueKit

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The scratch: the scoped buffers and the cells -/

theorem scr_of (c : Dev nD) :
    iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem c) ⊢ (scrP (F := F) c : sProp 𝕄) := by
  rw [scopedRest0_eq, ownSems0_eq]
  unfold scrP freeW freeM
  iintro ⟨⟨⟨%fBs0, Bs0⟩, ⟨%fBs1, Bs1⟩, Bs3, ⟨%fBs4, Bs4⟩, ⟨%fBs5, Bs5⟩, Br0, Br2, Br4, Br6, Br8, Br10, ⟨%fBs2, Bs2⟩⟩, ⟨⟨C00, C01, C02, C03⟩, ⟨C10, C11, C12, C13⟩, ⟨C20, C21, C22, C23⟩, ⟨C30, C31, C32, C33⟩, ⟨C40, C41, C42, C43⟩, ⟨C50, C51, C52, C53⟩⟩, T0, T1, T2, T3, T4, T5⟩
  ihave S0 := (splitW aW0 (View.set_whole _) c) $$ Br0
  icases S0 with ⟨S00, S01, S02, S03⟩
  ihave S1 := (splitW aW1 (View.set_whole _) c) $$ Br2
  icases S1 with ⟨S10, S11, S12, S13⟩
  ihave S2 := (splitW aW2 (View.set_whole _) c) $$ Br4
  icases S2 with ⟨S20, S21, S22, S23⟩
  ihave S3 := (splitW aW3 (View.set_whole _) c) $$ Br6
  icases S3 with ⟨S30, S31, S32, S33⟩
  ihave S4 := (splitM aMk (View.set_whole _) c) $$ Br8
  icases S4 with ⟨S40, S41, S42, S43⟩
  ihave S5 := (splitM aGn (View.set_whole _) c) $$ Br10
  icases S5 with ⟨S50, S51, S52, S53⟩
  ihave ST := (splitT c) $$ Bs3
  icases ST with ⟨ST0, ST1, ST2, ST3⟩
  isplitl [Bs0]
  · iexists fBs0; iapply (Entails.of_eq (stM_eq c _).symm); iexact Bs0
  isplitl [Bs1]
  · iexists fBs1; iapply (Entails.of_eq (ixM_eq c _).symm); iexact Bs1
  isplitl [Bs2]
  · iexists fBs2; iapply (Entails.of_eq (cnM_eq c _).symm); iexact Bs2
  isplitl [S00 C00]
  · isplitl [S00]; · iexact S00
    iexact C00
  isplitl [S01 C01]
  · isplitl [S01]; · iexact S01
    iexact C01
  isplitl [S02 C02]
  · isplitl [S02]; · iexact S02
    iexact C02
  isplitl [S03 C03]
  · isplitl [S03]; · iexact S03
    iexact C03
  isplitl [S10 C10]
  · isplitl [S10]; · iexact S10
    iexact C10
  isplitl [S11 C11]
  · isplitl [S11]; · iexact S11
    iexact C11
  isplitl [S12 C12]
  · isplitl [S12]; · iexact S12
    iexact C12
  isplitl [S13 C13]
  · isplitl [S13]; · iexact S13
    iexact C13
  isplitl [S20 C20]
  · isplitl [S20]; · iexact S20
    iexact C20
  isplitl [S21 C21]
  · isplitl [S21]; · iexact S21
    iexact C21
  isplitl [S22 C22]
  · isplitl [S22]; · iexact S22
    iexact C22
  isplitl [S23 C23]
  · isplitl [S23]; · iexact S23
    iexact C23
  isplitl [S30 C30]
  · isplitl [S30]; · iexact S30
    iexact C30
  isplitl [S31 C31]
  · isplitl [S31]; · iexact S31
    iexact C31
  isplitl [S32 C32]
  · isplitl [S32]; · iexact S32
    iexact C32
  isplitl [S33 C33]
  · isplitl [S33]; · iexact S33
    iexact C33
  isplitl [S40 C40]
  · isplitl [S40]; · iexact S40
    iexact C40
  isplitl [S41 C41]
  · isplitl [S41]; · iexact S41
    iexact C41
  isplitl [S42 C42]
  · isplitl [S42]; · iexact S42
    iexact C42
  isplitl [S43 C43]
  · isplitl [S43]; · iexact S43
    iexact C43
  isplitl [S50 C50]
  · isplitl [S50]; · iexact S50
    iexact C50
  isplitl [S51 C51]
  · isplitl [S51]; · iexact S51
    iexact C51
  isplitl [S52 C52]
  · isplitl [S52]; · iexact S52
    iexact C52
  isplitl [S53 C53]
  · isplitl [S53]; · iexact S53
    iexact C53
  isplitl [ST0]; · iexact ST0
  isplitl [ST1]; · iexact ST1
  isplitl [ST2]; · iexact ST2
  isplitl [ST3]; · iexact ST3
  isplitl [Bs4]
  · iexists fBs4; iapply (Entails.of_eq (t4M_eq c _).symm); iexact Bs4
  isplitl [Bs5]
  · iexists fBs5; iapply (Entails.of_eq (t5M_eq c _).symm); iexact Bs5
  isplitl [T0]; · iexact T0
  isplitl [T1]; · iexact T1
  isplitl [T2]; · iexact T2
  isplitl [T3]; · iexact T3
  isplitl [T4]; · iexact T4
  iexact T5

theorem of_scr (c : Dev nD) :
    (scrP (F := F) c : sProp 𝕄) ⊢ iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem c) := by
  rw [scopedRest0_eq, ownSems0_eq]
  unfold scrP freeW freeM
  iintro ⟨⟨%fBs0, Bs0⟩, ⟨%fBs1, Bs1⟩, ⟨%fBs2, Bs2⟩, ⟨S00, C00⟩, ⟨S01, C01⟩, ⟨S02, C02⟩, ⟨S03, C03⟩, ⟨S10, C10⟩, ⟨S11, C11⟩, ⟨S12, C12⟩, ⟨S13, C13⟩, ⟨S20, C20⟩, ⟨S21, C21⟩, ⟨S22, C22⟩, ⟨S23, C23⟩, ⟨S30, C30⟩, ⟨S31, C31⟩, ⟨S32, C32⟩, ⟨S33, C33⟩, ⟨S40, C40⟩, ⟨S41, C41⟩, ⟨S42, C42⟩, ⟨S43, C43⟩, ⟨S50, C50⟩, ⟨S51, C51⟩, ⟨S52, C52⟩, ⟨S53, C53⟩, ST0, ST1, ST2, ST3, ⟨%fBs4, Bs4⟩, ⟨%fBs5, Bs5⟩, T0, T1, T2, T3, T4, T5⟩
  isplitl [Bs0 Bs1 ST0 ST1 ST2 ST3 Bs4 Bs5 S00 S01 S02 S03 S10 S11 S12 S13 S20 S21 S22 S23 S30 S31 S32 S33 S40 S41 S42 S43 S50 S51 S52 S53 Bs2]
  · isplitl [Bs0]
    · iexists fBs0; iapply (Entails.of_eq (stM_eq c _)); iexact Bs0
    isplitl [Bs1]
    · iexists fBs1; iapply (Entails.of_eq (ixM_eq c _)); iexact Bs1
    isplitl [ST0 ST1 ST2 ST3]
    · iapply (joinT c)
      isplitl [ST0]; · iexact ST0
      isplitl [ST1]; · iexact ST1
      isplitl [ST2]; · iexact ST2
      iexact ST3
    isplitl [Bs4]
    · iexists fBs4; iapply (Entails.of_eq (t4M_eq c _)); iexact Bs4
    isplitl [Bs5]
    · iexists fBs5; iapply (Entails.of_eq (t5M_eq c _)); iexact Bs5
    isplitl [S00 S01 S02 S03]
    · iapply (joinW aW0 (View.set_whole _) c)
      isplitl [S00]; · iexact S00
      isplitl [S01]; · iexact S01
      isplitl [S02]; · iexact S02
      iexact S03
    isplitl [S10 S11 S12 S13]
    · iapply (joinW aW1 (View.set_whole _) c)
      isplitl [S10]; · iexact S10
      isplitl [S11]; · iexact S11
      isplitl [S12]; · iexact S12
      iexact S13
    isplitl [S20 S21 S22 S23]
    · iapply (joinW aW2 (View.set_whole _) c)
      isplitl [S20]; · iexact S20
      isplitl [S21]; · iexact S21
      isplitl [S22]; · iexact S22
      iexact S23
    isplitl [S30 S31 S32 S33]
    · iapply (joinW aW3 (View.set_whole _) c)
      isplitl [S30]; · iexact S30
      isplitl [S31]; · iexact S31
      isplitl [S32]; · iexact S32
      iexact S33
    isplitl [S40 S41 S42 S43]
    · iapply (joinM aMk (View.set_whole _) c)
      isplitl [S40]; · iexact S40
      isplitl [S41]; · iexact S41
      isplitl [S42]; · iexact S42
      iexact S43
    isplitl [S50 S51 S52 S53]
    · iapply (joinM aGn (View.set_whole _) c)
      isplitl [S50]; · iexact S50
      isplitl [S51]; · iexact S51
      isplitl [S52]; · iexact S52
      iexact S53
    iexists fBs2; iapply (Entails.of_eq (cnM_eq c _)); iexact Bs2
  isplitl [C00 C01 C02 C03 C10 C11 C12 C13 C20 C21 C22 C23 C30 C31 C32 C33 C40 C41 C42 C43 C50 C51 C52 C53]
  · isplitl [C00 C01 C02 C03]
    · isplitl [C00]; · iexact C00
      isplitl [C01]; · iexact C01
      isplitl [C02]; · iexact C02
      iexact C03
    isplitl [C10 C11 C12 C13]
    · isplitl [C10]; · iexact C10
      isplitl [C11]; · iexact C11
      isplitl [C12]; · iexact C12
      iexact C13
    isplitl [C20 C21 C22 C23]
    · isplitl [C20]; · iexact C20
      isplitl [C21]; · iexact C21
      isplitl [C22]; · iexact C22
      iexact C23
    isplitl [C30 C31 C32 C33]
    · isplitl [C30]; · iexact C30
      isplitl [C31]; · iexact C31
      isplitl [C32]; · iexact C32
      iexact C33
    isplitl [C40 C41 C42 C43]
    · isplitl [C40]; · iexact C40
      isplitl [C41]; · iexact C41
      isplitl [C42]; · iexact C42
      iexact C43
    isplitl [C50]; · iexact C50
    isplitl [C51]; · iexact C51
    isplitl [C52]; · iexact C52
    iexact C53
  isplitl [T0]; · iexact T0
  isplitl [T1]; · iexact T1
  isplitl [T2]; · iexact T2
  isplitl [T3]; · iexact T3
  isplitl [T4]; · iexact T4
  iexact T5

/-! ## The tables -/

theorem tab_eq (c : Dev nD) (XW : Buf (Elt F) (wM.view.loc (c : Thread nD τ))) (XM : Buf (Elt F) (mM.view.loc (c : Thread nD τ))) (XG : Buf (Elt F) (gM.view.loc (c : Thread nD τ))) :
    iprop((((c : Thread nD τ).loc main_v1) ↦{fullShare} XM) ∗ (((c : Thread nD τ).loc main_v2) ↦{fullShare} XG) ∗ (((c : Thread nD τ).loc main_v3) ↦{fullShare} XW))
      = (tabP c XW XM XG : sProp 𝕄) := by
  rw [table_W, table_M, table_G]
  unfold tabP
  have bi : ∀ P Q : sProp 𝕄, (P ⊢ Q) → (Q ⊢ P) → P = Q := fun _ _ h h' => Idealize.SL.BI.Entails.antisymm h h'
  refine bi _ _ ?_ ?_
  · iintro ⟨⟨HM, TM⟩, ⟨HG, TG⟩, ⟨H0, T0⟩, ⟨H1, T1⟩, ⟨H2, T2⟩, ⟨H3, T3⟩⟩
    isplitl [H0]; · iexact H0
    isplitl [H1]; · iexact H1
    isplitl [H2]; · iexact H2
    isplitl [H3]; · iexact H3
    isplitl [HM]; · iexact HM
    isplitl [HG]; · iexact HG
    isplitl [T0]; · iexact T0
    isplitl [T1]; · iexact T1
    isplitl [T2]; · iexact T2
    isplitl [T3]; · iexact T3
    isplitl [TM]; · iexact TM
    iexact TG
  · iintro ⟨H0, H1, H2, H3, HM, HG, T0, T1, T2, T3, TM, TG⟩
    isplitl [HM TM]
    · isplitl [HM]; · iexact HM
      iexact TM
    isplitl [HG TG]
    · isplitl [HG]; · iexact HG
      iexact TG
    isplitl [H0 T0]
    · isplitl [H0]; · iexact H0
      iexact T0
    isplitl [H1 T1]
    · isplitl [H1]; · iexact H1
      iexact T1
    isplitl [H2 T2]
    · isplitl [H2]; · iexact H2
      iexact T2
    isplitl [H3]; · iexact H3
    iexact T3

/-- The tables the transfers read: the mask, the noise, the weights. -/
abbrev H0 : Finset (Ref sig .tc) := {main_v1, main_v2, main_v3}
theorem H0_sub : H0 ⊆ Pipeline.restRefs sig spec0 := by decide
theorem bigSep_H0 (Φ : Ref sig .tc → sProp 𝕄) : bigSep H0 Φ = iprop(Φ main_v1 ∗ Φ main_v2 ∗ Φ main_v3) := by
  rw [show H0 = insert main_v1 (insert main_v2 {main_v3}) from rfl, bigSep_insert (by decide), bigSep_insert (by decide), bigSep_singleton]
  rfl

/-! ## The proof data -/

/-- The body's scratch, the generator's register and the tables, before and after the one point. -/
def Φ (c : Dev nD) : sProp 𝕄 := iprop(scrP (F := F) c ∗ (∃ r, prngReg c r) ∗ tabP c (V m c main_v3) (V m c main_v1) (V m c main_v2))

abbrev hst0 (t : Fin cfg0.N) : (st0_0 t).IsWhole := hstage0_0 0
abbrev hst1 (t : Fin cfg0.N) : (st0_1 t).IsWhole := hstage0_1 0
abbrev hst2 (t : Fin cfg0.N) : (st0_2 t).IsWhole := hstage0_2 0

/-- What the statistics' rows hold when the body ends. -/
def endAt (c : Dev nD) (t : Fin cfg0.N) : St F :=
  stEnd c (V m c main_v3) (V m c main_v1) (V m c main_v2) (st0_0 t) ((st0_0 t).view.rep (iblk m c 0 t))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outF (endAt m c t)
    | ⟨2, _⟩ => outI (endAt m c t)
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = outF (endAt m c t) := by dsimp only [dats]
theorem after_w2 (c : Dev nD) (t : Fin cfg0.N) : (dats m 0 c).after 2 t = outI (endAt m c t) := by dsimp only [dats]

theorem defs_row (t : Fin cfg0.N) : defs₀ (F := F) .tc cfg0.body (cfg0.bodyArgs t (cfg0.slots t)) = bodyG (st0_0 t) (hst0 t) (st0_1 t) (hst1 t) (st0_2 t) (hst2 t) := by
  unfold defs₀; rw [Defs.onTc_tc]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0, after_w1, after_w2]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HS, HP, HT⟩, ⟨%W, -, HW⟩, ⟨%d0, %g0, %hg0, H0⟩, ⟨%d1, %g1, -, H1⟩, ⟨%d2, %g2, -, H2⟩⟩
  ihave H0' := (pointsTo_rep_entails (c : Thread nD τ) (st0_0 t) g0 fullShare) $$ H0
  rw [hg0]
  sl_rw [defs_row t]
  iapply (wp_wand_r _ _ _)
  isplitl [H0' H1 H2 HW HS HT]
  · iapply (bodyRun c (V m c main_v3) (V m c main_v1) (V m c main_v2) (st0_0 t) (hst0 t) (st0_1 t) (hst1 t) (st0_2 t) (hst2 t) _ W)
    isplitl [H0']; · iexact H0'
    isplitl [H1]; · iexists _; iexact H1
    isplitl [H2]; · iexists _; iexact H2
    isplitl [HW]; · iexact HW
    isplitl [HS]; · iexact HS
    iexact HT
  · iintro %a ⟨H0, ⟨%f1, H1, %h1⟩, ⟨%f2, H2, %h2⟩, ⟨%W', HW⟩, HS, HT⟩
    isplitl [HS HP HT]
    · isplitl [HS]; · iexact HS
      isplitl [HP]; · iexact HP
      iexact HT
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact h1
      iexact H1
    iexists _; isplitr; · ipureintro; exact h2
    iexact H2

/-! ## The run -/

theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the results' arrays and the two buffers they fill. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  have hin : ∀ b : Ref sig .tc, b ∈ (Finset.univ.image (Pipeline.arrRef spec0) ∪ (Pipeline.restRefsP sig Pipeline.Prefetch.none spec0 \ H0) : Finset (Ref sig .tc)) →
      Proc.devRef (τ := τ) .tc b ∈ Pipeline.tailRefsBut sig Pipeline.Prefetch.none spec0 H0 := fun b hb => Finset.mem_map_of_mem _ hb
  simp only [hostOps1, List.mem_cons, List.mem_nil_iff, or_false] at hop
  rcases hop with rfl | rfl
  all_goals
    rw [StableHlo.reshape_bufs]
    intro b hb
    simp only [Finset.mem_insert, Finset.mem_singleton] at hb
    rcases hb with rfl | rfl
    · exact hin _ (by decide)
    · exact hin _ (by decide)

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ 𝒱₀ ownSemFacts H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m) (hA := fun _ _ => rfl)
    (hin := fun c => by
      rw [Pipeline.ΦD_eq, bigSep_H0, show (dats m 0 c).Φ 0 = Φ m c from rfl]
      unfold Φ; rw [← tab_eq]
      iintro ⟨HS, HP, HO, HT⟩
      isplitl [HS HO]
      · iapply (scr_of c)
        isplitl [HS]; · iexact HS
        iexact HO
      isplitl [HP]; · iexact HP
      iexact HT)
    (hout := fun c => by
      rw [Pipeline.ΦD_eq, bigSep_H0, show (dats m 0 c).Φ (Fin.last _) = Φ m c from rfl]
      unfold Φ; rw [← tab_eq]
      iintro ⟨HS, HP, HT⟩
      ihave HS' := (of_scr c) $$ HS
      icases HS' with ⟨HS, HO⟩
      isplitl [HS]; · iexact HS
      isplitl [HP]; · iexact HP
      isplitl [HO]; · iexact HO
      iexact HT)
    (hQ' := fun _ h => h)

end Cert.Proof.Ideal

end
-- ==== Proof.Args.lean ====
/-
  The run with its arguments: at any float values the program's four arguments end as they were, and every
  semaphore at zero.
-/
module

public import proofs.«01_k».proof.Proof.Launch

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- What no line after the launch writes, and no window holds, ends as the launch found it. -/
theorem tail_of_ne (c : Dev nD) (b : Ref sig .tc)
    (h5 : Proc.devRef (τ := τ) .tc b ≠ Proc.devRef .tc main_v5)
    (h6 : Proc.devRef (τ := τ) .tc b ≠ Proc.devRef .tc main_v6)
    (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨h5, h6⟩)),
    Pipeline.withArrays_of_ne _ c (V0 m c) _ b hw]

/-- The arguments in a final state. -/
theorem args_of {r : _} (c : Dev nD)
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans
      ((tail_of_ne m c main_arg0 (StableHlo.devRef_ne_of_ne (by decide)) (StableHlo.devRef_ne_of_ne (by decide)) (by decide)).trans (V_main_arg0 m c)),
    ((h c).2 main_arg1 (Pipeline.mem_restRefs_of main_arg1 (by decide) (by decide))).trans
      ((tail_of_ne m c main_arg1 (StableHlo.devRef_ne_of_ne (by decide)) (StableHlo.devRef_ne_of_ne (by decide)) (by decide)).trans (V_main_arg1 m c)),
    ((h c).2 main_arg2 (Pipeline.mem_restRefs_of main_arg2 (by decide) (by decide))).trans
      ((tail_of_ne m c main_arg2 (StableHlo.devRef_ne_of_ne (by decide)) (StableHlo.devRef_ne_of_ne (by decide)) (by decide)).trans (V_main_arg2 m c)),
    ((h c).2 main_arg3 (Pipeline.mem_restRefs_of main_arg3 (by decide) (by decide))).trans
      ((tail_of_ne m c main_arg3 (StableHlo.devRef_ne_of_ne (by decide)) (StableHlo.devRef_ne_of_ne (by decide)) (by decide)).trans (V_main_arg3 m c))⟩

/-- The program runs at any float values: its arguments end unchanged and every semaphore at zero. -/
theorem run_frame : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of m c h.1, h.2⟩) (run_main m ρ)

end Cert.Proof.Ideal

end
-- ==== Proof.FrameKernel.lean ====
/-
  The frame of the program as it was written, taken from the run that holds at any float values.
-/
module

public import proofs.«01_k».proof.Defs
public import proofs.«01_k».proof.Proof.Args
public import proofs.«01_k».proof.Proof.Gen.Kernel

@[expose] public section

set_option maxRecDepth 16384

noncomputable section

namespace Cert.Proof

open Idealize.ShloMosaic Idealize.SL.Sem

/-- The bit-exact values, a named constant at the bits the program was written with. -/
local instance namedBits : Named Bits where
  named _ _ {φ} b := (Scalar.ofBits φ b : Bits φ)

set_option smartUnfolding false in
/-- The program as it was written runs, and leaves its arguments as they were and every semaphore at zero. -/
theorem frame_kernel : Cert.quiescent_Kernel := fun m ρ _ =>
  Ideal.run_frame (F := Bits) m ρ

end Cert.Proof

end
-- ==== Proof.Reference.lean ====
/-
  The reference as a straight line of operations, and its run at any float values: every buffer ends at the fold of
  the operations over the launch contents.
-/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 4096

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations in order, the three module-local functions written out at their calls. -/
abbrev ops : List (HloOp τ sig (Elt F)) :=
  [ StableHlo.binary main_arg0 main_arg1 main_v0 ((fun l r => Host.dotGeneral dot_S32x4x1024_S1024x100000_S32x4x100000_2_0_01_1_n_n none l r) : (⟨S32x4x1024, .f32⟩ : BufTy).Contents (Elt F) → (⟨S1024x100000, .f32⟩ : BufTy).Contents (Elt F) → (⟨S32x4x100000, .f32⟩ : BufTy).Contents (Elt F)),
    StableHlo.nullary main_cst (constant S_ .f32 0xFF800000#32),
    StableHlo.binary main_v0 main_cst main_v1 ((fun x v => Host.reduce FloatOps.maximumf x v reducesTo_S32x4x100000_S32x4_d2 h_S_) : (⟨S32x4x100000, .f32⟩ : BufTy).Contents (Elt F) → (⟨S_, .f32⟩ : BufTy).Contents (Elt F) → (⟨S32x4, .f32⟩ : BufTy).Contents (Elt F)),
    StableHlo.nullary main_cst_0 (constant S_ .f32 0xFF800000#32),
    StableHlo.unary main_cst_0 main_v2 (broadcastInDim S32x4 ![] bcast_S_S32x4 : (⟨S_, .f32⟩ : BufTy).Contents (Elt F) → (⟨S32x4, .f32⟩ : BufTy).Contents (Elt F)),
    StableHlo.binary main_v2 main_v1 main_v3 (maximumf : (⟨S32x4, .f32⟩ : BufTy).Contents (Elt F) → (⟨S32x4, .f32⟩ : BufTy).Contents (Elt F) → (⟨S32x4, .f32⟩ : BufTy).Contents (Elt F)),
    StableHlo.unary main_v3 main_v4 (broadcastInDim S32x4x1 ![0, 1] bcast_S32x4_S32x4x1_0_1 : (⟨S32x4, .f32⟩ : BufTy).Contents (Elt F) → (⟨S32x4x1, .f32⟩ : BufTy).Contents (Elt F)),
    StableHlo.unary main_v4 main_v5 (broadcastInDim S32x4x100000 ![0, 1, 2] bcast_S32x4x1_S32x4x100000_0_1_2 : (⟨S32x4x1, .f32⟩ : BufTy).Contents (Elt F) → (⟨S32x4x100000, .f32⟩ : BufTy).Contents (Elt F)),
    StableHlo.binary main_v0 main_v5 main_v6 (subf : (⟨S32x4x100000, .f32⟩ : BufTy).Contents (Elt F) → (⟨S32x4x100000, .f32⟩ : BufTy).Contents (Elt F) → (⟨S32x4x100000, .f32⟩ : BufTy).Contents (Elt F)),
    StableHlo.unary main_v6 main_v7 (Host.exp : (⟨S32x4x100000, .f32⟩ : BufTy).Contents (Elt F) → (⟨S32x4x100000, .f32⟩ : BufTy).Contents (Elt F)),
    StableHlo.nullary main_cst_1 (constant S_ .f32 0x00000000#32),
    StableHlo.binary main_v7 main_cst_1 main_v8 ((fun x v => Host.reduceAdd x v reducesTo_S32x4x100000_S32x4_d2 h_S_) : (⟨S32x4x100000, .f32⟩ : BufTy).Contents (Elt F) → (⟨S_, .f32⟩ : BufTy).Contents (Elt F) → (⟨S32x4, .f32⟩ : BufTy).Contents (Elt F)),
    StableHlo.unary main_v8 main_v9 (broadcastInDim S32x4x1 ![0, 1] bcast_S32x4_S32x4x1_0_1 : (⟨S32x4, .f32⟩ : BufTy).Contents (Elt F) → (⟨S32x4x1, .f32⟩ : BufTy).Contents (Elt F)),
    StableHlo.unary main_v9 main_v10 (broadcastInDim S32x4x100000 ![0, 1, 2] bcast_S32x4x1_S32x4x100000_0_1_2 : (⟨S32x4x1, .f32⟩ : BufTy).Contents (Elt F) → (⟨S32x4x100000, .f32⟩ : BufTy).Contents (Elt F)),
    StableHlo.binary main_v7 main_v10 main_v11 (Host.divf : (⟨S32x4x100000, .f32⟩ : BufTy).Contents (Elt F) → (⟨S32x4x100000, .f32⟩ : BufTy).Contents (Elt F) → (⟨S32x4x100000, .f32⟩ : BufTy).Contents (Elt F)),
    StableHlo.unary main_arg2 main_v12 (sitofp .f32 : (⟨S32x4x100000, .i32⟩ : BufTy).Contents (Elt F) → (⟨S32x4x100000, .f32⟩ : BufTy).Contents (Elt F)),
    StableHlo.nullary main_cst_2 (constant S_ .f32 0x00000000#32),
    StableHlo.unary main_cst_2 main_v13 (broadcastInDim S32x4x100000 ![] bcast_S_S32x4x100000 : (⟨S_, .f32⟩ : BufTy).Contents (Elt F) → (⟨S32x4x100000, .f32⟩ : BufTy).Contents (Elt F)),
    StableHlo.binary main_v12 main_v13 main_v14 (cmpf .oeq : (⟨S32x4x100000, .f32⟩ : BufTy).Contents (Elt F) → (⟨S32x4x100000, .f32⟩ : BufTy).Contents (Elt F) → (⟨S32x4x100000, .i1⟩ : BufTy).Contents (Elt F)),
    StableHlo.nullary main_c (constantI S_ 1 1#1),
    StableHlo.binary main_v14 main_c main_v15 ((fun x v => Host.reduce IntOp.andi x v reducesTo_S32x4x100000_S32x4_d2 h_S_) : (⟨S32x4x100000, .i1⟩ : BufTy).Contents (Elt F) → (⟨S_, .i1⟩ : BufTy).Contents (Elt F) → (⟨S32x4, .i1⟩ : BufTy).Contents (Elt F)),
    StableHlo.unary main_v15 main_v16 (broadcastInDim S32x4x1 ![0, 1] bcast_S32x4_S32x4x1_0_1 : (⟨S32x4, .i1⟩ : BufTy).Contents (Elt F) → (⟨S32x4x1, .i1⟩ : BufTy).Contents (Elt F)),
    StableHlo.nullary main_cst_3 (constant S_ .f32 0x3F800000#32),
    StableHlo.unary main_cst_3 main_v17 (broadcastInDim S32x4x100000 ![] bcast_S_S32x4x100000 : (⟨S_, .f32⟩ : BufTy).Contents (Elt F) → (⟨S32x4x100000, .f32⟩ : BufTy).Contents (Elt F)),
    StableHlo.TRef.unary (.of main_v16 : StableHlo.TRef sig ⟨S32x4x1, .i1⟩) main_call0.v0 (broadcastInDim S32x4x100000 ![0, 1, 2] bcast_S32x4x1_S32x4x100000_0_1_2),
    StableHlo.TRef.ternary main_call0.v0 (.of main_v17 : StableHlo.TRef sig ⟨S32x4x100000, .f32⟩) (.of main_v12 : StableHlo.TRef sig ⟨S32x4x100000, .f32⟩) main_call0.v1 select,
    StableHlo.nullary main_cst_4 (constant S_ .f32 0x283424DC#32),
    StableHlo.unary main_cst_4 main_v19 (broadcastInDim S32x4x100000 ![] bcast_S_S32x4x100000 : (⟨S_, .f32⟩ : BufTy).Contents (Elt F) → (⟨S32x4x100000, .f32⟩ : BufTy).Contents (Elt F)),
    StableHlo.binary main_v11 main_v19 main_v20 (addf : (⟨S32x4x100000, .f32⟩ : BufTy).Contents (Elt F) → (⟨S32x4x100000, .f32⟩ : BufTy).Contents (Elt F) → (⟨S32x4x100000, .f32⟩ : BufTy).Contents (Elt F)),
    StableHlo.binary main_v20 main_v18 main_v21 (mulf : (⟨S32x4x100000, .f32⟩ : BufTy).Contents (Elt F) → (⟨S32x4x100000, .f32⟩ : BufTy).Contents (Elt F) → (⟨S32x4x100000, .f32⟩ : BufTy).Contents (Elt F)),
    StableHlo.nullary main_cst_5 (constant S_ .f32 0x00000000#32),
    StableHlo.binary main_v21 main_cst_5 main_v22 ((fun x v => Host.reduceAdd x v reducesTo_S32x4x100000_S32x4_d2 h_S_) : (⟨S32x4x100000, .f32⟩ : BufTy).Contents (Elt F) → (⟨S_, .f32⟩ : BufTy).Contents (Elt F) → (⟨S32x4, .f32⟩ : BufTy).Contents (Elt F)),
    StableHlo.unary main_v22 main_v23 (broadcastInDim S32x4x1 ![0, 1] bcast_S32x4_S32x4x1_0_1 : (⟨S32x4, .f32⟩ : BufTy).Contents (Elt F) → (⟨S32x4x1, .f32⟩ : BufTy).Contents (Elt F)),
    StableHlo.unary main_v23 main_v24 (broadcastInDim S32x4x100000 ![0, 1, 2] bcast_S32x4x1_S32x4x100000_0_1_2 : (⟨S32x4x1, .f32⟩ : BufTy).Contents (Elt F) → (⟨S32x4x100000, .f32⟩ : BufTy).Contents (Elt F)),
    StableHlo.binary main_v21 main_v24 main_v25 (Host.divf : (⟨S32x4x100000, .f32⟩ : BufTy).Contents (Elt F) → (⟨S32x4x100000, .f32⟩ : BufTy).Contents (Elt F) → (⟨S32x4x100000, .f32⟩ : BufTy).Contents (Elt F)),
    StableHlo.unary main_v25 main_v26 (Host.log : (⟨S32x4x100000, .f32⟩ : BufTy).Contents (Elt F) → (⟨S32x4x100000, .f32⟩ : BufTy).Contents (Elt F)),
    StableHlo.binary main_v26 main_arg3 main_v27 (addf : (⟨S32x4x100000, .f32⟩ : BufTy).Contents (Elt F) → (⟨S32x4x100000, .f32⟩ : BufTy).Contents (Elt F) → (⟨S32x4x100000, .f32⟩ : BufTy).Contents (Elt F)),
    StableHlo.TRef.nullary main_call1.v0 (iotaInDim S32x4x100000 32 2),
    StableHlo.TRef.nullary main_call1.cst (constant S_ .f32 0xFF800000#32),
    StableHlo.TRef.nullary main_call1.c (constantI S_ 32 0#32),
    StableHlo.TRef.quaternary (.of main_v27 : StableHlo.TRef sig ⟨S32x4x100000, .f32⟩) main_call1.v0 main_call1.cst main_call1.c main_call1.v1_0 (fun x y u v j => (Host.argReduce reducer_argmax_f32_i32 x y u v reducesTo_S32x4x100000_S32x4_d2 h_S_ j).1),
    StableHlo.TRef.quaternary (.of main_v27 : StableHlo.TRef sig ⟨S32x4x100000, .f32⟩) main_call1.v0 main_call1.cst main_call1.c main_call1.v1_1 (fun x y u v j => (Host.argReduce reducer_argmax_f32_i32 x y u v reducesTo_S32x4x100000_S32x4_d2 h_S_ j).2),
    StableHlo.unary main_v28 main_v29 (broadcastInDim S32x4x1 ![0, 1] bcast_S32x4_S32x4x1_0_1 : (⟨S32x4, .i32⟩ : BufTy).Contents (Elt F) → (⟨S32x4x1, .i32⟩ : BufTy).Contents (Elt F)),
    StableHlo.TRef.nullary main_call2.c (constantI S_ 32 0#32),
    StableHlo.TRef.unary main_call2.c main_call2.v0 (broadcastInDim S32x4x1 ![] bcast_S_S32x4x1),
    StableHlo.TRef.binary (.of main_v29 : StableHlo.TRef sig ⟨S32x4x1, .i32⟩) main_call2.v0 main_call2.v1 (cmpi .slt),
    StableHlo.TRef.nullary main_call2.c_0 (constantI S_ 32 100000#32),
    StableHlo.TRef.unary main_call2.c_0 main_call2.v2 (broadcastInDim S32x4x1 ![] bcast_S_S32x4x1),
    StableHlo.TRef.binary (.of main_v29 : StableHlo.TRef sig ⟨S32x4x1, .i32⟩) main_call2.v2 main_call2.v3 addi,
    StableHlo.TRef.ternary main_call2.v1 main_call2.v3 (.of main_v29 : StableHlo.TRef sig ⟨S32x4x1, .i32⟩) main_call2.v4 select,
    StableHlo.TRef.reshape main_call2.v4 main_call2.v5 (rfl : (.i32 : EltTy) = .i32) shapeCasts_S32x4x1_S32x4x1x1,
    StableHlo.TRef.nullary main_call2.c_1 (constantI S1 32 99999#32),
    StableHlo.TRef.nullary main_call2.c_2 (constantI S_ 32 0#32),
    StableHlo.TRef.unary main_call2.c_2 main_call2.v6 (broadcastInDim S32x4x1x1 ![] bcast_S_S32x4x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S32x4x1x1 ![0, 1, 2, 3] bcast_S1x1x1x1_S32x4x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S32x4x1x1_S32x4x1_d3 h_S_),
    StableHlo.TRef.binary (.of main_v25 : StableHlo.TRef sig ⟨S32x4x100000, .f32⟩) main_call2.v5 main_call2.v13 (fun x i => Host.gather gather_S32x4x100000_S32x4x1x1_S32x4x1_n_2_01_01_2_3_111 x i),
    StableHlo.TRef.nullary main_call2.cst (constant S_ .f32 0x7FC00000#32),
    StableHlo.TRef.unary main_call2.cst main_call2.v14 (broadcastInDim S32x4x1 ![] bcast_S_S32x4x1),
    StableHlo.TRef.ternary main_call2.v12 main_call2.v13 main_call2.v14 main_call2.v15 select,
    StableHlo.reshape main_v30 main_v31 (rfl : (.f32 : EltTy) = .f32) shapeCasts_S32x4x1_S32x4 ]

theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., unary_bufs_sub .., binary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- From any memory with every semaphore at zero the reference runs, and every buffer ends at the fold. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxHeartbeats 1000000 in
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig) := by
  refine ⟨?_, ?_, ?_, ?_⟩ <;> (simp only [after_cons, after_nil]; rfl)

/-- The reference leaves its arguments as they were and every semaphore at zero. -/
theorem frame : Cert.quiescent_ReferenceIdeal := by
  intro m ρ _
  exact (θ_run Cert.ReferenceIdeal.defs _ _).mono
    (fun r h => ⟨fun c => ⟨(h c main_arg0).trans (args_eq _).1, (h c main_arg1).trans (args_eq _).2.1,
      (h c main_arg2).trans (args_eq _).2.2.1, (h c main_arg3).trans (args_eq _).2.2.2⟩,
      Idealize.ShloMosaic.sem_eq_zero_of_no_sems (by decide) r.2⟩) (run_main m ρ)

end Cert.Proof.Ref

end
-- ==== Proof.Rows.lean ====
/-
  One row's mathematics: the running maximum, sums and best scores over its columns, block by block, and the draw
  they end in. No program is spoken of here.
-/
module

public import Idealize.ShloMosaic.PureOps.Ideal.Laws
public import Mathlib.Data.EReal.Basic

@[expose] public section

noncomputable section

namespace Cert.Proof.Rows

open Idealize.ShloMosaic
open scoped Classical
open Finset

/-- `i` is the first of the viable columns below `N` that has the greatest score. -/
structure Best (k : ℕ → Prop) (x : ℕ → ℝ) (N i : ℕ) : Prop where
  lt : i < N
  ok : k i
  le : ∀ c < N, k c → x c ≤ x i
  first : ∀ c < i, k c → x c < x i

theorem Best.unique {k : ℕ → Prop} {x : ℕ → ℝ} {N i j : ℕ} (hi : Best k x N i) (hj : Best k x N j) : i = j := by
  rcases lt_trichotomy i j with h | h | h
  · exact absurd (hj.first i h hi.ok) (not_lt.mpr (hi.le j hj.lt hj.ok))
  · exact h
  · exact absurd (hi.first j h hj.ok) (not_lt.mpr (hj.le i hi.lt hi.ok))

/-- What a best score, its index and its logit hold after `N` columns. -/
def Top (k : ℕ → Prop) (x l : ℕ → ℝ) (N : ℕ) (s : EReal) (ix : BitVec 32) (sl : EReal) : Prop :=
  ((∀ c < N, ¬ k c) ∧ s = ⊥) ∨ ∃ i, Best k x N i ∧ s = (x i : EReal) ∧ ix = BitVec.ofNat 32 i ∧ sl = (l i : EReal)

/-- What one block of columns gives. -/
def BlockTop (k : ℕ → Prop) (x l : ℕ → ℝ) (o n : ℕ) (s : EReal) (ix : BitVec 32) (sl : EReal) : Prop :=
  ((∀ j < n, ¬ k (o + j)) ∧ s = ⊥) ∨ ∃ j, j < n ∧ k (o + j) ∧ (∀ j' < n, k (o + j') → x (o + j') ≤ x (o + j))
    ∧ (∀ j' < j, k (o + j') → x (o + j') < x (o + j))
    ∧ s = (x (o + j) : EReal) ∧ ix = BitVec.ofNat 32 (o + j) ∧ sl = (l (o + j) : EReal)

theorem Top.step {k : ℕ → Prop} {x l : ℕ → ℝ} {o n : ℕ} {s r : EReal} {ix ri : BitVec 32} {sl rl : EReal}
    (h : Top k x l o s ix sl) (hb : BlockTop k x l o n r ri rl) :
    Top k x l (o + n) (if s < r then r else s) (if s < r then ri else ix) (if s < r then rl else sl) := by
  have split : ∀ c, c < o + n → c < o ∨ ∃ j, j < n ∧ c = o + j := fun c hc => by
    rcases lt_or_ge c o with h | h
    · exact Or.inl h
    · exact Or.inr ⟨c - o, by omega, by omega⟩
  rcases hb with ⟨hb, rfl⟩ | ⟨j, hj, hk, hle, hfi, rfl, rfl, rfl⟩
  · simp only [not_lt_bot, if_false]
    rcases h with ⟨h, rfl⟩ | ⟨i, hi, rfl, rfl, rfl⟩
    · left; refine ⟨fun c hc => ?_, rfl⟩
      rcases split c hc with h1 | ⟨j, hj, rfl⟩
      · exact h c h1
      · exact hb j hj
    · right; refine ⟨i, ⟨by have := hi.lt; omega, hi.ok, fun c hc hk => ?_, hi.first⟩, rfl, rfl, rfl⟩
      rcases split c hc with h1 | ⟨j, hj, rfl⟩
      · exact hi.le c h1 hk
      · exact absurd hk (hb j hj)
  · rcases h with ⟨h, rfl⟩ | ⟨i, hi, rfl, rfl, rfl⟩
    · simp only [EReal.bot_lt_coe, if_true]
      right; refine ⟨o + j, ⟨by omega, hk, fun c hc hkc => ?_, fun c hc hkc => ?_⟩, rfl, rfl, rfl⟩
      · rcases split c hc with h1 | ⟨j', hj', rfl⟩
        · exact absurd hkc (h c h1)
        · exact hle j' hj' hkc
      · rcases split c (by omega) with h1 | ⟨j', hj', rfl⟩
        · exact absurd hkc (h c h1)
        · exact hfi j' (by omega) hkc
    · simp only [EReal.coe_lt_coe_iff]
      by_cases hlt : x i < x (o + j)
      · simp only [hlt, if_true]
        right; refine ⟨o + j, ⟨by omega, hk, fun c hc hkc => ?_, fun c hc hkc => ?_⟩, rfl, rfl, rfl⟩
        · rcases split c hc with h1 | ⟨j', hj', rfl⟩
          · exact (hi.le c h1 hkc).trans hlt.le
          · exact hle j' hj' hkc
        · rcases split c (by omega) with h1 | ⟨j', hj', rfl⟩
          · exact (hi.le c h1 hkc).trans_lt hlt
          · exact hfi j' (by omega) hkc
      · simp only [hlt, if_false]
        right; refine ⟨i, ⟨by have := hi.lt; omega, hi.ok, fun c hc hkc => ?_, hi.first⟩, rfl, rfl, rfl⟩
        rcases split c hc with h1 | ⟨j', hj', rfl⟩
        · exact hi.le c h1 hkc
        · exact (hle j' hj' hkc).trans (not_lt.mp hlt)

theorem coe_sum_range (n : ℕ) (f : ℕ → ℝ) : ((∑ c ∈ range n, f c : ℝ) : EReal) = ∑ c ∈ range n, (f c : EReal) := by
  induction n with
  | zero => simp
  | succ n ih => rw [sum_range_succ, sum_range_succ, EReal.coe_add, ih]

/-- What the maximum, the two sums and the count hold after `N` columns. -/
def Sums (k : ℕ → Prop) (l : ℕ → ℝ) (N : ℕ) (m a b n : EReal) : Prop :=
  (N = 0 ∧ m = ⊥ ∧ a = 0 ∧ b = 0 ∧ n = 0) ∨ ∃ M : ℝ, (∃ c < N, l c = M) ∧ (∀ c < N, l c ≤ M) ∧ m = (M : EReal)
    ∧ a = ((∑ c ∈ range N, Real.exp (l c - M) : ℝ) : EReal)
    ∧ b = ((∑ c ∈ range N, if k c then Real.exp (l c - M) else 0 : ℝ) : EReal)
    ∧ n = ((∑ c ∈ range N, if k c then (1 : ℝ) else 0 : ℝ) : EReal)

/-- A block's sum of exponentials, its terms read at the new maximum. -/
def blkSum (p : ℕ → Prop) (l : ℕ → ℝ) (o n : ℕ) (M : EReal) : EReal :=
  ∑ j ∈ range n, if p (o + j) then Ideal.exp ((l (o + j) : EReal) - M) else 0

theorem blkSum_coe (p : ℕ → Prop) (l : ℕ → ℝ) (o n : ℕ) (M : ℝ) :
    blkSum p l o n (M : EReal) = ((∑ j ∈ range n, if p (o + j) then Real.exp (l (o + j) - M) else 0 : ℝ) : EReal) := by
  rw [coe_sum_range]
  refine sum_congr rfl fun j _ => ?_
  split
  · rw [← EReal.coe_sub, Ideal.exp_coe]
  · rfl

theorem rescale (p : ℕ → Prop) (l : ℕ → ℝ) (N : ℕ) (M M' : ℝ) :
    (∑ c ∈ range N, if p c then Real.exp (l c - M) else 0) * Real.exp (M - M')
      = ∑ c ∈ range N, if p c then Real.exp (l c - M') else 0 := by
  rw [sum_mul]
  refine sum_congr rfl fun c _ => ?_
  split
  · rw [← Real.exp_add]; congr 1; ring
  · simp

theorem Sums.step {k : ℕ → Prop} {l : ℕ → ℝ} {o n : ℕ} {m a b cn : EReal} (h : Sums k l o m a b cn) (R : ℝ)
    (hR : ∃ j < n, l (o + j) = R) (hle : ∀ j < n, l (o + j) ≤ R) :
    Sums k l (o + n) (max m R) (a * Ideal.exp (m - max m R) + blkSum (fun _ => True) l o n (max m R))
      (b * Ideal.exp (m - max m R) + blkSum k l o n (max m R))
      (cn + ((∑ j ∈ range n, if k (o + j) then (1 : ℝ) else 0 : ℝ) : EReal)) := by
  obtain ⟨jR, hjR, hjR'⟩ := hR
  rcases h with ⟨rfl, rfl, rfl, rfl, rfl⟩ | ⟨M, ⟨c0, hc0, hM⟩, hMle, rfl, rfl, rfl, rfl⟩
  · have hm : max (⊥ : EReal) (R : EReal) = (R : EReal) := max_eq_right bot_le
    right
    refine ⟨R, ⟨0 + jR, by omega, hjR'⟩, fun c hc => ?_, hm, ?_, ?_, ?_⟩
    · have := hle c (by omega); rwa [zero_add] at this
    · rw [hm, blkSum_coe]; simp
    · rw [hm, blkSum_coe]; simp
    · simp
  · obtain ⟨M', hM'⟩ : ∃ M', M' = max M R := ⟨_, rfl⟩
    have hm : max (M : EReal) (R : EReal) = (M' : EReal) := by
      rw [hM']; exact (EReal.coe_strictMono.monotone.map_max).symm
    have he : Ideal.exp ((M : EReal) - (M' : EReal)) = ((Real.exp (M - M') : ℝ) : EReal) := by
      rw [← EReal.coe_sub, Ideal.exp_coe]
    right
    refine ⟨M', ?_, fun c hc => ?_, hm, ?_, ?_, ?_⟩
    · rcases le_total M R with h | h
      · exact ⟨o + jR, by omega, by rw [hjR', hM', max_eq_right h]⟩
      · exact ⟨c0, by omega, by rw [hM, hM', max_eq_left h]⟩
    · rcases lt_or_ge c o with h | h
      · exact (hMle c h).trans (hM' ▸ le_max_left _ _)
      · have := hle (c - o) (by omega)
        rw [show o + (c - o) = c by omega] at this
        exact this.trans (hM' ▸ le_max_right _ _)
    · rw [hm, he, blkSum_coe, ← EReal.coe_mul, ← EReal.coe_add, sum_range_add]
      have := rescale (fun _ => True) l o M M'
      simp only [if_true] at this ⊢
      rw [this]
    · rw [hm, he, blkSum_coe, ← EReal.coe_mul, ← EReal.coe_add, sum_range_add, rescale]
    · rw [← EReal.coe_add, sum_range_add]

end Cert.Proof.Rows

end
-- ==== Proof.Draw.lean ====
/-
  What a row's draw is, over the reals: the weights, their sum, the first best action and its weight over the sum.
-/
module

public import proofs.«01_k».proof.Proof.Rows

@[expose] public section

noncomputable section

namespace Cert.Proof.Rows

open Idealize.ShloMosaic
open scoped Classical
open Finset

/-- The constant the program adds to every probability. -/
def eps : ℝ := 11805916 / 2 ^ 70

theorem eps_pos : 0 < eps := by unfold eps; positivity

/-- The actions drawn from: the viable, or all where none is. -/
def Kd (N : ℕ) (k : ℕ → Prop) (c : ℕ) : Prop := (∀ c < N, ¬ k c) ∨ k c

def dA (N : ℕ) (l : ℕ → ℝ) (M : ℝ) : ℝ := ∑ c ∈ range N, Real.exp (l c - M)
def dP (N : ℕ) (l : ℕ → ℝ) (M : ℝ) (c : ℕ) : ℝ := Real.exp (l c - M) / dA N l M
def dD (N : ℕ) (k : ℕ → Prop) (l : ℕ → ℝ) (M : ℝ) : ℝ := ∑ c ∈ range N, if Kd N k c then dP N l M c + eps else 0
def dV (N : ℕ) (k : ℕ → Prop) (l : ℕ → ℝ) (M : ℝ) (c : ℕ) : ℝ := (dP N l M c + eps) / dD N k l M

def IsMax (N : ℕ) (l : ℕ → ℝ) (M : ℝ) : Prop := (∃ c < N, l c = M) ∧ ∀ c < N, l c ≤ M

theorem IsMax.unique {N : ℕ} {l : ℕ → ℝ} {M M' : ℝ} (h : IsMax N l M) (h' : IsMax N l M') : M = M' := by
  obtain ⟨⟨c, hc, rfl⟩, h1⟩ := h
  obtain ⟨⟨c', hc', rfl⟩, h2⟩ := h'
  exact le_antisymm (h2 c hc) (h1 c' hc')

variable {N : ℕ} (k : ℕ → Prop) (l : ℕ → ℝ) (M : ℝ)

theorem dA_pos (hN : 0 < N) : 0 < dA N l M :=
  sum_pos (fun _ _ => Real.exp_pos _) ⟨0, mem_range.mpr hN⟩

theorem dP_pos (hN : 0 < N) (c : ℕ) : 0 < dP N l M c := div_pos (Real.exp_pos _) (dA_pos l M hN)

theorem exists_Kd (hN : 0 < N) : ∃ c < N, Kd N k c := by
  by_cases h : ∀ c < N, ¬ k c
  · exact ⟨0, hN, .inl h⟩
  · push Not at h
    obtain ⟨c, hc, hk⟩ := h
    exact ⟨c, hc, .inr hk⟩

theorem dD_pos (hN : 0 < N) : 0 < dD N k l M := by
  obtain ⟨c, hc, hk⟩ := exists_Kd k hN
  have hp : ∀ c, 0 < dP N l M c + eps := fun c => add_pos (dP_pos l M hN c) eps_pos
  refine sum_pos' (fun c _ => ?_) ⟨c, mem_range.mpr hc, ?_⟩
  · split
    · exact (hp c).le
    · exact le_rfl
  · rw [if_pos hk]; exact hp c

theorem sum_dP (hN : 0 < N) : ∑ c ∈ range N, dP N l M c = 1 := by
  unfold dP
  rw [← sum_div]
  exact div_self (dA_pos l M hN).ne'

theorem dD_none (hN : 0 < N) (h : ∀ c < N, ¬ k c) : dD N k l M = 1 + N * eps := by
  have e : ∀ c ∈ range N, (if Kd N k c then dP N l M c + eps else 0) = dP N l M c + eps := fun c _ => if_pos (.inl h)
  unfold dD
  rw [sum_congr rfl e, sum_add_distrib, sum_dP l M hN, sum_const, card_range, nsmul_eq_mul]

theorem dD_some (h : ¬ ∀ c < N, ¬ k c) :
    dD N k l M = (∑ c ∈ range N, if k c then Real.exp (l c - M) else 0) / dA N l M + (∑ c ∈ range N, if k c then (1 : ℝ) else 0) * eps := by
  unfold dD
  rw [sum_div, sum_mul, ← sum_add_distrib]
  refine sum_congr rfl fun c _ => ?_
  by_cases hk : k c
  · rw [if_pos (show Kd N k c from .inr hk), if_pos hk, if_pos hk, one_mul]; rfl
  · rw [if_neg (fun hd : Kd N k c => hd.elim h hk), if_neg hk, if_neg hk, zero_div, zero_mul, add_zero]

/-- A row's two results: the action's weight over the sum, and the action. -/
def Out (N : ℕ) (k : ℕ → Prop) (l g : ℕ → ℝ) (f : EReal) (a : BitVec 32) : Prop :=
  ∃ M i, IsMax N l M ∧ Best (Kd N k) (fun c => l c + g c) N i ∧ a = BitVec.ofNat 32 i ∧ f = (dV N k l M i : EReal)

theorem Out.unique {l g : ℕ → ℝ} {k : ℕ → Prop} {f f' : EReal} {a a' : BitVec 32} (h : Out N k l g f a) (h' : Out N k l g f' a') :
    f = f' ∧ a = a' := by
  obtain ⟨M, i, hM, hi, rfl, rfl⟩ := h
  obtain ⟨M', i', hM', hi', rfl, rfl⟩ := h'
  obtain rfl := hM.unique hM'
  obtain rfl := hi.unique hi'
  exact ⟨rfl, rfl⟩

/-- A row read at every number, the ones past its end at zero. -/
def ext {n : ℕ} (f : Fin n → ℝ) (d : ℕ) : ℝ := if h : d < n then f ⟨d, h⟩ else 0
def ext2 {n n' : ℕ} (f : Fin n → Fin n' → ℝ) (d e : ℕ) : ℝ := if h : d < n ∧ e < n' then f ⟨d, h.1⟩ ⟨e, h.2⟩ else 0
def extP {n : ℕ} (f : Fin n → Prop) (d : ℕ) : Prop := ∃ h : d < n, f ⟨d, h⟩

theorem ext_val {n : ℕ} (f : Fin n → ℝ) (d : Fin n) : ext f d.val = f d := dif_pos d.isLt
theorem ext2_val {n n' : ℕ} (f : Fin n → Fin n' → ℝ) (d : Fin n) (e : Fin n') : ext2 f d.val e.val = f d e := dif_pos ⟨d.isLt, e.isLt⟩
theorem extP_val {n : ℕ} (f : Fin n → Prop) (d : Fin n) : extP f d.val ↔ f d := ⟨fun ⟨_, h⟩ => h, fun h => ⟨d.isLt, h⟩⟩

end Cert.Proof.Rows

end
-- ==== Proof.RowOps.lean ====
/-
  The vector operations of one block's step, read at a row over the extended reals: each column of the record goes from
  what it holds after `o` columns to what it holds after the block's.
-/
module

public import proofs.«01_k».proof.Proof.Rows
public import proofs.«01_k».proof.Proof.State
public import Idealize.ShloMosaic.Lib.ValueIdx
public import Idealize.ShloMosaic.Lib.Pipeline.Value

@[expose] public section

noncomputable section

namespace Cert.Proof.Ideal

open Cert.KernelIdeal Cert.KernelIdeal.Gen Cert.Proof.Rows
open Idealize.ShloMosaic
open Idealize.ShloMosaic.ValueIdx (ix1 ix2 ix3)
open scoped Classical

/-! ## Folds -/

theorem fold_max_eq {n : ℕ} (f : Fin n → EReal) (j : Fin n) (h : ∀ k, f k ≤ f j) : Finset.univ.fold max ⊥ f = f j := by
  show Finset.univ.sup f = f j
  exact le_antisymm (Finset.sup_le fun k _ => h k) (Finset.le_sup (Finset.mem_univ j))

theorem fold_max_bot {n : ℕ} (f : Fin n → EReal) (h : ∀ k, f k = ⊥) : Finset.univ.fold max ⊥ f = ⊥ := by
  show Finset.univ.sup f = ⊥
  exact le_antisymm (Finset.sup_le fun k _ => (h k).le) bot_le

theorem minsi_toInt (x y : BitVec 32) : (IKind.minsi.op x y).toInt = min x.toInt y.toInt := by
  show (if x.slt y then x else y).toInt = _
  by_cases h : x.toInt < y.toInt
  · rw [show x.slt y = true from decide_eq_true h, if_pos rfl, min_eq_left h.le]
  · rw [show x.slt y = false from decide_eq_false h, if_neg Bool.false_ne_true, min_eq_right (not_lt.mp h)]

theorem fold_minsi_eq {n : ℕ} (f : Fin n → BitVec 32) (j : Fin n) (h : ∀ k, (f j).toInt ≤ (f k).toInt) :
    Finset.univ.fold IKind.minsi.op 2147483647#32 f = f j := by
  have key : ∀ s : Finset (Fin n), (f j).toInt ≤ (s.fold IKind.minsi.op 2147483647#32 f).toInt
      ∧ (j ∈ s → (s.fold IKind.minsi.op 2147483647#32 f).toInt ≤ (f j).toInt) := by
    intro s
    induction s using Finset.induction_on with
    | empty =>
      refine ⟨?_, fun hj => absurd hj (Finset.notMem_empty _)⟩
      rw [Finset.fold_empty]
      have := BitVec.toInt_lt (x := f j)
      rw [show (2147483647#32 : BitVec 32).toInt = 2147483647 by decide]
      omega
    | insert a s ha ih =>
      rw [Finset.fold_insert ha, minsi_toInt]
      refine ⟨le_min (h a) ih.1, fun hj => ?_⟩
      rcases Finset.mem_insert.mp hj with rfl | hj
      · exact min_le_left _ _
      · exact (min_le_right _ _).trans (ih.2 hj)
  exact BitVec.eq_of_toInt_eq (le_antisymm ((key _).2 (Finset.mem_univ j)) (key _).1)

/-- The first of the viable among `n` that has the greatest score, where any is viable. -/
theorem exists_best (P : ℕ → Prop) (x : ℕ → ℝ) (n : ℕ) : (∀ j < n, ¬ P j) ∨
    ∃ j, j < n ∧ P j ∧ (∀ j' < n, P j' → x j' ≤ x j) ∧ (∀ j' < j, P j' → x j' < x j) := by
  induction n with
  | zero => exact Or.inl fun j hj => absurd hj (Nat.not_lt_zero _)
  | succ n ih =>
    by_cases hn : P n
    · right
      rcases ih with ih | ⟨j, hj, hP, hle, hlt⟩
      · refine ⟨n, Nat.lt_succ_self n, hn, fun j' hj' hp => ?_, fun j' hj' hp => absurd hp (ih j' hj')⟩
        rcases Nat.lt_succ_iff_lt_or_eq.mp hj' with h | rfl
        · exact absurd hp (ih j' h)
        · exact le_rfl
      · by_cases hx : x j < x n
        · refine ⟨n, Nat.lt_succ_self n, hn, fun j' hj' hp => ?_, fun j' hj' hp => (hle j' hj' hp).trans_lt hx⟩
          rcases Nat.lt_succ_iff_lt_or_eq.mp hj' with h | rfl
          · exact (hle j' h hp).trans hx.le
          · exact le_rfl
        · refine ⟨j, by omega, hP, fun j' hj' hp => ?_, hlt⟩
          rcases Nat.lt_succ_iff_lt_or_eq.mp hj' with h | rfl
          · exact hle j' h hp
          · exact not_lt.mp hx
    · rcases ih with ih | ⟨j, hj, hP, hle, hlt⟩
      · left; intro j hj
        rcases Nat.lt_succ_iff_lt_or_eq.mp hj with h | rfl
        · exact ih j h
        · exact hn
      · right
        refine ⟨j, by omega, hP, fun j' hj' hp => ?_, hlt⟩
        rcases Nat.lt_succ_iff_lt_or_eq.mp hj' with h | rfl
        · exact hle j' h hp
        · exact absurd hp hn

/-! ## Reading at a row -/

theorem ofBits_negInf : (FloatOps.ofBits .f32 0xFF800000#32 : Ideal .f32) = (⊥ : EReal) := by
  show Ideal.ofBits .f32 0xFF800000#32 = ⊥
  simp [Ideal.ofBits, Ideal.ieee]
theorem ofBits_zero : (FloatOps.ofBits .f32 0#32 : Ideal .f32) = (0 : EReal) := by
  show Ideal.ofBits .f32 0#32 = 0
  simp [Ideal.ofBits, Ideal.ieee]

theorem sel_ofBool {α : Type} (p : Prop) [Decidable p] (a b : α) : Scalar.select (BitVec.ofBool (decide p)) a b = if p then a else b := by
  by_cases h : p
  · simp only [h, decide_true, if_true]; rfl
  · simp only [h, decide_false, if_false]; rfl

section Step
variable {n : ℕ} (hB : S128x1.Broadcasts (SB n)) (hR : (SB n).Reduces [1] S128)

abbrev at1 (r : Fin 128) : S128x1.Idx := ix2 r 0
abbrev at2 (r : Fin 128) (k : Fin n) : (SB n).Idx := ix2 r k

theorem lift_at (r : Fin 128) (k : Fin n) : hR.lift (ix1 r) k = at2 r k := by
  funext a; apply Fin.ext
  match a with
  | ⟨0, _⟩ => rfl
  | ⟨1, _⟩ => rfl

theorem col_cast {α : Type} (v : S128.Idx → α) (r : Fin 128) : shapeCast S128x1 v shapeCasts_S128_S128x1 (at1 r) = v (ix1 r) := by
  refine shapeCast_apply v _ _ _ ?_
  rw [Shape.rowMajor_val_one, Shape.rowMajor_val_two]
  show r.val = r.val * 1 + 0
  omega

theorem spread_at {α : Type} (v : S128x1.Idx → α) (r : Fin 128) (k : Fin n) : broadcastTo (SB n) v hB (at2 r k) = v (at1 r) := by
  refine broadcastTo_apply v hB _ _ fun a => ?_
  match a with
  | ⟨0, _⟩ => rfl
  | ⟨1, _⟩ => rfl

theorem rmax_at (x : FVec Ideal (SB n) .f32) (r : Fin 128) :
    rmax hR x (at1 r) = Finset.univ.fold max (⊥ : EReal) (fun k : Fin n => x (at2 r k)) := by
  unfold rmax
  rw [col_cast]
  refine (Ideal.multiReduction_maximumf_single x 0xFF800000#32 hR (.inl rfl) rfl (ix1 r)).trans ?_
  rw [ofBits_negInf]
  exact congrArg (fun f : Fin n → EReal => Finset.univ.fold max (⊥ : EReal) f) (funext fun k => congrArg x (lift_at hR r k))

theorem rsum_at (x : FVec Ideal (SB n) .f32) (r : Fin 128) : rsum hR x (at1 r) = ∑ k : Fin n, x (at2 r k) := by
  unfold rsum
  rw [col_cast]
  refine (Ideal.multiReduction_add_single x _ hR (.inl rfl) rfl (ix1 r)).trans ?_
  exact Finset.sum_congr rfl fun k _ => congrArg x (lift_at hR r k)

theorem rarg_at (x : FVec Ideal (SB n) .f32) (gidx : IVec (SB n) 32) (r : Fin 128) :
    rarg hB hR x gidx (at1 r) = Finset.univ.fold IKind.minsi.op 2147483647#32
      (fun k : Fin n => if x (at2 r k) = rmax hR x (at1 r) then gidx (at2 r k) else 1073741824#32) := by
  unfold rarg
  rw [col_cast]
  refine (multiReductionI_eq_fold .minsi _ _ hR rfl (ix1 r)).trans ?_
  refine (hR.fold_filter_drop_single _ _ _ (ix1 r)).trans ?_
  refine congrArg (fun f : Fin n → BitVec 32 => Finset.univ.fold IKind.minsi.op 2147483647#32 f) (funext fun (k : Fin n) => ?_)
  refine (congrArg (select _ _ _) (lift_at hR r k)).trans ?_
  show Scalar.select (Ideal.cmp .oeq (x (at2 r k)) (broadcastTo (SB n) (rmax hR x) hB (at2 r k))) (gidx (at2 r k)) 1073741824#32 = _
  rw [spread_at hB (rmax hR x) r (k : Fin n)]
  exact sel_ofBool _ _ _

theorem rlog_at (l x : FVec Ideal (SB n) .f32) (gidx : IVec (SB n) 32) (r : Fin 128) :
    rlog hB hR l x gidx (at1 r) = Finset.univ.fold max (⊥ : EReal)
      (fun k : Fin n => if gidx (at2 r k) = rarg hB hR x gidx (at1 r) then l (at2 r k) else ⊥) := by
  unfold rlog
  rw [rmax_at]
  refine congrArg (fun f : Fin n → EReal => Finset.univ.fold max (⊥ : EReal) f) (funext fun k => ?_)
  show Scalar.select (IntOp.cmpi .eq (gidx (at2 r k)) (broadcastTo (SB n) (rarg hB hR x gidx) hB (at2 r k))) (l (at2 r k)) (FloatOps.ofBits .f32 0xFF800000#32) = _
  rw [spread_at, ofBits_negInf]
  show Scalar.select (BitVec.ofBool (gidx (at2 r k) == rarg hB hR x gidx (at1 r))) _ _ = _
  by_cases h : gidx (at2 r k) = rarg hB hR x gidx (at1 r)
  · rw [if_pos h, beq_iff_eq.mpr h]; rfl
  · rw [if_neg h, beq_eq_false_iff_ne.mpr h]; rfl

theorem ofNat_toInt {a : ℕ} (h : a < 2 ^ 30) : (BitVec.ofNat 32 a).toInt = a := by
  rw [BitVec.toInt_eq_toNat_of_lt, BitVec.toNat_ofNat, Nat.mod_eq_of_lt (by omega)]
  rw [BitVec.toNat_ofNat, Nat.mod_eq_of_lt (by omega)]; omega

/-- One block's best score, its index and its logit. -/
theorem top_block (r : Fin 128) (o : ℕ) (ho : o + n ≤ 2 ^ 29) (sc l : FVec Ideal (SB n) .f32) (gidx : IVec (SB n) 32)
    (K : ℕ → Prop) (X L : ℕ → ℝ)
    (hsc : ∀ k : Fin n, sc (at2 r k) = if K (o + k.val) then (X (o + k.val) : EReal) else ⊥)
    (hl : ∀ k : Fin n, l (at2 r k) = (L (o + k.val) : EReal))
    (hg : ∀ k : Fin n, gidx (at2 r k) = BitVec.ofNat 32 (o + k.val)) :
    BlockTop K X L o n (rmax hR sc (at1 r)) (rarg hB hR sc gidx (at1 r)) (rlog hB hR l sc gidx (at1 r)) := by
  rcases exists_best (fun j => K (o + j)) (fun j => X (o + j)) n with h | ⟨j, hj, hK, hle, hlt⟩
  · left; refine ⟨h, ?_⟩
    rw [rmax_at]
    exact fold_max_bot _ fun k => by rw [hsc, if_neg (h k.val k.isLt)]
  · right
    have hm : rmax hR sc (at1 r) = (X (o + j) : EReal) := by
      rw [rmax_at, fold_max_eq _ (⟨j, hj⟩ : Fin n) fun k => ?_]
      · rw [hsc]; exact if_pos hK
      · rw [hsc, hsc, if_pos (show K (o + (⟨j, hj⟩ : Fin n).val) from hK)]
        split
        · exact EReal.coe_le_coe_iff.mpr (hle k.val k.isLt ‹_›)
        · exact bot_le
    have hs : ∀ k : Fin n, sc (at2 r k) = (X (o + j) : EReal) ↔ K (o + k.val) ∧ X (o + k.val) = X (o + j) := fun k => by
      rw [hsc]
      split
      · rename_i hk; rw [EReal.coe_eq_coe_iff]; exact ⟨fun e => ⟨hk, e⟩, fun e => e.2⟩
      · rename_i hk; exact ⟨fun e => absurd e.symm (EReal.coe_ne_bot _), fun e => absurd e.1 hk⟩
    have ha : rarg hB hR sc gidx (at1 r) = BitVec.ofNat 32 (o + j) := by
      rw [rarg_at, hm]
      have hf : ∀ k : Fin n, (if sc (at2 r k) = (X (o + j) : EReal) then gidx (at2 r k) else 1073741824#32)
          = if K (o + k.val) ∧ X (o + k.val) = X (o + j) then BitVec.ofNat 32 (o + k.val) else 1073741824#32 := fun k => by
        rw [hg]; exact if_congr (hs k) rfl rfl
      rw [funext hf, fold_minsi_eq _ (⟨j, hj⟩ : Fin n) fun k => ?_]
      · exact if_pos ⟨hK, rfl⟩
      · rw [if_pos (show K (o + (⟨j, hj⟩ : Fin n).val) ∧ _ from ⟨hK, rfl⟩), ofNat_toInt (by show o + j < _; omega)]
        split
        · rename_i hk
          rw [ofNat_toInt (by have := k.isLt; omega)]
          by_contra hc
          have : k.val < j := by
            have hc' : ¬ (((o + j : ℕ) : ℤ) ≤ ((o + k.val : ℕ) : ℤ)) := hc
            omega
          exact absurd hk.2 (hlt k.val this hk.1).ne
        · rw [show (1073741824#32 : BitVec 32).toInt = 1073741824 by decide]; push_cast; show (o : ℤ) + (j : ℤ) ≤ _; omega
    refine ⟨j, hj, hK, hle, hlt, hm, ha, ?_⟩
    rw [rlog_at, ha]
    have hf : ∀ k : Fin n, (if gidx (at2 r k) = BitVec.ofNat 32 (o + j) then l (at2 r k) else (⊥ : EReal))
        = if k = (⟨j, hj⟩ : Fin n) then (L (o + j) : EReal) else ⊥ := fun k => by
      rw [hg, hl]
      by_cases hk : k = (⟨j, hj⟩ : Fin n)
      · subst hk; rw [if_pos rfl, if_pos rfl]
      · rw [if_neg hk, if_neg]
        intro e
        have e' := congrArg BitVec.toInt e
        rw [ofNat_toInt (by have := k.isLt; omega), ofNat_toInt (by omega)] at e'
        exact hk (Fin.ext (by show k.val = j; omega))
    rw [funext hf, fold_max_eq _ (⟨j, hj⟩ : Fin n) fun k => ?_]
    · exact if_pos rfl
    · rw [if_pos rfl]; split
      · exact le_rfl
      · exact bot_le

/-- What a record holds at row `r` after `N` columns. -/
structure RowInv (K : ℕ → Prop) (X L : ℕ → ℝ) (N : ℕ) (s : St Ideal) (r : Fin 128) : Prop where
  sums : Sums K L N (s.m (at1 r)) (s.a (at1 r)) (s.b (at1 r)) (s.n (at1 r))
  top : Top K X L N (s.bs (at1 r)) (s.ib (at1 r)) (s.bl (at1 r))
  all : Top (fun _ => True) X L N (s.us (at1 r)) (s.iu (at1 r)) (s.ul (at1 r))

theorem sel_ogt {α : Type} (a b : FVec Ideal S128x1 .f32) (x y : S128x1.Idx → α) (i : S128x1.Idx) :
    select (cmpf .ogt a b) x y i = if (b i : EReal) < a i then x i else y i := by
  show Scalar.select (Ideal.cmp .ogt (a i) (b i)) (x i) (y i) = _
  exact sel_ofBool _ _ _

theorem accum_row (r : Fin 128) (o : ℕ) (hn : 0 < n) (ho : o + n ≤ 2 ^ 29) (l g : FVec Ideal (SB n) .f32) (mb : IVec (SB n) 1)
    (gidx : IVec (SB n) 32) (K : ℕ → Prop) (G L : ℕ → ℝ) (s : St Ideal)
    (hl : ∀ k : Fin n, l (at2 r k) = (L (o + k.val) : EReal)) (hgn : ∀ k : Fin n, g (at2 r k) = (G (o + k.val) : EReal))
    (hmb : ∀ k : Fin n, mb (at2 r k) = if K (o + k.val) then 1#1 else 0#1)
    (hg : ∀ k : Fin n, gidx (at2 r k) = BitVec.ofNat 32 (o + k.val)) (h : RowInv K (fun c => L c + G c) L o s r) :
    RowInv K (fun c => L c + G c) L (o + n) (accum hB hR l g mb gidx s) r := by
  have hsc : ∀ k : Fin n, addf l g (at2 r k) = ((L (o + k.val) + G (o + k.val) : ℝ) : EReal) := fun k => by
    show (l (at2 r k) : EReal) + g (at2 r k) = _
    rw [hl, hgn, EReal.coe_add]
  have hmk : ∀ (p : EReal) (k : Fin n), Scalar.select (mb (at2 r k)) p (0 : EReal) = if K (o + k.val) then p else 0 := fun p k => by
    rw [hmb]; split <;> rfl
  have hscm : ∀ k : Fin n, select mb (addf l g) (broadcast (SB n) (FloatOps.ofBits .f32 0xFF800000#32)) (at2 r k)
      = if K (o + k.val) then ((L (o + k.val) + G (o + k.val) : ℝ) : EReal) else ⊥ := fun k => by
    show Scalar.select (mb (at2 r k)) (addf l g (at2 r k)) (FloatOps.ofBits .f32 0xFF800000#32) = _
    rw [ofBits_negInf, hsc, hmb]; split <;> rfl
  have htop := top_block hB hR r o ho _ l gidx K (fun c => L c + G c) L hscm hl hg
  have hall := top_block hB hR r o ho (addf l g) l gidx (fun _ => True) (fun c => L c + G c) L
    (fun k => by rw [if_pos trivial]; exact hsc k) hl hg
  refine ⟨?_, ?_, ?_⟩
  · rcases exists_best (fun _ => True) (fun j => L (o + j)) n with hno | ⟨j, hj, -, hle, -⟩
    · exact absurd trivial (hno 0 hn)
    have hm : rmax hR l (at1 r) = (L (o + j) : EReal) := by
      rw [rmax_at, fold_max_eq _ (⟨j, hj⟩ : Fin n) fun k => ?_]
      · exact hl _
      · rw [hl, hl]; exact EReal.coe_le_coe_iff.mpr (hle k.val k.isLt trivial)
    have step := h.sums.step (L (o + j)) ⟨j, hj, rfl⟩ (fun j' hj' => hle j' hj' trivial)
    rw [← hm] at step
    have e1 : ∀ k : Fin n, exp (subf l (broadcastTo (SB n) (maximumf s.m (rmax hR l)) hB)) (at2 r k)
        = Ideal.exp ((L (o + k.val) : EReal) - max (s.m (at1 r)) (rmax hR l (at1 r))) := fun k => by
      show Ideal.exp ((l (at2 r k) : EReal) - broadcastTo (SB n) (maximumf s.m (rmax hR l)) hB (at2 r k)) = _
      rw [spread_at, hl]; rfl
    have ea : rsum hR (exp (subf l (broadcastTo (SB n) (maximumf s.m (rmax hR l)) hB))) (at1 r)
        = blkSum (fun _ => True) L o n (max (s.m (at1 r)) (rmax hR l (at1 r))) := by
      rw [rsum_at, Finset.sum_congr rfl fun k _ => e1 k]
      unfold blkSum
      simp only [if_true]
      exact Fin.sum_univ_eq_sum_range (fun j => Ideal.exp ((L (o + j) : EReal) - max (s.m (at1 r)) (rmax hR l (at1 r)))) n
    have eb : rsum hR (select mb (exp (subf l (broadcastTo (SB n) (maximumf s.m (rmax hR l)) hB))) (broadcast (SB n) (FloatOps.ofBits .f32 0#32))) (at1 r)
        = blkSum K L o n (max (s.m (at1 r)) (rmax hR l (at1 r))) := by
      rw [rsum_at]
      have e2 : ∀ k : Fin n, select mb (exp (subf l (broadcastTo (SB n) (maximumf s.m (rmax hR l)) hB))) (broadcast (SB n) (FloatOps.ofBits .f32 0#32)) (at2 r k)
          = if K (o + k.val) then Ideal.exp ((L (o + k.val) : EReal) - max (s.m (at1 r)) (rmax hR l (at1 r))) else 0 := fun k => by
        show Scalar.select (mb (at2 r k)) (exp (subf l (broadcastTo (SB n) (maximumf s.m (rmax hR l)) hB)) (at2 r k)) (FloatOps.ofBits .f32 0#32) = _
        rw [ofBits_zero, hmk, e1]
      rw [Finset.sum_congr rfl fun k _ => e2 k]
      unfold blkSum
      exact Fin.sum_univ_eq_sum_range (fun j => if K (o + j) then Ideal.exp ((L (o + j) : EReal) - max (s.m (at1 r)) (rmax hR l (at1 r))) else 0) n
    have en : (rsum hR (sitofp .f32 (extui 32 mb natLt_1_32) : FVec Ideal (SB n) .f32) (at1 r) : EReal)
        = ((∑ j ∈ Finset.range n, if K (o + j) then (1 : ℝ) else 0 : ℝ) : EReal) := by
      rw [rsum_at, coe_sum_range]
      have e2 : ∀ k : Fin n, (sitofp .f32 (extui 32 mb natLt_1_32) : FVec Ideal (SB n) .f32) (at2 r k)
          = ((if K (o + k.val) then (1 : ℝ) else 0 : ℝ) : EReal) := fun k => by
        show ((((mb (at2 r k)).setWidth 32).toInt : ℝ) : EReal) = _
        rw [hmb]; split
        · norm_num
        · norm_num
      rw [Finset.sum_congr rfl fun k _ => e2 k]
      exact Fin.sum_univ_eq_sum_range (fun j => ((if K (o + j) then (1 : ℝ) else 0 : ℝ) : EReal)) n
    have step' := step
    rw [← ea, ← eb] at step'
    have en' : s.n (at1 r) + ((∑ j ∈ Finset.range n, if K (o + j) then (1 : ℝ) else 0 : ℝ) : EReal)
        = addf s.n (rsum hR (sitofp .f32 (extui 32 mb natLt_1_32))) (at1 r) := congrArg (fun z : EReal => (s.n (at1 r) : EReal) + z) en.symm
    rw [en'] at step'
    exact step'
  · have := h.top.step htop
    unfold accum
    simp only [sel_ogt]
    exact this
  · have := h.all.step hall
    unfold accum
    simp only [sel_ogt]
    exact this

end Step

end Cert.Proof.Ideal

end
-- ==== Proof.RowEnd.lean ====
/-
  What the kernel writes for a row, from what its record holds after all the columns.
-/
module

public import proofs.«01_k».proof.Proof.Draw
public import proofs.«01_k».proof.Proof.RowOps
public import proofs.«01_k».proof.Proof.Body

@[expose] public section

noncomputable section

namespace Cert.Proof.Ideal

open Cert.KernelIdeal Cert.KernelIdeal.Gen Cert.Proof.Rows
open Idealize.ShloMosaic
open scoped Classical

theorem ofBits_eps : (FloatOps.ofBits .f32 0x283424DC#32 : Ideal .f32) = ((eps : ℝ) : EReal) := by
  show Ideal.ofBits .f32 0x283424DC#32 = _
  unfold eps
  simp [Ideal.ofBits, Ideal.ieee]
  rw [← EReal.coe_mul]
  norm_num

theorem kappa_eq : (Named.named (F := Ideal) κ "pruned_sum" 0x3F800000#32 : Ideal .f32) = ((1 + (100000 : ℕ) * eps : ℝ) : EReal) := by
  show ((9223372046078147683 / 9223372036854775808 : ℝ) : EReal) = _
  refine congrArg _ ?_
  unfold eps
  norm_num

theorem outF_at (s : St Ideal) (i : S128x1.Idx) : outF s i
    = Ideal.div (Ideal.div (Ideal.exp ((Scalar.select (Ideal.cmp .oeq (s.n i) (FloatOps.ofBits .f32 0#32 : Ideal .f32)) (s.ul i) (s.bl i) : EReal) - s.m i)) (s.a i)
        + (FloatOps.ofBits .f32 0x283424DC#32 : Ideal .f32))
      (Scalar.select (Ideal.cmp .oeq (s.n i) (FloatOps.ofBits .f32 0#32 : Ideal .f32)) (Named.named (F := Ideal) κ "pruned_sum" 0x3F800000#32 : Ideal .f32)
        ((Ideal.div (s.b i) (s.a i) : EReal) + (s.n i : EReal) * (FloatOps.ofBits .f32 0x283424DC#32 : Ideal .f32))) := rfl

theorem outI_at (s : St Ideal) (i : S128x1.Idx) : outI s i
    = Scalar.select (Ideal.cmp .oeq (s.n i) (FloatOps.ofBits .f32 0#32 : Ideal .f32)) (s.iu i) (s.ib i) := rfl

theorem sel_oeq {α : Type} (x y : EReal) (a b : α) : Scalar.select (Ideal.cmp .oeq x y) a b = if x = y then a else b :=
  sel_ofBool _ _ _

theorem div_real (x y : ℝ) (h : y ≠ 0) : Ideal.div (x : EReal) (y : EReal) = ((x / y : ℝ) : EReal) := by
  rw [Ideal.div_coe h, ← EReal.coe_mul, mul_one_div]

theorem row_out (K : ℕ → Prop) (G L : ℕ → ℝ) (s : St Ideal) (r : Fin 128) (h : RowInv K (fun c => L c + G c) L 100000 s r) :
    Out 100000 K L G (outF s (at1 r)) (outI s (at1 r)) := by
  obtain ⟨N, hN⟩ : ∃ N, N = 100000 := ⟨_, rfl⟩
  have hN0 : 0 < N := by omega
  rw [outF_at, outI_at, ofBits_eps, ofBits_zero, kappa_eq]
  simp only [sel_oeq]
  rw [← hN] at h ⊢
  rcases h.sums with ⟨h0, -⟩ | ⟨M, hex, hle, hm, ha, hb, hn⟩
  · omega
  refine ⟨M, ?_⟩
  rw [hm, ha, hb, hn]
  have hA : 0 < ∑ c ∈ Finset.range N, Real.exp (L c - M) := dA_pos L M hN0
  change ∃ i, IsMax N L M ∧ _ ∧ _ ∧ _ = _
  by_cases hk : ∀ c < N, ¬ K c
  · have h0 : (∑ c ∈ Finset.range N, if K c then (1 : ℝ) else 0) = 0 :=
      Finset.sum_eq_zero fun c hc => if_neg (hk c (Finset.mem_range.mp hc))
    rw [h0, EReal.coe_zero, if_pos rfl, if_pos rfl, if_pos rfl]
    rcases h.all with ⟨hno, -⟩ | ⟨i, hi, hx, hix, hl⟩
    · exact absurd trivial (hno 0 hN0)
    refine ⟨i, ⟨hex, hle⟩, ⟨hi.lt, .inl hk, fun c hc _ => hi.le c hc trivial, fun c hc _ => hi.first c hc trivial⟩, hix, ?_⟩
    rw [hl, ← EReal.coe_sub, Ideal.exp_coe, div_real _ _ hA.ne', ← EReal.coe_add, ← dD_none K L M hN0 hk, div_real _ _ (dD_pos K L M hN0).ne']
    rfl
  · have h0 : (∑ c ∈ Finset.range N, if K c then (1 : ℝ) else 0) ≠ 0 := by
      push Not at hk
      obtain ⟨c, hc, hk⟩ := hk
      refine (Finset.sum_pos' (fun c _ => ?_) ⟨c, Finset.mem_range.mpr hc, ?_⟩).ne'
      · split
        · exact zero_le_one
        · exact le_rfl
      · rw [if_pos hk]; exact one_pos
    have h0' : ((∑ c ∈ Finset.range N, if K c then (1 : ℝ) else 0 : ℝ) : EReal) ≠ 0 := fun e => h0 (EReal.coe_eq_zero.mp e)
    rw [if_neg h0', if_neg h0', if_neg h0']
    rcases h.top with ⟨hno, -⟩ | ⟨i, hi, hx, hix, hl⟩
    · exact absurd hno hk
    have hkd : ∀ c, Kd N K c → K c := fun c hd => hd.elim (fun e => absurd e hk) id
    refine ⟨i, ⟨hex, hle⟩, ⟨hi.lt, .inr hi.ok, fun c hc hd => hi.le c hc (hkd c hd), fun c hc hd => hi.first c hc (hkd c hd)⟩, hix, ?_⟩
    rw [hl, ← EReal.coe_sub, Ideal.exp_coe, div_real _ _ hA.ne', div_real _ _ hA.ne', ← EReal.coe_mul, ← EReal.coe_add, ← EReal.coe_add]
    have hD := dD_some K L M hk
    unfold dA at hD
    rw [← hD, div_real _ _ (dD_pos K L M hN0).ne']
    rfl

end Cert.Proof.Ideal

end
-- ==== Proof.Logits.lean ====
/-
  The blocks' data read at a row over the extended reals: a logit is the row's inner product with the column's weights,
  cut in four; and the record the kernel ends with, at that row.
-/
module

public import proofs.«01_k».proof.Proof.RowOps
public import proofs.«01_k».proof.Proof.Body
public import Idealize.ShloMosaic.Lib.Pointwise.Contract

@[expose] public section

noncomputable section

namespace Cert.Proof.Ideal

open Cert.KernelIdeal Cert.KernelIdeal.Gen Cert.Proof.Rows
open Idealize.ShloMosaic
open Idealize.ShloMosaic.TcCoe
open scoped Classical

/-- A row's logit at column `k`. -/
def logit (h : ℕ → ℝ) (w : ℕ → ℕ → ℝ) (k : ℕ) : ℝ := ∑ d ∈ Finset.range 1024, h d * w d k

theorem mmB_at (a : FVec Ideal S128x256 .f32) (b : FVec Ideal S256x2048 .f32) (r : Fin 128) (k : Fin 2048) :
    (matmul dot_S128x256_S256x2048_S128x2048_1_0_0_1_n_n none a b (constant S128x2048 .f32 0#32)) (ValueIdx.ix2 r k) = ∑ d : Fin 256, (a (ValueIdx.ix2 r d) : EReal) * b (ValueIdx.ix2 d k) := by
  refine (Ideal.matmul_apply₁_of (K := 256) dot_S128x256_S256x2048_S128x2048_1_0_0_1_n_n rfl rfl a b (constant (F := Ideal) S128x2048 .f32 0#32) (ValueIdx.ix2 r k) (fun d : Fin 256 => ValueIdx.ix2 r d) (fun d : Fin 256 => ValueIdx.ix2 d k) ?_ ?_).trans ?_
  · intro d; funext a; match a with | ⟨0, _⟩ => rfl | ⟨1, _⟩ => rfl
  · intro d; funext a; match a with | ⟨0, _⟩ => rfl | ⟨1, _⟩ => rfl
  · show (FloatOps.ofBits .f32 0#32 : Ideal .f32) + _ = _
    rw [ofBits_zero]; exact zero_add _

theorem mmT_at (a : FVec Ideal S128x256 .f32) (b : FVec Ideal S256x1696 .f32) (r : Fin 128) (k : Fin 1696) :
    (matmul dot_S128x256_S256x1696_S128x1696_1_0_0_1_n_n none a b (constant S128x1696 .f32 0#32)) (ValueIdx.ix2 r k) = ∑ d : Fin 256, (a (ValueIdx.ix2 r d) : EReal) * b (ValueIdx.ix2 d k) := by
  refine (Ideal.matmul_apply₁_of (K := 256) dot_S128x256_S256x1696_S128x1696_1_0_0_1_n_n rfl rfl a b (constant (F := Ideal) S128x1696 .f32 0#32) (ValueIdx.ix2 r k) (fun d : Fin 256 => ValueIdx.ix2 r d) (fun d : Fin 256 => ValueIdx.ix2 d k) ?_ ?_).trans ?_
  · intro d; funext a; match a with | ⟨0, _⟩ => rfl | ⟨1, _⟩ => rfl
  · intro d; funext a; match a with | ⟨0, _⟩ => rfl | ⟨1, _⟩ => rfl
  · show (FloatOps.ofBits .f32 0#32 : Ideal .f32) + _ = _
    rw [ofBits_zero]; exact zero_add _

theorem dot_coe (a b : Fin 256 → EReal) (h w : ℕ → ℝ) (ha : ∀ d, a d = (h d.val : EReal)) (hb : ∀ d, b d = (w d.val : EReal)) :
    ∑ d : Fin 256, a d * b d = ((∑ d ∈ Finset.range 256, h d * w d : ℝ) : EReal) := by
  rw [coe_sum_range, Finset.sum_congr rfl fun d _ => by rw [ha, hb]]
  rw [← Fin.sum_univ_eq_sum_range (fun d => ((h d * w d : ℝ) : EReal)) 256]
  exact Finset.sum_congr rfl fun d _ => (EReal.coe_mul _ _).symm

theorem logit_four (h : ℕ → ℝ) (w : ℕ → ℕ → ℝ) (k : ℕ) :
    (((((∑ d ∈ Finset.range 256, h (256 * 0 + d) * w (256 * 0 + d) k : ℝ) : EReal)
      + ((∑ d ∈ Finset.range 256, h (256 * 1 + d) * w (256 * 1 + d) k : ℝ) : EReal))
      + ((∑ d ∈ Finset.range 256, h (256 * 2 + d) * w (256 * 2 + d) k : ℝ) : EReal))
      + ((∑ d ∈ Finset.range 256, h (256 * 3 + d) * w (256 * 3 + d) k : ℝ) : EReal)) = (logit h w k : EReal) := by
  rw [← EReal.coe_add, ← EReal.coe_add, ← EReal.coe_add]
  refine congrArg (fun x : ℝ => (x : EReal)) ?_
  unfold logit
  rw [show (1024 : ℕ) = 256 + 256 + 256 + 256 from rfl, Finset.sum_range_add, Finset.sum_range_add, Finset.sum_range_add]
  simp only [Nat.mul_zero, zero_add]

section Data
variable (c : Dev nD) (XW : Buf (Elt Ideal) (wM.view.loc (c : Thread nD τ))) (XM : Buf (Elt Ideal) (mM.view.loc (c : Thread nD τ)))
  (XG : Buf (Elt Ideal) (gM.view.loc (c : Thread nD τ))) (arg0 : Memref sig .tc .vmem S128x1024 .f32) (g0 : Buf (Elt Ideal) (arg0.view.loc (c : Thread nD τ)))
  (r : Fin 128) (h : ℕ → ℝ) (w : ℕ → ℕ → ℝ) (G : ℕ → ℝ) (K : ℕ → Prop)
  (hh : ∀ d : Fin 1024, View.read (Elt Ideal) arg0.view g0 (ValueIdx.ix2 r d) = ((h d.val : ℝ) : EReal))
  (hw : ∀ (i : Fin 4) (d : Fin 256) (k : Fin 100000), XW (ValueIdx.ix3 i d k) = ((w (256 * i.val + d.val) k.val : ℝ) : EReal))
  (hM : ∀ k : Fin 100000, K k.val ↔ XM (ValueIdx.ix2 r k) ≠ 0#32)
  (hG : ∀ k : Fin 100000, XG (ValueIdx.ix2 r k) = ((G k.val : ℝ) : EReal))

include hh in
theorem hDat0_at (d : Fin 256) : hDat0 c arg0 g0 (ValueIdx.ix2 r d) = ((h (256 * 0 + d.val) : ℝ) : EReal) := by
  unfold hDat0
  refine (congrFun (shapeCast_self _ shapeCasts_S128x256_S128x256) _).trans ?_
  refine Eq.trans (congrArg (View.read (Elt Ideal) arg0.view g0) (?_ : _ = ValueIdx.ix2 r (⟨256 * 0 + d.val, by omega⟩ : Fin 1024))) (hh _)
  funext a; apply Fin.ext
  match a with
  | ⟨0, _⟩ => show 0 + 1 * r.val = r.val; omega
  | ⟨1, _⟩ => show 0 + 1 * d.val = 256 * 0 + d.val; omega
include hh in
theorem hDat1_at (d : Fin 256) : hDat1 c arg0 g0 (ValueIdx.ix2 r d) = ((h (256 * 1 + d.val) : ℝ) : EReal) := by
  unfold hDat1
  refine (congrFun (shapeCast_self _ shapeCasts_S128x256_S128x256) _).trans ?_
  refine Eq.trans (congrArg (View.read (Elt Ideal) arg0.view g0) (?_ : _ = ValueIdx.ix2 r (⟨256 * 1 + d.val, by omega⟩ : Fin 1024))) (hh _)
  funext a; apply Fin.ext
  match a with
  | ⟨0, _⟩ => show 0 + 1 * r.val = r.val; omega
  | ⟨1, _⟩ => show 256 + 1 * d.val = 256 * 1 + d.val; omega
include hh in
theorem hDat2_at (d : Fin 256) : hDat2 c arg0 g0 (ValueIdx.ix2 r d) = ((h (256 * 2 + d.val) : ℝ) : EReal) := by
  unfold hDat2
  refine (congrFun (shapeCast_self _ shapeCasts_S128x256_S128x256) _).trans ?_
  refine Eq.trans (congrArg (View.read (Elt Ideal) arg0.view g0) (?_ : _ = ValueIdx.ix2 r (⟨256 * 2 + d.val, by omega⟩ : Fin 1024))) (hh _)
  funext a; apply Fin.ext
  match a with
  | ⟨0, _⟩ => show 0 + 1 * r.val = r.val; omega
  | ⟨1, _⟩ => show 512 + 1 * d.val = 256 * 2 + d.val; omega
include hh in
theorem hDat3_at (d : Fin 256) : hDat3 c arg0 g0 (ValueIdx.ix2 r d) = ((h (256 * 3 + d.val) : ℝ) : EReal) := by
  unfold hDat3
  refine (congrFun (shapeCast_self _ shapeCasts_S128x256_S128x256) _).trans ?_
  refine Eq.trans (congrArg (View.read (Elt Ideal) arg0.view g0) (?_ : _ = ValueIdx.ix2 r (⟨256 * 3 + d.val, by omega⟩ : Fin 1024))) (hh _)
  funext a; apply Fin.ext
  match a with
  | ⟨0, _⟩ => show 0 + 1 * r.val = r.val; omega
  | ⟨1, _⟩ => show 768 + 1 * d.val = 256 * 3 + d.val; omega

include hw in
theorem wDat_at (i : Fin 4) (b : Fin 48) (d : Fin 256) (k : Fin 2048) :
    shapeCast S256x2048 (wDat c XW i b) shapeCasts_S1x256x2048_S256x2048 (ValueIdx.ix2 d k) = ((w (256 * i.val + d.val) (2048 * b.val + k.val) : ℝ) : EReal) := by
  have hb := b.isLt
  have hk := k.isLt
  refine (shapeCast_apply _ _ _ (ValueIdx.ix3 (0 : Fin 1) d k) ?_).trans ?_
  · rw [Shape.rowMajor_val_two, Shape.rowMajor_val_three]
    show (0 * 256 + d.val) * 2048 + k.val = d.val * 2048 + k.val
    omega
  · refine Eq.trans (congrArg XW (?_ : _ = ValueIdx.ix3 i d (⟨2048 * b.val + k.val, by omega⟩ : Fin 100000))) (hw _ _ _)
    funext a; apply Fin.ext
    match a with
    | ⟨0, _⟩ => show 0 + 1 * (i.val + 1 * 0) = i.val; omega
    | ⟨1, _⟩ => show 0 + 1 * (0 + 1 * d.val) = d.val; omega
    | ⟨2, _⟩ => show 0 + 1 * (2048 * b.val + 1 * k.val) = 2048 * b.val + k.val; omega

include hw in
theorem wTail_at (i : Fin 4) (d : Fin 256) (k : Fin 1696) :
    wTail c XW i (ValueIdx.ix2 d k) = ((w (256 * i.val + d.val) (98304 + k.val) : ℝ) : EReal) := by
  have hk := k.isLt
  refine Eq.trans (b := shapeCast S256x1696 (View.read (Elt Ideal) (wM.slice (Rect.unit (s := S4x256x100000) (tailOffW i) S1x256x1696.size (tailOffW_inb i)) (fun _ => rfl)).view XW) (show S1x256x1696.ShapeCasts S256x1696 by decide) (ValueIdx.ix2 d k)) rfl ?_
  refine (shapeCast_apply _ _ _ (ValueIdx.ix3 (0 : Fin 1) d k) ?_).trans ?_
  · rw [Shape.rowMajor_val_two, Shape.rowMajor_val_three]
    show (0 * 256 + d.val) * 1696 + k.val = d.val * 1696 + k.val
    omega
  · refine Eq.trans (congrArg XW (?_ : _ = ValueIdx.ix3 i d (⟨98304 + k.val, by omega⟩ : Fin 100000))) (hw _ _ _)
    funext a; apply Fin.ext
    match a with
    | ⟨0, _⟩ => show i.val + 1 * 0 = i.val; omega
    | ⟨1, _⟩ => show 0 + 1 * d.val = d.val; omega
    | ⟨2, _⟩ => show 98304 + 1 * k.val = 98304 + k.val; omega

theorem mDat_at (b : Fin 48) (k : Fin 2048) : mDat c XM b (ValueIdx.ix2 r k) = XM (ValueIdx.ix2 r (⟨2048 * b.val + k.val, by omega⟩ : Fin 100000)) := by
  refine congrArg XM ?_
  funext a; apply Fin.ext
  match a with
  | ⟨0, _⟩ => show 0 + 1 * (0 + 1 * r.val) = r.val; omega
  | ⟨1, _⟩ => show 0 + 1 * (2048 * b.val + 1 * k.val) = 2048 * b.val + k.val; omega
theorem gDat_at (b : Fin 48) (k : Fin 2048) : gDat c XG b (ValueIdx.ix2 r k) = XG (ValueIdx.ix2 r (⟨2048 * b.val + k.val, by omega⟩ : Fin 100000)) := by
  refine congrArg XG ?_
  funext a; apply Fin.ext
  match a with
  | ⟨0, _⟩ => show 0 + 1 * (0 + 1 * r.val) = r.val; omega
  | ⟨1, _⟩ => show 0 + 1 * (2048 * b.val + 1 * k.val) = 2048 * b.val + k.val; omega
theorem mTail_at (k : Fin 1696) : mTail c XM (ValueIdx.ix2 r k) = XM (ValueIdx.ix2 r (⟨98304 + k.val, by omega⟩ : Fin 100000)) := by
  refine congrArg XM ?_
  funext a; apply Fin.ext
  match a with
  | ⟨0, _⟩ => show 0 + 1 * r.val = r.val; omega
  | ⟨1, _⟩ => show 98304 + 1 * k.val = 98304 + k.val; omega
theorem gTail_at (k : Fin 1696) : gTail c XG (ValueIdx.ix2 r k) = XG (ValueIdx.ix2 r (⟨98304 + k.val, by omega⟩ : Fin 100000)) := by
  refine congrArg XG ?_
  funext a; apply Fin.ext
  match a with
  | ⟨0, _⟩ => show 0 + 1 * r.val = r.val; omega
  | ⟨1, _⟩ => show 98304 + 1 * k.val = 98304 + k.val; omega

include hh hw in
theorem lgBlk_at (b : Fin 48) (k : Fin 2048) : lgBlk c XW arg0 g0 b (ValueIdx.ix2 r k) = ((logit h w (2048 * b.val + k.val) : ℝ) : EReal) := by
  refine Eq.trans (b := ((matmul dot_S128x256_S256x2048_S128x2048_1_0_0_1_n_n none (hDat0 c arg0 g0) (shapeCast S256x2048 (wDat c XW 0 b) shapeCasts_S1x256x2048_S256x2048) (constant S128x2048 .f32 0#32) (ValueIdx.ix2 r k) : EReal)
      + (matmul dot_S128x256_S256x2048_S128x2048_1_0_0_1_n_n none (hDat1 c arg0 g0) (shapeCast S256x2048 (wDat c XW 1 b) shapeCasts_S1x256x2048_S256x2048) (constant S128x2048 .f32 0#32) (ValueIdx.ix2 r k) : EReal)
      + (matmul dot_S128x256_S256x2048_S128x2048_1_0_0_1_n_n none (hDat2 c arg0 g0) (shapeCast S256x2048 (wDat c XW 2 b) shapeCasts_S1x256x2048_S256x2048) (constant S128x2048 .f32 0#32) (ValueIdx.ix2 r k) : EReal)
      + (matmul dot_S128x256_S256x2048_S128x2048_1_0_0_1_n_n none (hDat3 c arg0 g0) (shapeCast S256x2048 (wDat c XW 3 b) shapeCasts_S1x256x2048_S256x2048) (constant S128x2048 .f32 0#32) (ValueIdx.ix2 r k) : EReal))) rfl ?_
  rw [mmB_at, mmB_at, mmB_at, mmB_at,
    dot_coe _ _ (fun d => h (256 * 0 + d)) (fun d => w (256 * 0 + d) (2048 * b.val + k.val)) (hDat0_at c arg0 g0 r h hh) (fun d => wDat_at c XW w hw 0 b d k),
    dot_coe _ _ (fun d => h (256 * 1 + d)) (fun d => w (256 * 1 + d) (2048 * b.val + k.val)) (hDat1_at c arg0 g0 r h hh) (fun d => wDat_at c XW w hw 1 b d k),
    dot_coe _ _ (fun d => h (256 * 2 + d)) (fun d => w (256 * 2 + d) (2048 * b.val + k.val)) (hDat2_at c arg0 g0 r h hh) (fun d => wDat_at c XW w hw 2 b d k),
    dot_coe _ _ (fun d => h (256 * 3 + d)) (fun d => w (256 * 3 + d) (2048 * b.val + k.val)) (hDat3_at c arg0 g0 r h hh) (fun d => wDat_at c XW w hw 3 b d k)]
  exact logit_four h w _

include hh hw in
theorem lgTail_at (k : Fin 1696) : lgTail c XW arg0 g0 (ValueIdx.ix2 r k) = ((logit h w (98304 + k.val) : ℝ) : EReal) := by
  refine Eq.trans (b := ((matmul dot_S128x256_S256x1696_S128x1696_1_0_0_1_n_n none (hDat0 c arg0 g0) (wTail c XW 0) (constant S128x1696 .f32 0#32) (ValueIdx.ix2 r k) : EReal)
      + (matmul dot_S128x256_S256x1696_S128x1696_1_0_0_1_n_n none (hDat1 c arg0 g0) (wTail c XW 1) (constant S128x1696 .f32 0#32) (ValueIdx.ix2 r k) : EReal)
      + (matmul dot_S128x256_S256x1696_S128x1696_1_0_0_1_n_n none (hDat2 c arg0 g0) (wTail c XW 2) (constant S128x1696 .f32 0#32) (ValueIdx.ix2 r k) : EReal)
      + (matmul dot_S128x256_S256x1696_S128x1696_1_0_0_1_n_n none (hDat3 c arg0 g0) (wTail c XW 3) (constant S128x1696 .f32 0#32) (ValueIdx.ix2 r k) : EReal))) rfl ?_
  rw [mmT_at, mmT_at, mmT_at, mmT_at,
    dot_coe _ _ (fun d => h (256 * 0 + d)) (fun d => w (256 * 0 + d) (98304 + k.val)) (hDat0_at c arg0 g0 r h hh) (fun d => wTail_at c XW w hw 0 d k),
    dot_coe _ _ (fun d => h (256 * 1 + d)) (fun d => w (256 * 1 + d) (98304 + k.val)) (hDat1_at c arg0 g0 r h hh) (fun d => wTail_at c XW w hw 1 d k),
    dot_coe _ _ (fun d => h (256 * 2 + d)) (fun d => w (256 * 2 + d) (98304 + k.val)) (hDat2_at c arg0 g0 r h hh) (fun d => wTail_at c XW w hw 2 d k),
    dot_coe _ _ (fun d => h (256 * 3 + d)) (fun d => w (256 * 3 + d) (98304 + k.val)) (hDat3_at c arg0 g0 r h hh) (fun d => wTail_at c XW w hw 3 d k)]
  exact logit_four h w _

theorem ne_bit (x : BitVec 32) : IntOp.cmpi .ne x 0#32 = if x ≠ 0#32 then 1#1 else 0#1 := by
  by_cases hx : x = 0#32
  · rw [if_neg (not_not.mpr hx), hx]; rfl
  · rw [if_pos hx]
    show BitVec.ofBool (x != 0#32) = 1#1
    rw [bne_iff_ne.mpr hx]; rfl

theorem add_ofNat (a b : ℕ) : IntOp.addi (BitVec.ofNat 32 a) (BitVec.ofNat 32 b) = BitVec.ofNat 32 (a + b) := (BitVec.ofNat_add a b).symm

/-- The statistics' start at a column. -/
theorem pay39_at (y : S128x8.Idx) (j : ℕ) (hy : (y 1).val = j) : k0_pay39 (F := Ideal) y
    = Scalar.select (IntOp.ori (IntOp.ori (IntOp.cmpi .eq (BitVec.ofNat 32 j) 0#32) (IntOp.cmpi .eq (BitVec.ofNat 32 j) 4#32))
        (IntOp.cmpi .eq (BitVec.ofNat 32 j) 6#32)) (FloatOps.ofBits .f32 0xFF800000#32 : Ideal .f32) (FloatOps.ofBits .f32 0#32) := by
  have h1 : iota .tc S128x8 32 [1] iota_S128x8_d1_w32 y = BitVec.ofNat 32 j := by
    show BitVec.ofNat 32 (0 * 8 + (y 1).val) = _
    rw [hy]; congr 1; omega
  rw [← h1]
  unfold k0_pay39
  refine (congrFun (shapeCast_self _ shapeCasts_S128x8_S128x8) y).trans ?_
  rfl

theorem start_inf (y : S128x8.Idx) (j : ℕ) (hj : j = 0 ∨ j = 4 ∨ j = 6) (hy : (y 1).val = j) : k0_pay39 (F := Ideal) y = (⊥ : EReal) := by
  rw [pay39_at y j hy]
  rcases hj with rfl | rfl | rfl <;> exact ofBits_negInf
theorem start_zero (y : S128x8.Idx) (j : ℕ) (hj : j = 1 ∨ j = 2 ∨ j = 3) (hy : (y 1).val = j) : k0_pay39 (F := Ideal) y = (0 : EReal) := by
  rw [pay39_at y j hy]
  rcases hj with rfl | rfl | rfl <;> exact ofBits_zero

/-- The columns at the start. -/
theorem st0_row (K : ℕ → Prop) (X L : ℕ → ℝ) : RowInv K X L 0 (st0 (F := Ideal)) r :=
  ⟨.inl ⟨rfl, start_inf _ 0 (by decide) rfl, start_zero _ 1 (by decide) rfl, start_zero _ 2 (by decide) rfl, start_zero _ 3 (by decide) rfl⟩,
    .inl ⟨fun c hc => absurd hc (Nat.not_lt_zero c), start_inf _ 4 (by decide) rfl⟩,
    .inl ⟨fun c hc => absurd hc (Nat.not_lt_zero c), start_inf _ 6 (by decide) rfl⟩⟩

include hh hw hM hG in
theorem stRec_row (k : ℕ) (hk : k ≤ 48) : RowInv K (fun c => logit h w c + G c) (logit h w) (2048 * k) (stRec c XW XM XG arg0 g0 st0 k) r := by
  induction k with
  | zero => exact st0_row r K _ _
  | succ k ih =>
    have hb : (Ring.bk 48 k).val = k := Nat.mod_eq_of_lt (by omega)
    have step := accum_row broadcasts_S128x1_S128x2048 reduces_S128x2048_S128 r (2048 * k) (by decide) (by omega)
      (lgBlk c XW arg0 g0 (Ring.bk 48 k)) (gDat c XG (Ring.bk 48 k)) (mbOf (mDat c XM (Ring.bk 48 k))) (gidxOf (wB k)) K G (logit h w)
      (stRec c XW XM XG arg0 g0 st0 k)
      (fun j => by have := lgBlk_at c XW arg0 g0 r h w hh hw (Ring.bk 48 k) j; rw [hb] at this; exact this)
      (fun j => by
        refine (gDat_at c XG r (Ring.bk 48 k) j).trans ((hG _).trans ?_)
        show ((G (2048 * (Ring.bk 48 k).val + j.val) : ℝ) : EReal) = _
        rw [hb])
      (fun j => by
        refine (ne_bit _).trans (if_congr ?_ rfl rfl)
        rw [mDat_at c XM r (Ring.bk 48 k) j, ← hM]
        show K (2048 * (Ring.bk 48 k).val + j.val) ↔ K (2048 * k + j.val)
        rw [hb])
      (fun j => by
        show IntOp.addi (IntOp.muli (BitVec.ofNat 32 k) 2048#32) (BitVec.ofNat 32 (0 * 2048 + j.val)) = _
        rw [show IntOp.muli (BitVec.ofNat 32 k) 2048#32 = BitVec.ofNat 32 (2048 * k) from by rw [Nat.mul_comm]; exact (BitVec.ofNat_mul k 2048).symm, add_ofNat]
        congr 1; omega)
      (ih (by omega))
    rw [show 2048 * (k + 1) = 2048 * k + 2048 by ring]
    exact step

include hh hw hM hG in
/-- The record the kernel ends with, at the row. -/
theorem stEnd_row : RowInv K (fun c => logit h w c + G c) (logit h w) 100000 (stEnd c XW XM XG arg0 g0) r := by
  have step := accum_row broadcasts_S128x1_S128x1696 reduces_S128x1696_S128 r 98304 (by decide) (by decide)
    (lgTail c XW arg0 g0) (gTail c XG) (mbTail (mTail c XM)) gidxTail K G (logit h w) (stRec c XW XM XG arg0 g0 st0 48)
    (lgTail_at c XW arg0 g0 r h w hh hw)
    (fun j => (gTail_at c XG r j).trans (hG _))
    (fun j => by
      refine (ne_bit _).trans (if_congr ?_ rfl rfl)
      rw [mTail_at c XM r j, ← hM])
    (fun j => by
      show IntOp.addi (BitVec.ofNat 32 98304) (BitVec.ofNat 32 (0 * 1696 + j.val)) = _
      rw [add_ofNat]; congr 1; omega)
    (stRec_row c XW XM XG arg0 g0 r h w G K hh hw hM hG 48 le_rfl)
  exact step

end Data

end Cert.Proof.Ideal

end
-- ==== Proof.Results.lean ====
/-
  Where the run's results come from: the two arrays the call writes are what the body leaves, and the host's lines
  before and after it only re-index.
-/
module

public import proofs.«01_k».proof.Proof.Args
public import Idealize.ShloMosaic.Lib.Pipeline.ValueKit

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The call's one point. -/
abbrev pt : Fin cfg0.N := ⟨0, by decide⟩

theorem arr1 (c : Dev nD) : (dats m 0 c).arrAt 1 cfg0.N = outF (endAt m c pt) := by
  refine (dats m 0 c).arrAt_eq_of_after_last 1 pt (by decide +kernel) _ fun j => ?_
  rfl

theorem arr2 (c : Dev nD) : (dats m 0 c).arrAt 2 cfg0.N = outI (endAt m c pt) := by
  refine (dats m 0 c).arrAt_eq_of_after_last 2 pt (by decide +kernel) _ fun j => ?_
  rfl

theorem tail_v5 (W : Valuation τ sig (Elt F)) : StableHlo.after hostOps1 W (Proc.devRef .tc main_v5)
    = shapeCast S32x4 (W (Proc.devRef .tc main_v4_0) : Vec F S128x1 .f32) shapeCasts_S128x1_S32x4 := by
  simp only [hostOps1, StableHlo.after_cons, StableHlo.after_nil]; rfl

theorem tail_v6 (W : Valuation τ sig (Elt F)) : StableHlo.after hostOps1 W (Proc.devRef .tc main_v6)
    = shapeCast S32x4 (W (Proc.devRef .tc main_v4_1) : Vec F S128x1 .i32) shapeCasts_S128x1_S32x4 := by
  simp only [hostOps1, StableHlo.after_cons, StableHlo.after_nil]; rfl

theorem end_v5 (c : Dev nD) : Pipeline.afterTail₀ cfgs (dats m) 0 (V0 m) [hostOps1] c main_v5
    = shapeCast S32x4 (outF (endAt m c pt)) shapeCasts_S128x1_S32x4 := by
  unfold Pipeline.afterTail₀
  rw [List.flatten_cons, List.flatten_nil, List.append_nil]
  refine (tail_v5 _).trans ?_
  congr 1
  refine (Pipeline.withArrays_arr spec0 (by decide) c (V0 m c) _ 1).trans ?_
  exact arr1 m c

theorem end_v6 (c : Dev nD) : Pipeline.afterTail₀ cfgs (dats m) 0 (V0 m) [hostOps1] c main_v6
    = shapeCast S32x4 (outI (endAt m c pt)) shapeCasts_S128x1_S32x4 := by
  unfold Pipeline.afterTail₀
  rw [List.flatten_cons, List.flatten_nil, List.append_nil]
  refine (tail_v6 _).trans ?_
  congr 1
  refine (Pipeline.withArrays_arr spec0 (by decide) c (V0 m c) _ 2).trans ?_
  exact arr2 m c

/-- The two results in a final state. -/
theorem results_of {r : _} (c : Dev nD)
    (h : Pipeline.FramePost cfgs (dats m) 0 (Pipeline.afterTail₀ cfgs (dats m) 0 (V0 m) [hostOps1]) r) :
    r.2.mem ((c.tc : Thread nD τ).loc main_v5) = shapeCast S32x4 (outF (endAt m c pt)) shapeCasts_S128x1_S32x4
      ∧ r.2.mem ((c.tc : Thread nD τ).loc main_v6) = shapeCast S32x4 (outI (endAt m c pt)) shapeCasts_S128x1_S32x4 :=
  ⟨((h c).2 main_v5 (Pipeline.mem_restRefs_of main_v5 (by decide) (by decide))).trans (end_v5 m c),
    ((h c).2 main_v6 (Pipeline.mem_restRefs_of main_v6 (by decide) (by decide))).trans (end_v6 m c)⟩

theorem V_v0 (c : Dev nD) : V m c main_v0 = shapeCast S128x1024 (m ((c.tc : Thread nD τ).loc main_arg0) : Vec F S32x4x1024 .f32) shapeCasts_S32x4x1024_S128x1024 := by
  simp only [V, V0, hostOps0, List.flatten_cons, List.flatten_nil, List.append_nil, StableHlo.after_cons, StableHlo.after_nil]; rfl
theorem V_v1 (c : Dev nD) : V m c main_v1 = shapeCast S128x100000 (m ((c.tc : Thread nD τ).loc main_arg2) : Vec F S32x4x100000 .i32) shapeCasts_S32x4x100000_S128x100000 := by
  simp only [V, V0, hostOps0, List.flatten_cons, List.flatten_nil, List.append_nil, StableHlo.after_cons, StableHlo.after_nil]; rfl
theorem V_v2 (c : Dev nD) : V m c main_v2 = shapeCast S128x100000 (m ((c.tc : Thread nD τ).loc main_arg3) : Vec F S32x4x100000 .f32) shapeCasts_S32x4x100000_S128x100000 := by
  simp only [V, V0, hostOps0, List.flatten_cons, List.flatten_nil, List.append_nil, StableHlo.after_cons, StableHlo.after_nil]; rfl
theorem V_v3 (c : Dev nD) : V m c main_v3 = shapeCast S4x256x100000 (m ((c.tc : Thread nD τ).loc main_arg1) : Vec F S1024x100000 .f32) shapeCasts_S1024x100000_S4x256x100000 := by
  simp only [V, V0, hostOps0, List.flatten_cons, List.flatten_nil, List.append_nil, StableHlo.after_cons, StableHlo.after_nil]; rfl

/-- The first operand's block is its whole array. -/
theorem blk0 (c : Dev nD) (t : Fin cfg0.N) : iblk m c 0 t = V m c main_v0 := by
  funext y
  unfold iblk
  rw [View.read_apply]
  have e : ((cfg0.win 0).blk t).view.emb y = y := by
    funext a
    exact Fin.ext (Pipeline.Window.rect_emb_val_of_index_zero (cfg0.win 0) t a rfl y)
  rw [e]
  rfl

end Cert.Proof.Ideal

end
-- ==== Proof.KernelVal.lean ====
/-
  The kernel's two results at a row, from the real numbers its arguments hold.
-/
module

public import proofs.«01_k».proof.Proof.RowEnd
public import proofs.«01_k».proof.Proof.Logits
public import proofs.«01_k».proof.Proof.Results

@[expose] public section

set_option maxRecDepth 16384

noncomputable section

namespace Cert.Proof.Ideal

open Cert.KernelIdeal Cert.KernelIdeal.Gen Cert.Proof.Rows
open Idealize.ShloMosaic
open Idealize.ShloMosaic.TcCoe

section
variable (m : (ℓ : Loc nD τ sig) → Buf (Elt Ideal) ℓ) (c : Dev nD)
  (h0 : Fin 32 → Fin 4 → Fin 1024 → ℝ) (w0 : Fin 1024 → Fin 100000 → ℝ) (g0 : Fin 32 → Fin 4 → Fin 100000 → ℝ)
  (k0 : Fin 32 → Fin 4 → Fin 100000 → Prop)
  (hh : ∀ b t d, m ((c.tc : Thread nD τ).loc main_arg0) (ValueIdx.ix3 b t d) = ((h0 b t d : ℝ) : EReal))
  (hw : ∀ d k, m ((c.tc : Thread nD τ).loc main_arg1) (ValueIdx.ix2 d k) = ((w0 d k : ℝ) : EReal))
  (hk : ∀ b t d, k0 b t d ↔ m ((c.tc : Thread nD τ).loc main_arg2) (ValueIdx.ix3 b t d) ≠ 0#32)
  (hg : ∀ b t d, m ((c.tc : Thread nD τ).loc main_arg3) (ValueIdx.ix3 b t d) = ((g0 b t d : ℝ) : EReal))

abbrev rowOf (b : Fin 32) (t : Fin 4) : Fin 128 := ⟨4 * b.val + t.val, by omega⟩

theorem out_cast {α : Type} (v : S128x1.Idx → α) (b : Fin 32) (t : Fin 4) :
    shapeCast S32x4 v shapeCasts_S128x1_S32x4 (ValueIdx.ix2 b t) = v (at1 (rowOf b t)) := by
  refine shapeCast_apply v _ _ _ ?_
  rw [Shape.rowMajor_val_two, Shape.rowMajor_val_two]
  show (4 * b.val + t.val) * 1 + 0 = b.val * 4 + t.val
  omega

theorem h_cast {α : Type} (v : S32x4x1024.Idx → α) (b : Fin 32) (t : Fin 4) (d : Fin 1024) :
    shapeCast S128x1024 v shapeCasts_S32x4x1024_S128x1024 (ValueIdx.ix2 (rowOf b t) d) = v (ValueIdx.ix3 b t d) := by
  refine shapeCast_apply v _ _ _ ?_
  rw [Shape.rowMajor_val_three, Shape.rowMajor_val_two]
  show (b.val * 4 + t.val) * 1024 + d.val = (4 * b.val + t.val) * 1024 + d.val
  omega

theorem m_cast {α : Type} (v : S32x4x100000.Idx → α) (b : Fin 32) (t : Fin 4) (d : Fin 100000) :
    shapeCast S128x100000 v shapeCasts_S32x4x100000_S128x100000 (ValueIdx.ix2 (rowOf b t) d) = v (ValueIdx.ix3 b t d) := by
  refine shapeCast_apply v _ _ _ ?_
  rw [Shape.rowMajor_val_three, Shape.rowMajor_val_two]
  show (b.val * 4 + t.val) * 100000 + d.val = (4 * b.val + t.val) * 100000 + d.val
  omega

theorem w_cast {α : Type} (v : S1024x100000.Idx → α) (i : Fin 4) (d : Fin 256) (k : Fin 100000) :
    shapeCast S4x256x100000 v shapeCasts_S1024x100000_S4x256x100000 (ValueIdx.ix3 i d k)
      = v (ValueIdx.ix2 (⟨256 * i.val + d.val, by omega⟩ : Fin 1024) k) := by
  refine shapeCast_apply v _ _ _ ?_
  rw [Shape.rowMajor_val_three, Shape.rowMajor_val_two]
  show (256 * i.val + d.val) * 100000 + k.val = (i.val * 256 + d.val) * 100000 + k.val
  omega

include hh hw hk hg in
theorem kernel_row (b : Fin 32) (t : Fin 4) :
    Out 100000 (extP (k0 b t)) (logit (ext (h0 b t)) (ext2 w0)) (ext (g0 b t))
      (shapeCast S32x4 (outF (endAt m c pt)) shapeCasts_S128x1_S32x4 (ValueIdx.ix2 b t))
      (shapeCast S32x4 (outI (endAt m c pt)) shapeCasts_S128x1_S32x4 (ValueIdx.ix2 b t)) := by
  rw [out_cast, out_cast]
  refine row_out _ _ _ _ _ ?_
  unfold endAt
  refine stEnd_row c (V m c main_v3) (V m c main_v1) (V m c main_v2) (st0_0 pt) _ (rowOf b t) _ _ _ _ ?_ ?_ ?_ ?_
  · intro d
    rw [View.read_rep, blk0, V_v0]
    refine (h_cast _ b t d).trans ((hh b t d).trans ?_)
    rw [ext_val]
  · intro i d k
    rw [V_v3]
    refine (w_cast _ i d k).trans ((hw _ k).trans ?_)
    exact congrArg _ (ext2_val w0 (⟨256 * i.val + d.val, by omega⟩ : Fin 1024) k).symm
  · intro k
    rw [extP_val, hk, V_v1]
    exact iff_of_eq (congrArg (fun z => z ≠ 0#32) (m_cast _ b t k).symm)
  · intro k
    rw [V_v2]
    refine (m_cast _ b t k).trans ((hg b t k).trans ?_)
    rw [ext_val]
end

end Cert.Proof.Ideal

end
-- ==== Proof.RefFn.lean ====
/-
  The reference's two results as functions of its arguments.
-/
module

public import proofs.«01_k».proof.Proof.Reference

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

def logits (a0 : FVec F S32x4x1024 .f32) (a1 : FVec F S1024x100000 .f32) : FVec F S32x4x100000 .f32 :=
  Host.dotGeneral dot_S32x4x1024_S1024x100000_S32x4x100000_2_0_01_1_n_n none a0 a1
def maxOf (x : FVec F S32x4x100000 .f32) : FVec F S32x4 .f32 :=
  maximumf (broadcastInDim S32x4 ![] bcast_S_S32x4 (constant S_ .f32 0xFF800000#32))
    (Host.reduce FloatOps.maximumf x (constant S_ .f32 0xFF800000#32) reducesTo_S32x4x100000_S32x4_d2 h_S_)
def spread {α : Type} (v : S32x4.Idx → α) : S32x4x100000.Idx → α :=
  broadcastInDim S32x4x100000 ![0, 1, 2] bcast_S32x4x1_S32x4x100000_0_1_2 (broadcastInDim S32x4x1 ![0, 1] bcast_S32x4_S32x4x1_0_1 v)
def same {α : Type} (v : S_.Idx → α) : S32x4x100000.Idx → α := broadcastInDim S32x4x100000 ![] bcast_S_S32x4x100000 v
def expOf (x : FVec F S32x4x100000 .f32) : FVec F S32x4x100000 .f32 := Host.exp (subf x (spread (maxOf x)))
def sumOf (x : FVec F S32x4x100000 .f32) : FVec F S32x4 .f32 :=
  Host.reduceAdd x (constant S_ .f32 0x00000000#32) reducesTo_S32x4x100000_S32x4_d2 h_S_
def ratio (x : FVec F S32x4x100000 .f32) : FVec F S32x4x100000 .f32 := Host.divf x (spread (sumOf x))
def allZero (a2 : IVec S32x4x100000 32) : IVec S32x4 1 :=
  Host.reduce IntOp.andi (cmpf .oeq (sitofp (F := F) .f32 a2) (same (constant S_ .f32 0x00000000#32))) (constantI S_ 1 1#1) reducesTo_S32x4x100000_S32x4_d2 h_S_
def weight (a2 : IVec S32x4x100000 32) : FVec F S32x4x100000 .f32 :=
  select (spread (allZero (F := F) a2)) (same (constant S_ .f32 0x3F800000#32)) (sitofp .f32 a2)
def raw (p w : FVec F S32x4x100000 .f32) : FVec F S32x4x100000 .f32 := mulf (addf p (same (constant S_ .f32 0x283424DC#32))) w
def score (d g : FVec F S32x4x100000 .f32) : FVec F S32x4x100000 .f32 := addf (Host.log d) g
/-- The second of a pair, kept folded. -/
def second {α β : Type} (p : α × β) : β := p.2
def amax (x : FVec F S32x4x100000 .f32) : IVec S32x4 32 := fun j =>
  second (Host.argReduce reducer_argmax_f32_i32 x (iotaInDim S32x4x100000 32 2) (constant S_ .f32 0xFF800000#32) (constantI S_ 32 0#32) reducesTo_S32x4x100000_S32x4_d2 h_S_ j)
def place (a : IVec S32x4 32) : IVec S32x4x1x1 32 :=
  let e : IVec S32x4x1 32 := broadcastInDim S32x4x1 ![0, 1] bcast_S32x4_S32x4x1_0_1 a
  shapeCast S32x4x1x1 (select (cmpi .slt e (broadcastInDim S32x4x1 ![] bcast_S_S32x4x1 (constantI S_ 32 0#32)))
    (addi e (broadcastInDim S32x4x1 ![] bcast_S_S32x4x1 (constantI S_ 32 100000#32))) e) shapeCasts_S32x4x1_S32x4x1x1
def inside (q : IVec S32x4x1x1 32) : IVec S32x4x1 1 :=
  Host.reduce IntOp.andi (andi (cmpi .sge q (broadcastInDim S32x4x1x1 ![] bcast_S_S32x4x1x1 (constantI S_ 32 0#32)))
    (cmpi .sle q (broadcastInDim S32x4x1x1 ![0, 1, 2, 3] bcast_S1x1x1x1_S32x4x1x1_0_1_2_3 (broadcastInDim S1x1x1x1 ![3] bcast_S1_S1x1x1x1_3 (constantI S1 32 99999#32)))))
    (constantI S_ 1 1#1) reducesTo_S32x4x1x1_S32x4x1_d3 h_S_
def pick (d : FVec F S32x4x100000 .f32) (a : IVec S32x4 32) : FVec F S32x4 .f32 :=
  shapeCast S32x4 (select (inside (place a)) (Host.gather gather_S32x4x100000_S32x4x1x1_S32x4x1_n_2_01_01_2_3_111 d (place a))
    (broadcastInDim S32x4x1 ![] bcast_S_S32x4x1 (constant S_ .f32 0x7FC00000#32))) shapeCasts_S32x4x1_S32x4

def prob (a0 : FVec F S32x4x1024 .f32) (a1 : FVec F S1024x100000 .f32) : FVec F S32x4x100000 .f32 := ratio (expOf (logits a0 a1))
def dist (a0 : FVec F S32x4x1024 .f32) (a1 : FVec F S1024x100000 .f32) (a2 : IVec S32x4x100000 32) : FVec F S32x4x100000 .f32 :=
  ratio (raw (prob a0 a1) (weight a2))

theorem after_split (n : ℕ) (l : List (HloOp τ sig (Elt F))) (V : Valuation τ sig (Elt F)) :
    after l V = after (l.drop n) (after (l.take n) V) := by
  induction n generalizing l V with
  | zero => rfl
  | succ n ih =>
    cases l with
    | nil => rfl
    | cons o l => exact ih l _

end Cert.Proof.Ref

end
-- ==== Proof.RefRun.lean ====
/-
  The run's two results are those functions.
-/
module

public import proofs.«01_k».proof.Proof.RefFn
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

theorem second_same {s t u : Shape} {axes : List (Fin s.rank)} (f : F .f32 × BitVec 32 → F .f32 × BitVec 32 → F .f32 × BitVec 32)
    (x : FVec F s .f32) (y : s.Idx → BitVec 32) (zx : u.Idx → F .f32) (zy : u.Idx → BitVec 32) (h : s.ReducesTo axes t) (hu : 0 < u.numel) :
    (fun j => (Host.argReduce f x y zx zy h hu j).2) = fun j => second (Host.argReduce f x y zx zy h hu j) := rfl

section
variable (V : Valuation τ sig (Elt F))

set_option maxHeartbeats 2000000

theorem sA : after (ops.take 15) V (main_v11 : DevRef τ sig) = prob (V (main_arg0 : DevRef τ sig)) (V (main_arg1 : DevRef τ sig)) := by
  after_reads_simp; try rfl
theorem sA2 : after (ops.take 15) V (main_arg2 : DevRef τ sig) = V (main_arg2 : DevRef τ sig) := by
  after_reads_simp; try rfl
theorem sA3 : after (ops.take 15) V (main_arg3 : DevRef τ sig) = V (main_arg3 : DevRef τ sig) := by
  after_reads_simp; try rfl
theorem sBa : after ((ops.drop 15).take 9) V (main_v16 : DevRef τ sig) = broadcastInDim S32x4x1 ![0, 1] bcast_S32x4_S32x4x1_0_1 (allZero (F := F) (V (main_arg2 : DevRef τ sig))) := by
  after_reads_simp; rfl
theorem sBb : after ((ops.drop 15).take 9) V (main_v17 : DevRef τ sig) = same (constant (F := F) S_ .f32 0x3F800000#32) := by
  after_reads_simp; rfl
theorem sBc : after ((ops.drop 15).take 9) V (main_v12 : DevRef τ sig) = sitofp (F := F) .f32 (V (main_arg2 : DevRef τ sig)) := by
  after_reads_simp
theorem sBd : after (((ops.drop 15).take 11).drop 9) V (main_v18 : DevRef τ sig)
    = select (broadcastInDim S32x4x100000 ![0, 1, 2] bcast_S32x4x1_S32x4x100000_0_1_2 (V (main_v16 : DevRef τ sig))) (V (main_v17 : DevRef τ sig)) (V (main_v12 : DevRef τ sig)) := by
  after_reads_simp
  generalize V (main_v16 : DevRef τ sig) = x
  generalize V (main_v17 : DevRef τ sig) = y
  generalize V (main_v12 : DevRef τ sig) = z
  rfl
theorem sB : after ((ops.drop 15).take 11) V (main_v18 : DevRef τ sig) = weight (F := F) (V (main_arg2 : DevRef τ sig)) := by
  rw [after_split 9 ((ops.drop 15).take 11), sBd, List.take_take, show min 9 11 = 9 from rfl, sBa, sBb, sBc]
  unfold weight spread; rfl
theorem sB1 : after ((ops.drop 15).take 11) V (main_v11 : DevRef τ sig) = V (main_v11 : DevRef τ sig) := by
  after_reads_simp; try rfl
theorem sB3 : after ((ops.drop 15).take 11) V (main_arg3 : DevRef τ sig) = V (main_arg3 : DevRef τ sig) := by
  after_reads_simp; try rfl
theorem sC : after ((ops.drop 26).take 9) V (main_v25 : DevRef τ sig) = ratio (raw (V (main_v11 : DevRef τ sig)) (V (main_v18 : DevRef τ sig))) := by
  after_reads_simp; try rfl
theorem sC3 : after ((ops.drop 26).take 9) V (main_arg3 : DevRef τ sig) = V (main_arg3 : DevRef τ sig) := by
  after_reads_simp; try rfl
theorem sD : after ((ops.drop 35).take 7) V (main_v28 : DevRef τ sig) = amax (score (V (main_v25 : DevRef τ sig)) (V (main_arg3 : DevRef τ sig))) := by
  after_reads_simp
  exact second_same _ _ _ _ _ _ _
theorem sD5 : after ((ops.drop 35).take 7) V (main_v25 : DevRef τ sig) = V (main_v25 : DevRef τ sig) := by
  after_reads_simp; try rfl
theorem sE : after (ops.drop 42) V (main_v31 : DevRef τ sig) = pick (V (main_v25 : DevRef τ sig)) (V (main_v28 : DevRef τ sig)) := by
  after_reads_simp; try rfl
theorem sE8 : after (ops.drop 42) V (main_v28 : DevRef τ sig) = V (main_v28 : DevRef τ sig) := by
  after_reads_simp; try rfl

theorem all_split : after ops V = after (ops.drop 42) (after ((ops.drop 35).take 7) (after ((ops.drop 26).take 9) (after ((ops.drop 15).take 11) (after (ops.take 15) V)))) := by
  rw [after_split 15 ops, after_split 11 (ops.drop 15), List.drop_drop, after_split 9 (ops.drop (15 + 11)), List.drop_drop, after_split 7 (ops.drop (15 + 11 + 9)), List.drop_drop]

abbrev distV := dist (V (main_arg0 : DevRef τ sig)) (V (main_arg1 : DevRef τ sig)) (V (main_arg2 : DevRef τ sig))

theorem val_v28 : after ops V (main_v28 : DevRef τ sig) = amax (score (distV V) (V (main_arg3 : DevRef τ sig))) := by
  rw [all_split, sE8, sD, sC, sC3, sB, sB1, sB3, sA, sA2, sA3]; rfl
theorem val_v31 : after ops V (main_v31 : DevRef τ sig) = pick (distV V) (amax (score (distV V) (V (main_arg3 : DevRef τ sig)))) := by
  rw [all_split, sE, sD5, sD, sC, sC3, sB, sB1, sB3, sA, sA2, sA3]; rfl
end

end Cert.Proof.Ref

end
-- ==== Proof.RefAt.lean ====
/-
  The reference's operations read at one place of their results, on the extended reals.
-/
module

public import proofs.«01_k».proof.Proof.RefFn
public import Idealize.ShloMosaic.Lib.ValueIdx
public import Idealize.ShloMosaic.Lib.Pipeline.Value
public import Idealize.ShloMosaic.Lib.IdealHost
public import Idealize.ShloMosaic.Lib.KernelVsHost
public import Idealize.ShloMosaic.Lib.Pointwise.Contract
public import Idealize.ShloMosaic.Lib.Pointwise.Reduce

@[expose] public section

set_option maxRecDepth 16384

noncomputable section

namespace Cert.Proof.Ref

open Cert.ReferenceIdeal Cert.ReferenceIdeal.Gen
open Idealize.ShloMosaic

abbrev j2 (b : Fin 32) (t : Fin 4) : S32x4.Idx := ValueIdx.ix2 b t
abbrev j3 (b : Fin 32) (t : Fin 4) (k : Fin 100000) : S32x4x100000.Idx := ValueIdx.ix3 b t k

theorem lib_ix3 (b : Fin 32) (t : Fin 4) (k : Fin 100000) : Idealize.ShloMosaic.ix3 b t k = j3 b t k := by
  funext a; match a with | ⟨0, _⟩ => rfl | ⟨1, _⟩ => rfl | ⟨2, _⟩ => rfl

theorem same_at {α : Type} (v : S_.Idx → α) (i : S32x4x100000.Idx) : same v i = v (Shape.Idx.first h_S_) := by
  unfold same broadcastInDim; exact congrArg v (funext fun a => a.elim0)

theorem spread_at {α : Type} (v : S32x4.Idx → α) (b : Fin 32) (t : Fin 4) (k : Fin 100000) : spread v (j3 b t k) = v (j2 b t) := by
  unfold spread
  refine (broadcastInDim_apply _ _ _ (j3 b t k) (ValueIdx.ix3 b t (0 : Fin 1) : S32x4x1.Idx) fun a => ?_).trans
    (broadcastInDim_apply _ _ _ _ (j2 b t) fun a => ?_)
  · match a with | ⟨0, _⟩ => rfl | ⟨1, _⟩ => rfl | ⟨2, _⟩ => rfl
  · match a with | ⟨0, _⟩ => rfl | ⟨1, _⟩ => rfl

theorem sumOf_at (x : FVec Ideal S32x4x100000 .f32) (b : Fin 32) (t : Fin 4) :
    sumOf x (j2 b t) = ∑ k : Fin 100000, (x (j3 b t k) : EReal) := by
  unfold sumOf
  refine (Ideal.hostReduceAdd_r3_a2 reducesTo_S32x4x100000_S32x4_d2 x (FloatOps.ofBits .f32 0#32 : Ideal .f32) (j2 b t)).trans ?_
  rw [show (FloatOps.ofBits .f32 0#32 : Ideal .f32) = (0 : EReal) from Ideal.ofBits_zero_f32]
  refine (zero_add _).trans (Finset.sum_congr rfl fun k _ => congrArg x ?_)
  exact lib_ix3 b t k

theorem fold_at {α : Type} (f : α → α → α) [Std.Commutative f] [Std.Associative f] (x : S32x4x100000.Idx → α) (v : S_.Idx → α) (b : Fin 32) (t : Fin 4) :
    Host.reduce f x v reducesTo_S32x4x100000_S32x4_d2 h_S_ (j2 b t)
      = Finset.univ.fold f (v (Shape.Idx.first h_S_)) fun k : Fin 100000 => x (j3 b t k) := by
  rw [Host.reduce_eq_fold]
  refine (Shape.ReducesTo.fold_fiber_r3_a2 reducesTo_S32x4x100000_S32x4_d2 (j2 b t) f _ x).trans ?_
  refine congrArg (fun g : Fin 100000 → α => Finset.univ.fold f (v (Shape.Idx.first h_S_)) g) (funext fun k => congrArg x ?_)
  exact lib_ix3 b t k

theorem fold_maxf {n : ℕ} (z : EReal) (f : Fin n → EReal) : Finset.univ.fold (FloatOps.maximumf (F := Ideal) (φ := .f32)) z f = Finset.univ.fold max z f := rfl

theorem bits_bot : (FloatOps.ofBits .f32 0xFF800000#32 : Ideal .f32) = (⊥ : EReal) := by
  show Ideal.ofBits .f32 0xFF800000#32 = ⊥
  simp [Ideal.ofBits, Ideal.ieee]

theorem const_bot (i : S_.Idx) : constant (F := Ideal) S_ .f32 0xFF800000#32 i = (⊥ : EReal) := bits_bot

theorem max_pt (z v : FVec Ideal S32x4 .f32) (i : S32x4.Idx) (h : z i = (⊥ : EReal)) : maximumf z v i = v i := by
  show max (z i : EReal) (v i) = v i
  rw [h]; exact max_eq_right bot_le

theorem maxOf_at (x : FVec Ideal S32x4x100000 .f32) (b : Fin 32) (t : Fin 4) :
    maxOf x (j2 b t) = Finset.univ.fold max (⊥ : EReal) fun k : Fin 100000 => (x (j3 b t k) : EReal) := by
  unfold maxOf
  rw [max_pt _ _ _ bits_bot, fold_at, const_bot]
  exact fold_maxf _ _

theorem fold_and {ι : Type} (s : Finset ι) (f : ι → BitVec 1) : s.fold IntOp.andi 1#1 f = 1#1 ↔ ∀ k ∈ s, f k = 1#1 := by
  classical
  induction s using Finset.induction with
  | empty => simp
  | insert a s ha ih =>
    rw [Finset.fold_insert ha]
    have e : ∀ x y : BitVec 1, IntOp.andi x y = 1#1 ↔ x = 1#1 ∧ y = 1#1 := by decide
    rw [e, ih, Finset.forall_mem_insert]

theorem allZero_at (a2 : IVec S32x4x100000 32) (b : Fin 32) (t : Fin 4) :
    allZero (F := Ideal) a2 (j2 b t) = 1#1 ↔ ∀ k : Fin 100000, (((a2 (j3 b t k)).toInt : ℝ) : EReal) = 0 := by
  unfold allZero
  rw [fold_at]
  refine (fold_and _ _).trans ⟨fun h k => ?_, fun h k _ => ?_⟩
  · have := h k (Finset.mem_univ k)
    rw [show cmpf (F := Ideal) .oeq (sitofp .f32 a2) (same (constant S_ .f32 0x00000000#32)) (j3 b t k)
      = BitVec.ofBool (decide ((((a2 (j3 b t k)).toInt : ℝ) : EReal) = (FloatOps.ofBits .f32 0#32 : Ideal .f32))) from rfl,
      show (FloatOps.ofBits .f32 0#32 : Ideal .f32) = (0 : EReal) from Ideal.ofBits_zero_f32] at this
    by_contra hn
    rw [decide_eq_false hn] at this
    exact absurd this (by decide)
  · rw [show cmpf (F := Ideal) .oeq (sitofp .f32 a2) (same (constant S_ .f32 0x00000000#32)) (j3 b t k)
      = BitVec.ofBool (decide ((((a2 (j3 b t k)).toInt : ℝ) : EReal) = (FloatOps.ofBits .f32 0#32 : Ideal .f32))) from rfl,
      show (FloatOps.ofBits .f32 0#32 : Ideal .f32) = (0 : EReal) from Ideal.ofBits_zero_f32, decide_eq_true (h k)]
    rfl

theorem logits_at (a0 : FVec Ideal S32x4x1024 .f32) (a1 : FVec Ideal S1024x100000 .f32) (b : Fin 32) (t : Fin 4) (k : Fin 100000) :
    logits a0 a1 (j3 b t k) = ∑ d : Fin 1024, (a0 (ValueIdx.ix3 b t d) : EReal) * a1 (ValueIdx.ix2 d k) := by
  unfold logits
  rw [← matmul_zero_eq_dotGeneral]
  refine (Ideal.matmul_apply₁_of (K := 1024) dot_S32x4x1024_S1024x100000_S32x4x100000_2_0_01_1_n_n rfl rfl a0 a1 (constant (F := Ideal) S32x4x100000 .f32 0#32) (j3 b t k)
    (fun d : Fin 1024 => ValueIdx.ix3 b t d) (fun d : Fin 1024 => ValueIdx.ix2 d k) ?_ ?_).trans ?_
  · intro d; funext a; match a with | ⟨0, _⟩ => rfl | ⟨1, _⟩ => rfl | ⟨2, _⟩ => rfl
  · intro d; funext a; match a with | ⟨0, _⟩ => rfl | ⟨1, _⟩ => rfl
  · show (FloatOps.ofBits .f32 0#32 : Ideal .f32) + _ = _
    rw [show (FloatOps.ofBits .f32 0#32 : Ideal .f32) = (0 : EReal) from Ideal.ofBits_zero_f32]; exact zero_add _

end Cert.Proof.Ref

end
-- ==== Proof.RefArg.lean ====
/-
  The reference's operations read at one place of their results, on the extended reals.
-/
module

public import proofs.«01_k».proof.Proof.RefFn
public import Idealize.ShloMosaic.Lib.ValueIdx
public import Idealize.ShloMosaic.Lib.Pipeline.Value
public import Idealize.ShloMosaic.Lib.IdealHost
public import Idealize.ShloMosaic.Lib.KernelVsHost
public import Idealize.ShloMosaic.Lib.Pointwise.Contract
public import Idealize.ShloMosaic.Lib.Pointwise.Reduce

@[expose] public section

set_option maxRecDepth 16384

noncomputable section

namespace Cert.Proof.Ref

open Cert.ReferenceIdeal Cert.ReferenceIdeal.Gen
open Idealize.ShloMosaic

/-! The greatest score's place. -/

/-- A pair that is `p`, or is beaten by it. -/
def Under (p q : EReal × BitVec 32) : Prop := q = p ∨ q.1 < p.1 ∨ (q.1 = p.1 ∧ p.2.slt q.2 = true)

theorem red_eq (a b : EReal × BitVec 32) : reducer_argmax_f32_i32 (F := Ideal) a b = if b.1 < a.1 ∨ (a.1 = b.1 ∧ a.2.slt b.2 = true) then a else b := by
  show ((Scalar.select (IntOp.ori (BitVec.ofBool (decide (b.1 < a.1))) (BitVec.ofBool (decide (a.1 ≠ a.1)))) a.1 b.1 : EReal),
    Scalar.select (IntOp.ori (IntOp.ori (BitVec.ofBool (decide (b.1 < a.1))) (BitVec.ofBool (decide (a.1 ≠ a.1))))
      (IntOp.andi (BitVec.ofBool (decide (a.1 = b.1))) (BitVec.ofBool (a.2.slt b.2)))) a.2 b.2) = _
  rw [decide_eq_false (show ¬ a.1 ≠ a.1 from fun h => h rfl)]
  obtain ⟨a1, a2⟩ := a
  obtain ⟨b1, b2⟩ := b
  dsimp only
  by_cases h1 : b1 < a1
  · rw [if_pos (.inl h1), decide_eq_true h1, decide_eq_false h1.ne']; cases a2.slt b2 <;> rfl
  · by_cases h2 : a1 = b1
    · subst h2
      rw [decide_eq_false h1, decide_eq_true rfl]
      by_cases h3 : a2.slt b2 = true
      · rw [if_pos (.inr ⟨rfl, h3⟩), h3]; rfl
      · rw [if_neg (by rintro (h | ⟨-, h⟩); exacts [h1 h, h3 h]), Bool.eq_false_iff.mpr h3]; rfl
    · rw [if_neg (by rintro (h | ⟨h, -⟩); exacts [h1 h, h2 h]), decide_eq_false h1, decide_eq_false h2]
      cases a2.slt b2 <;> rfl

theorem slt_irrefl (x : BitVec 32) : x.slt x = false := by
  rw [BitVec.slt_eq_decide]; exact decide_eq_false (lt_irrefl _)

theorem slt_asymm (x y : BitVec 32) (h : x.slt y = true) : y.slt x = false := by
  rw [BitVec.slt_eq_decide] at *; exact decide_eq_false (not_lt.mpr (of_decide_eq_true h).le)

theorem red_left {p q : EReal × BitVec 32} (h : Under p q) : reducer_argmax_f32_i32 (F := Ideal) p q = p := by
  rw [red_eq]
  rcases h with rfl | h | ⟨h, h'⟩
  · exact ite_self _
  · exact if_pos (.inl h)
  · exact if_pos (.inr ⟨h.symm, h'⟩)

theorem red_right {p q : EReal × BitVec 32} (h : Under p q) : reducer_argmax_f32_i32 (F := Ideal) q p = p := by
  rw [red_eq]
  rcases h with rfl | h | ⟨h, h'⟩
  · exact ite_self _
  · exact if_neg (by rintro (h' | ⟨h', -⟩); exacts [lt_asymm h h', h.ne h'])
  · exact if_neg (by
      rintro (h2 | ⟨-, h2⟩)
      · exact h2.ne' h
      · rw [slt_asymm _ _ h'] at h2; exact absurd h2 (by decide))

theorem foldl_best (p : EReal × BitVec 32) : ∀ (l : List (EReal × BitVec 32)) (z : EReal × BitVec 32), (∀ q ∈ l, Under p q) → Under p z → (z = p ∨ p ∈ l) →
    l.foldl (reducer_argmax_f32_i32 (F := Ideal)) z = p
  | [], z, _, _, h => h.elim id fun h => absurd h (List.not_mem_nil)
  | q :: l, z, hl, hz, h => by
    rw [List.foldl_cons]
    have hq := hl q List.mem_cons_self
    refine foldl_best p l _ (fun r hr => hl r (List.mem_cons_of_mem _ hr)) ?_ ?_
    · rw [red_eq]; split
      · exact hz
      · exact hq
    · rcases h with rfl | h
      · exact .inl (red_left hq)
      · rcases List.mem_cons.mp h with rfl | h
        · exact .inl (red_right hz)
        · exact .inr h

theorem foldl_fiber {s t : Shape} {axes : List (Fin s.rank)} (h : s.ReducesTo axes t) (x : s.Idx → EReal) (y : s.Idx → BitVec 32) (z : EReal × BitVec 32)
    (j : t.Idx) (i : s.Idx) (hi : h.drop i = j) (hz : Under (x i, y i) z) (hu : ∀ i', h.drop i' = j → Under (x i, y i) (x i', y i')) :
    (Host.argReduceFiber x y h j).foldl (reducer_argmax_f32_i32 (F := Ideal)) z = (x i, y i) := by
  refine foldl_best _ _ _ (fun q hq => ?_) hz (.inr ?_)
  · unfold Host.argReduceFiber at hq
    obtain ⟨n, hn, rfl⟩ := List.mem_map.mp hq
    exact hu _ (of_decide_eq_true (List.mem_filter.mp hn).2)
  · unfold Host.argReduceFiber
    refine List.mem_map.mpr ⟨s.rowMajor i, List.mem_filter.mpr ⟨List.mem_finRange _, decide_eq_true ?_⟩, ?_⟩
    · rw [Equiv.symm_apply_apply]; exact hi
    · rw [Equiv.symm_apply_apply]

theorem argmax_eq {s t u : Shape} {axes : List (Fin s.rank)} (h : s.ReducesTo axes t) (hu : 0 < u.numel) (x : FVec Ideal s .f32) (y : s.Idx → BitVec 32)
    (zx : u.Idx → Ideal .f32) (zy : u.Idx → BitVec 32) (j : t.Idx) (i : s.Idx) (hi : h.drop i = j)
    (hz : Under (x i, y i) (zx (Shape.Idx.first hu), zy (Shape.Idx.first hu))) (hle : ∀ i', h.drop i' = j → Under (x i, y i) (x i', y i')) :
    Host.argReduce (reducer_argmax_f32_i32 (F := Ideal)) x y zx zy h hu j = (x i, y i) := by
  rw [Ideal.argReduce_eq_reduce2, Host.reduce2_eq_foldl_fiber]
  exact foldl_fiber h x y _ j i hi hz hle

theorem toInt_nat {i : ℕ} (h : i < 100000) : (BitVec.ofNat 32 i).toInt = i := by
  have e : (BitVec.ofNat 32 i).toNat = i := by rw [BitVec.toNat_ofNat]; exact Nat.mod_eq_of_lt (by omega)
  rw [BitVec.toInt_eq_toNat_of_lt (by rw [e]; omega), e]

theorem slt_nat {i k : ℕ} (h : i < k) (hk : k < 100000) : (BitVec.ofNat 32 i).slt (BitVec.ofNat 32 k) = true := by
  rw [BitVec.slt_eq_decide, toInt_nat (by omega), toInt_nat hk]
  exact decide_eq_true (by omega)

end Cert.Proof.Ref

end
-- ==== Proof.RefArgA.lean ====
/-
  The reference's operations choosing the greatest score, on the extended reals.
-/
module

public import proofs.«01_k».proof.Proof.RefAt
public import proofs.«01_k».proof.Proof.RefArg
public import Idealize.ShloMosaic.Lib.ValueIdx
public import Idealize.ShloMosaic.Lib.Pipeline.Value
public import Idealize.ShloMosaic.Lib.IdealHost
public import Idealize.ShloMosaic.Lib.KernelVsHost
public import Idealize.ShloMosaic.Lib.Pointwise.Contract
public import Idealize.ShloMosaic.Lib.Pointwise.Reduce

@[expose] public section

set_option maxRecDepth 16384

noncomputable section

namespace Cert.Proof.Ref

open Cert.ReferenceIdeal Cert.ReferenceIdeal.Gen
open Idealize.ShloMosaic

theorem drop_at (i : S32x4x100000.Idx) (b : Fin 32) (t : Fin 4) : reducesTo_S32x4x100000_S32x4_d2.drop i = j2 b t ↔ ∃ k : Fin 100000, j3 b t k = i := by
  refine (Shape.ReducesTo.fiber_r3_a2 reducesTo_S32x4x100000_S32x4_d2 (j2 b t) _).trans (exists_congr fun k => ?_)
  exact iff_of_eq (congrArg (fun z => z = i) (lib_ix3 b t k))

abbrev places : IVec S32x4x100000 32 := iotaInDim S32x4x100000 32 2

theorem places_at (b : Fin 32) (t : Fin 4) (k : Fin 100000) : places (j3 b t k) = BitVec.ofNat 32 k.val := rfl

theorem amax_at (x : FVec Ideal S32x4x100000 .f32) (b : Fin 32) (t : Fin 4) (i : Fin 100000) (hb : (⊥ : EReal) < x (j3 b t i))
    (hle : ∀ k : Fin 100000, (x (j3 b t k) : EReal) ≤ x (j3 b t i)) (hlt : ∀ k : Fin 100000, k < i → (x (j3 b t k) : EReal) < x (j3 b t i)) :
    amax x (j2 b t) = BitVec.ofNat 32 i.val := by
  unfold amax
  refine (congrArg second (argmax_eq reducesTo_S32x4x100000_S32x4_d2 h_S_ x places (constant S_ .f32 0xFF800000#32) (constantI S_ 32 0#32) (j2 b t) (j3 b t i)
    ((drop_at _ b t).mpr ⟨i, rfl⟩) ?_ ?_)).trans (places_at b t i)
  · refine .inr (.inl ?_)
    rw [const_bot]; exact hb
  · intro i' hi'
    obtain ⟨k, rfl⟩ := (drop_at _ b t).mp hi'
    rw [places_at, places_at]
    rcases lt_trichotomy k i with h | rfl | h
    · exact .inr (.inl (hlt k h))
    · exact .inl rfl
    · rcases (hle k).lt_or_eq with h' | h'
      · exact .inr (.inl h')
      · exact .inr (.inr ⟨h', slt_nat h k.isLt⟩)

end Cert.Proof.Ref

end
-- ==== Proof.RefPick.lean ====
/-
  The reference reads its distribution at the place drawn.
-/
module

public import proofs.«01_k».proof.Proof.RefArgA

@[expose] public section

set_option maxRecDepth 16384

noncomputable section

namespace Cert.Proof.Ref

open Cert.ReferenceIdeal Cert.ReferenceIdeal.Gen
open Idealize.ShloMosaic

abbrev j1 (b : Fin 32) (t : Fin 4) : S32x4x1.Idx := ValueIdx.ix3 b t (0 : Fin 1)
abbrev j4 (b : Fin 32) (t : Fin 4) : S32x4x1x1.Idx := fun a => match a with | ⟨0, _⟩ => b | ⟨1, _⟩ => t | ⟨2, _⟩ => (0 : Fin 1) | ⟨3, _⟩ => (0 : Fin 1)

theorem eq_j4 (q : S32x4x1x1.Idx) (b : Fin 32) (t : Fin 4) (h0 : (q 0).val = b.val) (h1 : (q 1).val = t.val) : q = j4 b t := by
  funext a
  match a with
  | ⟨0, _⟩ => exact Fin.ext h0
  | ⟨1, _⟩ => exact Fin.ext h1
  | ⟨2, _⟩ => exact Subsingleton.elim (α := Fin 1) _ _
  | ⟨3, _⟩ => exact Subsingleton.elim (α := Fin 1) _ _

theorem cast4_at {α : Type} (v : S32x4x1.Idx → α) (b : Fin 32) (t : Fin 4) : shapeCast S32x4x1x1 v shapeCasts_S32x4x1_S32x4x1x1 (j4 b t) = v (j1 b t) := by
  refine shapeCast_apply v _ _ _ ?_
  rw [Shape.rowMajor_val_three, Shape.rowMajor_val_four]
  show (b.val * 4 + t.val) * 1 + 0 = ((b.val * 4 + t.val) * 1 + 0) * 1 + 0
  omega

theorem cast2_at {α : Type} (v : S32x4x1.Idx → α) (b : Fin 32) (t : Fin 4) : shapeCast S32x4 v shapeCasts_S32x4x1_S32x4 (j2 b t) = v (j1 b t) := by
  refine shapeCast_apply v _ _ _ ?_
  rw [Shape.rowMajor_val_three, Shape.rowMajor_val_two]
  show (b.val * 4 + t.val) * 1 + 0 = b.val * 4 + t.val
  omega

theorem row1_at {α : Type} (v : S32x4.Idx → α) (b : Fin 32) (t : Fin 4) : broadcastInDim S32x4x1 ![0, 1] bcast_S32x4_S32x4x1_0_1 v (j1 b t) = v (j2 b t) :=
  broadcastInDim_apply _ _ _ _ (j2 b t) fun a => by match a with | ⟨0, _⟩ => rfl | ⟨1, _⟩ => rfl

theorem place_at (a : IVec S32x4 32) (b : Fin 32) (t : Fin 4) (i : ℕ) (hi : i < 100000) (h : a (j2 b t) = BitVec.ofNat 32 i) :
    place a (j4 b t) = BitVec.ofNat 32 i := by
  unfold place
  refine (cast4_at _ b t).trans ?_
  show Scalar.select (BitVec.ofBool ((broadcastInDim S32x4x1 ![0, 1] bcast_S32x4_S32x4x1_0_1 a (j1 b t)).slt 0#32)) _ (broadcastInDim S32x4x1 ![0, 1] bcast_S32x4_S32x4x1_0_1 a (j1 b t)) = _
  rw [row1_at, h]
  have e : (BitVec.ofNat 32 i).slt 0#32 = false := by
    rw [BitVec.slt_eq_decide, toInt_nat hi]
    exact decide_eq_false (by show ¬ ((i : ℤ) < 0); omega)
  rw [e]; rfl

theorem inside_at (q : IVec S32x4x1x1 32) (b : Fin 32) (t : Fin 4) (i : ℕ) (hi : i < 100000) (h : q (j4 b t) = BitVec.ofNat 32 i) :
    inside q (j1 b t) = 1#1 := by
  unfold inside
  rw [Host.reduce_eq_fold]
  refine (fold_and _ _).mpr fun k hk => ?_
  have hd := (Finset.mem_filter.mp hk).2
  have hk' : k = j4 b t := eq_j4 k b t (congrArg Fin.val (congrFun hd 0)) (congrArg Fin.val (congrFun hd 1))
  subst hk'
  show IntOp.andi (BitVec.ofBool ((0#32 : BitVec 32).sle (q (j4 b t)))) (BitVec.ofBool ((q (j4 b t)).sle 99999#32)) = 1#1
  rw [h]
  have e1 : (0#32 : BitVec 32).sle (BitVec.ofNat 32 i) = true := by
    rw [BitVec.sle_eq_decide, toInt_nat hi]; exact decide_eq_true (by show (0 : ℤ) ≤ i; omega)
  have e2 : (BitVec.ofNat 32 i).sle 99999#32 = true := by
    rw [BitVec.sle_eq_decide, toInt_nat hi]; exact decide_eq_true (by show (i : ℤ) ≤ 99999; omega)
  rw [e1, e2]; rfl

theorem gather_at {α : Type} (x : S32x4x100000.Idx → α) (q : IVec S32x4x1x1 32) (b : Fin 32) (t : Fin 4) (i : Fin 100000)
    (h : q (j4 b t) = BitVec.ofNat 32 i.val) :
    Host.gather gather_S32x4x100000_S32x4x1x1_S32x4x1_n_2_01_01_2_3_111 x q (j1 b t) = x (j3 b t i) := by
  unfold Host.gather
  congr 1
  funext a
  refine Fin.ext ?_
  show gather_S32x4x100000_S32x4x1x1_S32x4x1_n_2_01_01_2_3_111.start (j1 b t) q a + gather_S32x4x100000_S32x4x1x1_S32x4x1_n_2_01_01_2_3_111.batchCoord (j1 b t) a
      + gather_S32x4x100000_S32x4x1x1_S32x4x1_n_2_01_01_2_3_111.offCoord (j1 b t) a = _
  have h01 : a = 0 ∨ a = 1 ∨ a = 2 := by
    match a with
    | ⟨0, _⟩ => exact .inl rfl
    | ⟨1, _⟩ => exact .inr (.inl rfl)
    | ⟨2, _⟩ => exact .inr (.inr rfl)
  rcases h01 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ p, gather_S32x4x100000_S32x4x1x1_S32x4x1_n_2_01_01_2_3_111.siIdx (j1 b t) p = j4 b t := fun p => eq_j4 _ b t rfl rfl
    rw [hsi, h, toInt_nat i.isLt]
    show min (Int.toNat (i.val : ℤ)) 99999 = i.val
    have := i.isLt
    omega

theorem pick_at (d : FVec Ideal S32x4x100000 .f32) (a : IVec S32x4 32) (b : Fin 32) (t : Fin 4) (i : Fin 100000) (h : a (j2 b t) = BitVec.ofNat 32 i.val) :
    pick d a (j2 b t) = d (j3 b t i) := by
  unfold pick
  refine (cast2_at _ b t).trans ?_
  show Scalar.select (inside (place a) (j1 b t)) _ _ = _
  have hp := place_at a b t i.val i.isLt h
  rw [inside_at _ b t i.val i.isLt hp]
  exact gather_at d _ b t i hp

end Cert.Proof.Ref

end
-- ==== Proof.RefReal.lean ====
/-
  What the reference computes at one row, in real numbers.
-/
module

public import proofs.«01_k».proof.Proof.RefArgA
public import proofs.«01_k».proof.Proof.RowEnd
public import proofs.«01_k».proof.Proof.Logits

@[expose] public section

set_option maxRecDepth 16384

noncomputable section

namespace Cert.Proof.Ref

open Cert.ReferenceIdeal Cert.ReferenceIdeal.Gen
open Idealize.ShloMosaic

open Cert.Proof.Rows
open scoped Classical

variable (b : Fin 32) (t : Fin 4)

theorem logits_real (a0 : FVec Ideal S32x4x1024 .f32) (a1 : FVec Ideal S1024x100000 .f32) (h0 : Fin 1024 → ℝ) (w0 : Fin 1024 → Fin 100000 → ℝ)
    (hh : ∀ d, a0 (ValueIdx.ix3 b t d) = ((h0 d : ℝ) : EReal)) (hw : ∀ d k, a1 (ValueIdx.ix2 d k) = ((w0 d k : ℝ) : EReal)) (k : Fin 100000) :
    logits a0 a1 (j3 b t k) = ((Cert.Proof.Ideal.logit (ext h0) (ext2 w0) k.val : ℝ) : EReal) := by
  rw [logits_at]
  unfold Cert.Proof.Ideal.logit
  rw [coe_sum_range, ← Fin.sum_univ_eq_sum_range (fun d => ((ext h0 d * ext2 w0 d k.val : ℝ) : EReal)) 1024]
  refine Finset.sum_congr rfl fun d _ => ?_
  rw [hh, hw, ext_val, ext2_val, EReal.coe_mul]

theorem max_real (x : FVec Ideal S32x4x100000 .f32) (l : ℕ → ℝ) (M : ℝ) (hM : IsMax 100000 l M) (hx : ∀ k : Fin 100000, x (j3 b t k) = ((l k.val : ℝ) : EReal)) :
    maxOf x (j2 b t) = ((M : ℝ) : EReal) := by
  obtain ⟨⟨c, hc, hcM⟩, hle⟩ := hM
  rw [maxOf_at, Cert.Proof.Ideal.fold_max_eq _ (⟨c, hc⟩ : Fin 100000) fun k => ?_, hx, hcM]
  rw [hx, hx, hcM]
  exact EReal.coe_le_coe_iff.mpr (hle k.val k.isLt)

theorem exp_real (x : FVec Ideal S32x4x100000 .f32) (l : ℕ → ℝ) (M : ℝ) (hM : IsMax 100000 l M) (hx : ∀ k : Fin 100000, x (j3 b t k) = ((l k.val : ℝ) : EReal))
    (k : Fin 100000) : expOf x (j3 b t k) = ((Real.exp (l k.val - M) : ℝ) : EReal) := by
  unfold expOf
  show Ideal.exp ((x (j3 b t k) : EReal) - spread (maxOf x) (j3 b t k)) = _
  rw [spread_at, max_real b t x l M hM hx, hx, ← EReal.coe_sub, Ideal.exp_coe]

theorem sum_real (x : FVec Ideal S32x4x100000 .f32) (f : ℕ → ℝ) (hx : ∀ k : Fin 100000, x (j3 b t k) = ((f k.val : ℝ) : EReal)) :
    sumOf x (j2 b t) = ((∑ c ∈ Finset.range 100000, f c : ℝ) : EReal) := by
  rw [sumOf_at, coe_sum_range, ← Fin.sum_univ_eq_sum_range (fun c => ((f c : ℝ) : EReal)) 100000]
  exact Finset.sum_congr rfl fun k _ => hx k

theorem divf_pt {s : Shape} (x y : FVec Ideal s .f32) (i : s.Idx) : Host.divf x y i = Ideal.div (x i) (y i) := rfl
theorem score_pt {s : Shape} (x y z : FVec Ideal s .f32) (i : s.Idx) : addf (Host.log (mulf x y)) z i = Ideal.log ((x i : EReal) * y i) + z i := rfl

theorem ratio_real (x : FVec Ideal S32x4x100000 .f32) (f : ℕ → ℝ) (hx : ∀ k : Fin 100000, x (j3 b t k) = ((f k.val : ℝ) : EReal))
    (h0 : ∑ c ∈ Finset.range 100000, f c ≠ 0) (k : Fin 100000) :
    ratio x (j3 b t k) = ((f k.val / ∑ c ∈ Finset.range 100000, f c : ℝ) : EReal) := by
  unfold ratio
  rw [divf_pt, spread_at, sum_real b t x f hx, hx, Cert.Proof.Ideal.div_real _ _ h0]

variable (a0 : FVec Ideal S32x4x1024 .f32) (a1 : FVec Ideal S1024x100000 .f32) (a2 : IVec S32x4x100000 32) (a3 : FVec Ideal S32x4x100000 .f32)
  (l g : ℕ → ℝ) (K : ℕ → Prop) (M : ℝ) (hM : IsMax 100000 l M)
  (hl : ∀ k : Fin 100000, logits a0 a1 (j3 b t k) = ((l k.val : ℝ) : EReal))
  (hk : ∀ k : Fin 100000, K k.val ↔ a2 (j3 b t k) ≠ 0#32)
  (h01 : ∀ k : Fin 100000, a2 (j3 b t k) = 0#32 ∨ a2 (j3 b t k) = 1#32)
  (hg : ∀ k : Fin 100000, a3 (j3 b t k) = ((g k.val : ℝ) : EReal))

include hM hl in
theorem prob_real (k : Fin 100000) : prob a0 a1 (j3 b t k) = ((dP 100000 l M k.val : ℝ) : EReal) := by
  unfold prob
  exact ratio_real b t _ (fun c => Real.exp (l c - M)) (exp_real b t _ l M hM hl) (dA_pos l M (by norm_num : 0 < 100000)).ne' k

include hk h01 in
theorem weight_real (k : Fin 100000) : weight (F := Ideal) a2 (j3 b t k) = ((if Kd 100000 K k.val then (1 : ℝ) else 0 : ℝ) : EReal) := by
  have hz : ∀ k : Fin 100000, (((a2 (j3 b t k)).toInt : ℝ) : EReal) = 0 ↔ ¬ K k.val := by
    intro k
    rw [hk]
    rcases h01 k with h | h <;> rw [h] <;> simp
  have ha : allZero (F := Ideal) a2 (j2 b t) = 1#1 ↔ ∀ c < 100000, ¬ K c :=
    (allZero_at a2 b t).trans ⟨fun h c hc => (hz ⟨c, hc⟩).mp (h ⟨c, hc⟩), fun h k => (hz k).mpr (h k.val k.isLt)⟩
  unfold weight
  show Scalar.select (spread (allZero (F := Ideal) a2) (j3 b t k)) (same (constant (F := Ideal) S_ .f32 0x3F800000#32) (j3 b t k)) ((((a2 (j3 b t k)).toInt : ℝ) : EReal)) = _
  rw [spread_at]
  by_cases h : ∀ c < 100000, ¬ K c
  · rw [ha.mpr h, if_pos (show Kd 100000 K k.val from .inl h), same_at]
    show Ideal.ofBits .f32 0x3F800000#32 = _
    rw [Ideal.ofBits_one_f32]; rfl
  · have e : allZero (F := Ideal) a2 (j2 b t) = 0#1 := by
      have := mt ha.mp h
      revert this; generalize allZero (F := Ideal) a2 (j2 b t) = z; revert z; decide
    rw [e]
    show (((a2 (j3 b t k)).toInt : ℝ) : EReal) = _
    rcases h01 k with h1 | h1
    · rw [if_neg (fun hd : Kd 100000 K k.val => hd.elim h fun hK => (hk k).mp hK h1), h1]; simp
    · rw [if_pos (show Kd 100000 K k.val from .inr ((hk k).mpr (by rw [h1]; decide))), h1]; simp

include hM hl hk h01 in
theorem raw_real (k : Fin 100000) : raw (prob a0 a1) (weight a2) (j3 b t k) = ((if Kd 100000 K k.val then dP 100000 l M k.val + eps else 0 : ℝ) : EReal) := by
  unfold raw
  show ((prob a0 a1 (j3 b t k) : EReal) + same (constant (F := Ideal) S_ .f32 0x283424DC#32) (j3 b t k)) * weight (F := Ideal) a2 (j3 b t k) = _
  rw [prob_real b t a0 a1 l M hM hl, weight_real b t a2 K hk h01, same_at]
  show (_ + (FloatOps.ofBits .f32 0x283424DC#32 : Ideal .f32)) * _ = _
  rw [Cert.Proof.Ideal.ofBits_eps]
  show (((dP 100000 l M k.val : ℝ) : EReal) + ((eps : ℝ) : EReal)) * _ = _
  rw [← EReal.coe_add, ← EReal.coe_mul]
  split <;> simp

include hM hl hk h01 in
theorem dist_real (k : Fin 100000) (hd : Kd 100000 K k.val) : dist a0 a1 a2 (j3 b t k) = ((dV 100000 K l M k.val : ℝ) : EReal) := by
  unfold dist
  refine (ratio_real b t _ (fun c => if Kd 100000 K c then dP 100000 l M c + eps else 0) (raw_real b t a0 a1 a2 l K M hM hl hk h01) (dD_pos K l M (by norm_num : 0 < 100000)).ne' k).trans ?_
  rw [if_pos hd]
  rfl

include hM hl hk h01 hg in
theorem plain_real (k : Fin 100000) : score (mulf (prob a0 a1) (weight a2)) a3 (j3 b t k)
    = if Kd 100000 K k.val then ((l k.val + g k.val - (M + Real.log (dA 100000 l M)) : ℝ) : EReal) else ⊥ := by
  unfold score
  rw [score_pt, prob_real b t a0 a1 l M hM hl, weight_real b t a2 K hk h01, hg, ← EReal.coe_mul]
  have hp := dP_pos l M (by norm_num : 0 < 100000) k.val
  split
  · rw [mul_one, Ideal.log_coe, if_neg (not_le.mpr hp), ← EReal.coe_add]
    refine congrArg _ ?_
    unfold dP
    rw [Real.log_div (Real.exp_pos _).ne' (dA_pos l M (by norm_num)).ne', Real.log_exp]
    ring
  · rw [mul_zero, Ideal.log_coe, if_pos le_rfl]
    exact EReal.bot_add _

include hM hl hk h01 hg in
theorem draw_real (i : ℕ) (hi : Best (Kd 100000 K) (fun c => l c + g c) 100000 i) :
    amax (score (mulf (prob a0 a1) (weight a2)) a3) (j2 b t) = BitVec.ofNat 32 i := by
  have hp := plain_real b t a0 a1 a2 a3 l g K M hM hl hk h01 hg
  refine amax_at _ b t (⟨i, hi.lt⟩ : Fin 100000) ?_ (fun k => ?_) (fun k hki => ?_)
  · rw [hp, if_pos hi.ok]; exact EReal.bot_lt_coe _
  · rw [hp, hp, if_pos (show Kd 100000 K (⟨i, hi.lt⟩ : Fin 100000).val from hi.ok)]
    split
    · rename_i hd
      exact EReal.coe_le_coe_iff.mpr (sub_le_sub_right (hi.le k.val k.isLt hd) _)
    · exact bot_le
  · rw [hp, hp, if_pos (show Kd 100000 K (⟨i, hi.lt⟩ : Fin 100000).val from hi.ok)]
    split
    · rename_i hd
      exact EReal.coe_lt_coe_iff.mpr (sub_lt_sub_right (hi.first k.val hki hd) _)
    · exact EReal.bot_lt_coe _

end Cert.Proof.Ref

end
-- ==== Proof.PreDraw.lean ====
/-
  The precondition opened: its side conditions, and what it says of the arguments.
-/
module

public import proofs.«01_k».proof.Pre_draw_settled
public import proofs.«01_k».proof.Proof.RefArgA

@[expose] public section

set_option maxRecDepth 16384

noncomputable section

namespace Cert.Proof.Pre

open Idealize.ShloMosaic

instance facts : Cert.Pre_draw_settled.Facts where
  bcast_S_S32x4x1024 := by decide
  reducesTo_S32x4x1024_S_d0_1_2 := by decide
  h_S_ := by decide
  bcast_S_S1024x100000 := by decide
  reducesTo_S1024x100000_S_d0_1 := by decide
  bcast_S_S32x4x100000 := by decide
  reducesTo_S32x4x100000_S_d0_1_2 := by decide
  reducesTo_S32x4x100000_S32x4_d2 := by decide
  bcast_S_S32x4 := by decide
  bcast_S32x4_S32x4x1_0_1 := by decide
  bcast_S32x4x1_S32x4x100000_0_1_2 := by decide
  reducesTo_S32x4_S_d0_1 := by decide
  dot_S32x4x1024_S1024x100000_S32x4x100000_2_0_01_1_n_n_wf := by decide

open Cert.Pre_draw_settled Cert.Pre_draw_settled.Facts

variable {F : FTy → Type} [FloatOps F]

def below (s : Shape) (hb : S_.BroadcastsInDim s (![] : Fin 0 → Fin s.rank)) (x : FVec F s .f32) : IVec s 1 :=
  cmpf .olt (Host.absf x) (broadcastInDim s ![] hb (constant S_ .f32 0x7F800000#32))
def every {s : Shape} {axes : List (Fin s.rank)} (h : s.ReducesTo axes S_) (x : IVec s 1) : IVec S_ 1 :=
  Host.reduce IntOp.andi x (constantI S_ 1 1#1) h h_S_
def zeroOne (x : IVec S32x4x100000 32) : IVec S32x4x100000 1 :=
  ori (cmpi .eq x (broadcastInDim S32x4x100000 ![] bcast_S_S32x4x100000 (constantI S_ 32 0#32)))
    (cmpi .eq x (broadcastInDim S32x4x100000 ![] bcast_S_S32x4x100000 (constantI S_ 32 1#32)))

theorem red_fn : reducer_argmax_f32_i32 (F := F) = Cert.ReferenceIdeal.reducer_argmax_f32_i32 := rfl

theorem second_fn {s t u : Shape} {axes : List (Fin s.rank)} (f f' : F .f32 × BitVec 32 → F .f32 × BitVec 32 → F .f32 × BitVec 32) (hf : f = f')
    (x : FVec F s .f32) (y : s.Idx → BitVec 32) (zx : u.Idx → F .f32) (zy : u.Idx → BitVec 32) (h : s.ReducesTo axes t) (hu : 0 < u.numel) :
    (fun j => (Host.argReduce f x y zx zy h hu j).2) = fun j => Ref.second (Host.argReduce f' x y zx zy h hu j) := by
  subst hf; rfl

theorem argmax_fn (x : FVec F S32x4x100000 .f32) : fn_argmax x = Ref.amax x := second_fn _ _ red_fn x _ _ _ _ _

section
variable (a0 : FVec F S32x4x1024 .f32) (a1 : FVec F S1024x100000 .f32) (a2 : IVec S32x4x100000 32) (a3 : FVec F S32x4x100000 .f32)

theorem fn_eq : fn a0 a1 a2 a3 = andi
    (andi (andi (andi (every reducesTo_S32x4x1024_S_d0_1_2 (below _ bcast_S_S32x4x1024 a0)) (every reducesTo_S1024x100000_S_d0_1 (below _ bcast_S_S1024x100000 a1)))
      (every reducesTo_S32x4x100000_S_d0_1_2 (below _ bcast_S_S32x4x100000 a3))) (every reducesTo_S32x4x100000_S_d0_1_2 (zeroOne a2)))
    (every reducesTo_S32x4_S_d0_1 (cmpi .eq (Ref.amax (Ref.score (mulf (Ref.prob a0 a1) (Ref.weight a2)) a3)) (Ref.amax (Ref.score (Ref.dist a0 a1 a2) a3)))) := by
  rw [← argmax_fn, ← argmax_fn]
  rfl
end

end Cert.Proof.Pre

end
-- ==== Proof.PreOut.lean ====
/-
  The precondition read: what it says of the arguments.
-/
module

public import proofs.«01_k».proof.Proof.PreDraw

@[expose] public section

set_option maxRecDepth 16384

noncomputable section

namespace Cert.Proof.Pre

open Idealize.ShloMosaic

open Cert.Pre_draw_settled Cert.Pre_draw_settled.Facts

theorem every_out {s : Shape} {axes : List (Fin s.rank)} (h : s.ReducesTo axes S_) (x : IVec s 1) (j : S_.Idx) (e : every h x j = 1#1) (i : s.Idx) : x i = 1#1 := by
  unfold every at e
  rw [Host.reduce_eq_fold] at e
  exact (Ref.fold_and _ _).mp e i (Finset.mem_filter.mpr ⟨Finset.mem_univ _, funext fun a => a.elim0⟩)

theorem below_out (s : Shape) (hb : S_.BroadcastsInDim s (![] : Fin 0 → Fin s.rank)) (x : FVec Ideal s .f32) (i : s.Idx) (e : below s hb x i = 1#1) :
    x i = (((x i : EReal).toReal : ℝ) : EReal) := by
  have e' : BitVec.ofBool (decide (max (x i : EReal) (-(x i : EReal)) < (FloatOps.ofBits .f32 0x7F800000#32 : Ideal .f32))) = 1#1 := e
  have ht : (FloatOps.ofBits .f32 0x7F800000#32 : Ideal .f32) = (⊤ : EReal) := by
    show Ideal.ofBits .f32 0x7F800000#32 = ⊤
    simp [Ideal.ofBits, Ideal.ieee]
  rw [ht] at e'
  have hlt : max (x i : EReal) (-(x i : EReal)) < ⊤ := by
    by_contra hn
    rw [decide_eq_false hn] at e'
    exact absurd e' (by decide)
  obtain ⟨h1, h2⟩ := max_lt_iff.mp hlt
  refine (EReal.coe_toReal h1.ne fun hb => ?_).symm
  rw [hb] at h2
  exact absurd h2 (by simp)

theorem zeroOne_out (x : IVec S32x4x100000 32) (i : S32x4x100000.Idx) (e : zeroOne x i = 1#1) : x i = 0#32 ∨ x i = 1#32 := by
  have e' : IntOp.ori (BitVec.ofBool (x i == 0#32)) (BitVec.ofBool (x i == 1#32)) = 1#1 := e
  by_cases h0 : x i = 0#32
  · exact .inl h0
  · by_cases h1 : x i = 1#32
    · exact .inr h1
    · rw [beq_eq_false_iff_ne.mpr h0, beq_eq_false_iff_ne.mpr h1] at e'
      exact absurd e' (by decide)

theorem and_out (x y : IVec S_ 1) (j : S_.Idx) (e : andi x y j = 1#1) : x j = 1#1 ∧ y j = 1#1 := by
  have e' : IntOp.andi (x j) (y j) = 1#1 := e
  have h : ∀ a b : BitVec 1, IntOp.andi a b = 1#1 → a = 1#1 ∧ b = 1#1 := by decide
  exact h _ _ e'

theorem same_out (x y : IVec S32x4 32) (i : S32x4.Idx) (e : cmpi .eq x y i = 1#1) : x i = y i := by
  have e' : BitVec.ofBool (x i == y i) = 1#1 := e
  by_contra h
  rw [beq_eq_false_iff_ne.mpr h] at e'
  exact absurd e' (by decide)

theorem opened (a0 : FVec Ideal S32x4x1024 .f32) (a1 : FVec Ideal S1024x100000 .f32) (a2 : IVec S32x4x100000 32) (a3 : FVec Ideal S32x4x100000 .f32)
    (h : fn a0 a1 a2 a3 = fun _ => 1#1) :
    (∀ i, a0 i = (((a0 i : EReal).toReal : ℝ) : EReal)) ∧ (∀ i, a1 i = (((a1 i : EReal).toReal : ℝ) : EReal)) ∧ (∀ i, a2 i = 0#32 ∨ a2 i = 1#32)
      ∧ (∀ i, a3 i = (((a3 i : EReal).toReal : ℝ) : EReal))
      ∧ ∀ j, Ref.amax (Ref.score (mulf (Ref.prob a0 a1) (Ref.weight a2)) a3) j = Ref.amax (Ref.score (Ref.dist a0 a1 a2) a3) j := by
  rw [fn_eq] at h
  have h := congrFun h (Shape.Idx.first h_S_)
  obtain ⟨h, h5⟩ := and_out _ _ _ h
  obtain ⟨h, h4⟩ := and_out _ _ _ h
  obtain ⟨h, h3⟩ := and_out _ _ _ h
  obtain ⟨h1, h2⟩ := and_out _ _ _ h
  exact ⟨fun i => below_out _ _ _ i (every_out _ _ _ h1 i), fun i => below_out _ _ _ i (every_out _ _ _ h2 i), fun i => zeroOne_out _ i (every_out _ _ _ h4 i),
    fun i => below_out _ _ _ i (every_out _ _ _ h3 i), fun i => same_out _ _ i (every_out _ _ _ h5 i)⟩

end Cert.Proof.Pre

end
-- ==== Proof.Final.lean ====
/-
  The kernel's two results are the reference's, wherever the precondition holds.
-/
module

public import proofs.«01_k».proof.Proof.KernelVal
public import proofs.«01_k».proof.Proof.RefRun
public import proofs.«01_k».proof.Proof.RefPick
public import proofs.«01_k».proof.Proof.RefReal
public import proofs.«01_k».proof.Proof.PreOut
public import proofs.«01_k».proof.Proof.Args

@[expose] public section

set_option maxRecDepth 16384

noncomputable section

namespace Cert.Proof

open Idealize.ShloMosaic Idealize.ShloMosaic.TcCoe Idealize.ShloMosaic.StableHlo Idealize.SL.Sem
open Cert.Proof.Rows

/-- One row: whatever the kernel leaves there that satisfies `Out` is what the reference leaves there. -/
theorem row_same (a0 : FVec Ideal Cert.ReferenceIdeal.S32x4x1024 .f32) (a1 : FVec Ideal Cert.ReferenceIdeal.S1024x100000 .f32)
    (a2 : IVec Cert.ReferenceIdeal.S32x4x100000 32) (a3 : FVec Ideal Cert.ReferenceIdeal.S32x4x100000 .f32)
    (hp : Cert.Pre_draw_settled.fn a0 a1 a2 a3 = fun _ => 1#1) (b : Fin 32) (t : Fin 4) (f : EReal) (a : BitVec 32)
    (ho : Out 100000 (extP fun k : Fin 100000 => a2 (ValueIdx.ix3 b t k) ≠ 0#32)
      (Ideal.logit (ext fun d : Fin 1024 => (a0 (ValueIdx.ix3 b t d) : EReal).toReal) (ext2 fun (d : Fin 1024) (k : Fin 100000) => (a1 (ValueIdx.ix2 d k) : EReal).toReal))
      (ext fun k : Fin 100000 => (a3 (ValueIdx.ix3 b t k) : EReal).toReal) f a) :
    Ref.pick (Ref.dist a0 a1 a2) (Ref.amax (Ref.score (Ref.dist a0 a1 a2) a3)) (Ref.j2 b t) = f
      ∧ Ref.amax (Ref.score (Ref.dist a0 a1 a2) a3) (Ref.j2 b t) = a := by
  obtain ⟨h0, h1, h2, h3, h4⟩ := Pre.opened a0 a1 a2 a3 hp
  obtain ⟨M, i, hM, hi, rfl, rfl⟩ := ho
  have hl := Ref.logits_real b t a0 a1 (fun d => (a0 (ValueIdx.ix3 b t d) : EReal).toReal) (fun d k => (a1 (ValueIdx.ix2 d k) : EReal).toReal)
    (fun d => h0 _) (fun d k => h1 _)
  have hk : ∀ k : Fin 100000, extP (fun k : Fin 100000 => a2 (ValueIdx.ix3 b t k) ≠ 0#32) k.val ↔ a2 (Ref.j3 b t k) ≠ 0#32 :=
    fun k => extP_val _ k
  have hg : ∀ k : Fin 100000, a3 (Ref.j3 b t k) = ((ext (fun k : Fin 100000 => (a3 (ValueIdx.ix3 b t k) : EReal).toReal) k.val : ℝ) : EReal) :=
    fun k => by rw [ext_val]; exact h3 _
  have e := (h4 (Ref.j2 b t)).symm.trans (Ref.draw_real b t a0 a1 a2 a3 _ _ _ M hM hl hk (fun k => h2 _) hg i hi)
  refine ⟨?_, e⟩
  exact (Ref.pick_at _ _ b t ⟨i, hi.lt⟩ e).trans (Ref.dist_real b t a0 a1 a2 _ _ M hM hl hk (fun k => h2 _) ⟨i, hi.lt⟩ hi.ok)

abbrev V0of (m : (ℓ : Loc Cert.KernelIdeal.nD Cert.KernelIdeal.τ Cert.KernelIdeal.sig) → Buf (Elt Ideal) ℓ) (c : Dev Cert.KernelIdeal.nD) :
    FVec Ideal Cert.KernelIdeal.S32x4 .f32 :=
  shapeCast Cert.KernelIdeal.S32x4 (Ideal.outF (Ideal.endAt m c Ideal.pt)) Cert.KernelIdeal.Gen.shapeCasts_S128x1_S32x4
abbrev V1of (m : (ℓ : Loc Cert.KernelIdeal.nD Cert.KernelIdeal.τ Cert.KernelIdeal.sig) → Buf (Elt Ideal) ℓ) (c : Dev Cert.KernelIdeal.nD) :
    IVec Cert.KernelIdeal.S32x4 32 :=
  shapeCast Cert.KernelIdeal.S32x4 (Ideal.outI (Ideal.endAt m c Ideal.pt)) Cert.KernelIdeal.Gen.shapeCasts_S128x1_S32x4

theorem kernel_same (m : (ℓ : Loc Cert.KernelIdeal.nD Cert.KernelIdeal.τ Cert.KernelIdeal.sig) → Buf (Elt Ideal) ℓ) (c : Dev Cert.KernelIdeal.nD)
    (a0 : FVec Ideal Cert.ReferenceIdeal.S32x4x1024 .f32) (a1 : FVec Ideal Cert.ReferenceIdeal.S1024x100000 .f32)
    (a2 : IVec Cert.ReferenceIdeal.S32x4x100000 32) (a3 : FVec Ideal Cert.ReferenceIdeal.S32x4x100000 .f32)
    (e0 : m ((c.tc : Thread Cert.KernelIdeal.nD Cert.KernelIdeal.τ).loc Cert.KernelIdeal.main_arg0) = a0)
    (e1 : m ((c.tc : Thread Cert.KernelIdeal.nD Cert.KernelIdeal.τ).loc Cert.KernelIdeal.main_arg1) = a1)
    (e2 : m ((c.tc : Thread Cert.KernelIdeal.nD Cert.KernelIdeal.τ).loc Cert.KernelIdeal.main_arg2) = a2)
    (e3 : m ((c.tc : Thread Cert.KernelIdeal.nD Cert.KernelIdeal.τ).loc Cert.KernelIdeal.main_arg3) = a3)
    (hp : Cert.Pre_draw_settled.fn a0 a1 a2 a3 = fun _ => 1#1) :
    Ref.pick (Ref.dist a0 a1 a2) (Ref.amax (Ref.score (Ref.dist a0 a1 a2) a3)) = V0of m c
      ∧ Ref.amax (Ref.score (Ref.dist a0 a1 a2) a3) = V1of m c := by
  obtain ⟨h0, h1, h2, h3, h4⟩ := Pre.opened a0 a1 a2 a3 hp
  have hr := fun (b : Fin 32) (t : Fin 4) => row_same a0 a1 a2 a3 hp b t _ _
    (Ideal.kernel_row m c (fun b t d => (a0 (ValueIdx.ix3 b t d) : EReal).toReal) (fun d k => (a1 (ValueIdx.ix2 d k) : EReal).toReal)
      (fun b t k => (a3 (ValueIdx.ix3 b t k) : EReal).toReal) (fun b t k => a2 (ValueIdx.ix3 b t k) ≠ 0#32)
      (fun b t d => (congrFun e0 _).trans (h0 _)) (fun d k => (congrFun e1 _).trans (h1 _))
      (fun b t d => iff_of_eq (congrArg (fun z => z ≠ 0#32) (congrFun e2 _).symm)) (fun b t d => (congrFun e3 _).trans (h3 _)) b t)
  constructor
  · funext j
    have ej : j = Ref.j2 (j 0) (j 1) := by funext a; match a with | ⟨0, _⟩ => rfl | ⟨1, _⟩ => rfl
    rw [ej]
    exact (hr (j 0) (j 1)).1
  · funext j
    have ej : j = Ref.j2 (j 0) (j 1) := by funext a; match a with | ⟨0, _⟩ => rfl | ⟨1, _⟩ => rfl
    rw [ej]
    exact (hr (j 0) (j 1)).2

theorem frame_ideal_pre : Cert.quiescent_KernelIdeal_pre_draw_settled := fun m ρ _ => Ideal.run_frame m ρ

theorem frame_ref_pre : Cert.quiescent_ReferenceIdeal_pre_draw_settled := fun m ρ _ => Ref.frame m ρ trivial

theorem equal : Cert.algebraic_KernelIdeal_ReferenceIdeal_pre_draw_settled := by
  intro m g m' g' hpre hargs
  refine ⟨V0of m, V1of m, ?_, ?_⟩
  · refine (θ_run Cert.KernelIdeal.defs _ _).mono (fun r hr c => ?_) (Ideal.run_main m g)
    have h := hr.1
    obtain ⟨h5, h6⟩ := Ideal.results_of m c h
    exact ⟨h5, h6, Ideal.args_of m c h⟩
  · refine (θ_run Cert.ReferenceIdeal.defs _ _).mono (fun r h c => ?_) (Ref.run_main m' g')
    obtain ⟨x0, x1, x2, x3⟩ := hargs c
    obtain ⟨k0, k1⟩ := kernel_same m c _ _ _ _ x0.symm x1.symm x2.symm x3.symm (by rw [x0, x1, x2, x3]; exact hpre c)
    obtain ⟨y0, y1, y2, y3⟩ := Ref.args_eq (launchContents m' c)
    exact ⟨((h c Cert.ReferenceIdeal.main_v31).trans (Ref.val_v31 _)).trans k0, ((h c Cert.ReferenceIdeal.main_v28).trans (Ref.val_v28 _)).trans k1,
      (h c _).trans y0, (h c _).trans y1, (h c _).trans y2, (h c _).trans y3⟩

end Cert.Proof

end
-- ==== Proof.lean ====
/-
  The certificate: the three frames, the named constant, and the equation of the results.
-/
module

public import proofs.«01_k».proof.Defs
public import proofs.«01_k».proof.Proof.FrameKernel
public import proofs.«01_k».proof.Proof.Args
public import proofs.«01_k».proof.Proof.Reference
public import proofs.«01_k».proof.Proof.Final
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ => Ideal.run_frame m ρ

/-- The named constant reads as the value its table gives it. -/
theorem named : Cert.preserves_Kernel_KernelIdeal :=
  IdealRules.named_const.statement _ _ _ _ _ rfl

theorem claim : Cert.Claim :=
  ⟨Cert.Kernel.Gen.facts, Cert.KernelIdeal.Gen.facts, Cert.ReferenceIdeal.Gen.facts,
    Pre.facts, frame_kernel, frame_ideal, frame_ideal_pre, Ref.frame, frame_ref_pre, named, equal⟩

end Cert.Proof

end
